-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1x1 : Shape := ⟨2, ![1, 1]⟩
abbrev S1024x1024 : Shape := ⟨2, ![1024, 1024]⟩
abbrev S2x8x1024x1024 : Shape := ⟨4, ![2, 8, 1024, 1024]⟩
abbrev S2x1024x1024 : Shape := ⟨3, ![2, 1024, 1024]⟩
abbrev S8x128 : Shape := ⟨2, ![8, 128]⟩
abbrev S3x8x128 : Shape := ⟨3, ![3, 8, 128]⟩
abbrev S5x8x128 : Shape := ⟨3, ![5, 8, 128]⟩
abbrev S_ : Shape := ⟨0, ![]⟩
abbrev S3 : Shape := ⟨1, ![3]⟩
abbrev S2 : Shape := ⟨1, ![2]⟩
abbrev S1 : Shape := ⟨1, ![1]⟩
abbrev S1x1024x1024 : Shape := ⟨3, ![1, 1024, 1024]⟩
abbrev S1x1x1024x1024 : Shape := ⟨4, ![1, 1, 1024, 1024]⟩
abbrev S1x8x128 : Shape := ⟨3, ![1, 8, 128]⟩
abbrev S1x1x1 : Shape := ⟨3, ![1, 1, 1]⟩

abbrev nBuf : Space → Nat
  | .hbm => 7
  | .vmem => 15
  | .smem => 1
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S4096x1024, .bf16⟩
  | .hbm, ⟨3, _⟩ => ⟨S1024x8192, .bf16⟩
  | .hbm, ⟨4, _⟩ => ⟨S1024x8192, .f32⟩
  | .hbm, ⟨5, _⟩ => ⟨S1x1, .f32⟩
  | .hbm, ⟨6, _⟩ => ⟨S1024x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S2x8x1024x1024, .bf16⟩
  | .local _ .vmem, ⟨6, _⟩ => ⟨S2x1024x1024, .bf16⟩
  | .local _ .vmem, ⟨7, _⟩ => ⟨S8x128, .f32⟩
  | .local _ .vmem, ⟨8, _⟩ => ⟨S3x8x128, .f32⟩
  | .local _ .vmem, ⟨9, _⟩ => ⟨S5x8x128, .f32⟩
  | .local _ .vmem, ⟨10, _⟩ => ⟨S1024x1024, .f32⟩
  | .local _ .vmem, ⟨11, _⟩ => ⟨S1024x1024, .f32⟩
  | .local _ .vmem, ⟨12, _⟩ => ⟨S1x1, .f32⟩
  | .local _ .vmem, ⟨13, _⟩ => ⟨S1024x1024, .f32⟩
  | .local _ .vmem, ⟨14, _⟩ => ⟨S1024x1024, .f32⟩
  | .local _ .smem, ⟨0, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3_0 : Ref sig .tc := ⟨.hbm, 4, rfl⟩
abbrev main_v3_1 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc0_scratch12 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev barrier0 : Sem sig := 0

abbrev nD : Nat := 4
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32_14 : BitVec 32 := 0#32
  let v26 : BitVec 1 := Scalar.cmpi .eq arg0 c0_i32_14
  let arg1 : BitVec 32 := BitVec.ofNat 32 (i 1).val
  let c0_i32_15 : BitVec 32 := 0#32
  let v27 : BitVec 1 := Scalar.cmpi .eq arg1 c0_i32_15
  let v28 : BitVec 1 := Scalar.andi v26 v27
  let v29 : BitVec 32 := Scalar.extui v28
  let c0_i32_16 : BitVec 32 := 0#32
  let v30 : BitVec 1 := Scalar.cmpi .ne v29 c0_i32_16
  v30

def k0_dev1 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_117 : BitVec 32 := 1#32
  let v210 : BitVec 32 := Scalar.muli v14 c1_i32_117
  let v211 : BitVec 32 := Scalar.addi c0_i32_118 v210
  v211.toNat
def k0_dev2 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_120 : BitVec 32 := 1#32
  let v212 : BitVec 32 := Scalar.muli v25 c1_i32_120
  let v213 : BitVec 32 := Scalar.addi c0_i32_121 v212
  v213.toNat
def k0_cond2 (i : grid0.Coords) : BitVec 1 :=
  let arg1 : BitVec 32 := BitVec.ofNat 32 (i 1).val
  let c0_i32_17 : BitVec 32 := 0#32
  let v31 : BitVec 1 := Scalar.cmpi .eq arg1 c0_i32_17
  let v32 : BitVec 32 := Scalar.extui v31
  let c0_i32_18 : BitVec 32 := 0#32
  let v33 : BitVec 1 := Scalar.cmpi .ne v32 c0_i32_18
  v33

def k0_off1 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v209 : BitVec 32 := Scalar.addi v2 c8_i32
  let c1_i32_116 : BitVec 32 := 1#32
  let v210 : BitVec 32 := Scalar.subi v209 c1_i32_116
  let arg0 : BitVec 32 := BitVec.ofNat 32 (i 0).val
  let v211 : BitVec 32 := Scalar.subi v210 arg0
  let c4_i32_117 : BitVec 32 := 4#32
  let c0_i32_118 : BitVec 32 := 0#32
  let v212 : BitVec 1 := Scalar.cmpi .eq c4_i32_117 c0_i32_118
  let c1_i32_119 : BitVec 32 := 1#32
  let v213 : BitVec 32 := Scalar.select v212 c1_i32_119 c4_i32_117
  let v214 : BitVec 32 := Scalar.remsi v211 v213
  let c0_i32_121 : BitVec 32 := 0#32
  let v216 : BitVec 1 := Scalar.cmpi .slt v214 c0_i32_121
  let c0_i32_122 : BitVec 32 := 0#32
  let v217 : BitVec 1 := Scalar.cmpi .slt v213 c0_i32_122
  let v218 : BitVec 1 := Scalar.xori v216 v217
  let c0_i32_120 : BitVec 32 := 0#32
  let v215 : BitVec 1 := Scalar.cmpi .ne v214 c0_i32_120
  let v219 : BitVec 1 := Scalar.andi v218 v215
  let v220 : BitVec 32 := Scalar.addi v214 v213
  let v221 : BitVec 32 := Scalar.select v219 v220 v214
  let c1024_i32 : BitVec 32 := 1024#32
  let v234 : BitVec 32 := Scalar.muli v221 c1024_i32
  let c0_i32_134 : BitVec 32 := 0#32
  ![v234.toNat, 0]
def k0_off2 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_123 : BitVec 32 := 1#32
  let v222 : BitVec 32 := Scalar.addi v2 c1_i32_123
  let arg0 : BitVec 32 := BitVec.ofNat 32 (i 0).val
  let v223 : BitVec 32 := Scalar.addi v222 arg0
  let c4_i32_124 : BitVec 32 := 4#32
  let c0_i32_125 : BitVec 32 := 0#32
  let v224 : BitVec 1 := Scalar.cmpi .eq c4_i32_124 c0_i32_125
  let c1_i32_126 : BitVec 32 := 1#32
  let v225 : BitVec 32 := Scalar.select v224 c1_i32_126 c4_i32_124
  let v226 : BitVec 32 := Scalar.remsi v223 v225
  let c0_i32_128 : BitVec 32 := 0#32
  let v228 : BitVec 1 := Scalar.cmpi .slt v226 c0_i32_128
  let c0_i32_129 : BitVec 32 := 0#32
  let v229 : BitVec 1 := Scalar.cmpi .slt v225 c0_i32_129
  let v230 : BitVec 1 := Scalar.xori v228 v229
  let c0_i32_127 : BitVec 32 := 0#32
  let v227 : BitVec 1 := Scalar.cmpi .ne v226 c0_i32_127
  let v231 : BitVec 1 := Scalar.andi v230 v227
  let v232 : BitVec 32 := Scalar.addi v226 v225
  let v233 : BitVec 32 := Scalar.select v231 v232 v226
  let c1024_i32_130 : BitVec 32 := 1024#32
  let v235 : BitVec 32 := Scalar.muli v233 c1024_i32_130
  let c0_i32_138 : BitVec 32 := 0#32
  ![v235.toNat, 0]
def k0_cond3 (i : grid0.Coords) : BitVec 1 :=
  let arg0 : BitVec 32 := BitVec.ofNat 32 (i 0).val
  let c1_i32_19 : BitVec 32 := 1#32
  let v34 : BitVec 1 := Scalar.cmpi .eq arg0 c1_i32_19
  let arg1 : BitVec 32 := BitVec.ofNat 32 (i 1).val
  let c0_i32_20 : BitVec 32 := 0#32
  let v35 : BitVec 1 := Scalar.cmpi .eq arg1 c0_i32_20
  let v36 : BitVec 1 := Scalar.andi v34 v35
  let v37 : BitVec 32 := Scalar.extui v36
  let c0_i32_21 : BitVec 32 := 0#32
  let v38 : BitVec 1 := Scalar.cmpi .ne v37 c0_i32_21
  v38

def k0_dev3 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_199 : BitVec 32 := 1#32
  let v241 : BitVec 32 := Scalar.muli v14 c1_i32_199
  let v242 : BitVec 32 := Scalar.addi c0_i32_200 v241
  v242.toNat
def k0_dev4 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_208 : BitVec 32 := 1#32
  let v249 : BitVec 32 := Scalar.muli v25 c1_i32_208
  let v250 : BitVec 32 := Scalar.addi c0_i32_209 v249
  v250.toNat
def k0_cond4 (i : grid0.Coords) : BitVec 1 :=
  let arg0 : BitVec 32 := BitVec.ofNat 32 (i 0).val
  let c2_i32 : BitVec 32 := 2#32
  let v39 : BitVec 1 := Scalar.cmpi .eq arg0 c2_i32
  let arg1 : BitVec 32 := BitVec.ofNat 32 (i 1).val
  let c0_i32_22 : BitVec 32 := 0#32
  let v40 : BitVec 1 := Scalar.cmpi .eq arg1 c0_i32_22
  let v41 : BitVec 1 := Scalar.andi v39 v40
  let v42 : BitVec 32 := Scalar.extui v41
  let c0_i32_23 : BitVec 32 := 0#32
  let v43 : BitVec 1 := Scalar.cmpi .ne v42 c0_i32_23
  v43

def k0_dev5 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_215 : BitVec 32 := 1#32
  let v249 : BitVec 32 := Scalar.muli v14 c1_i32_215
  let v250 : BitVec 32 := Scalar.addi c0_i32_216 v249
  v250.toNat
def k0_dev6 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_224 : BitVec 32 := 1#32
  let v257 : BitVec 32 := Scalar.muli v25 c1_i32_224
  let v258 : BitVec 32 := Scalar.addi c0_i32_225 v257
  v258.toNat
def k0_off3 (i : grid0.Coords) : Fin 3 → Nat :=
  let arg1 : BitVec 32 := BitVec.ofNat 32 (i 1).val
  let c0_i32_27 : BitVec 32 := 0#32
  let v50 : BitVec 1 := Scalar.cmpi .sgt arg1 c0_i32_27
  let v51 : BitVec 32 := Scalar.extui v50
  let c0_i32_28 : BitVec 32 := 0#32
  let v52 : BitVec 1 := Scalar.cmpi .slt arg1 c0_i32_28
  let v53 : BitVec 32 := Scalar.extui v52
  let v54 : BitVec 32 := Scalar.subi v51 v53
  let c4_i32_26 : BitVec 32 := 4#32
  let c0_i32_29 : BitVec 32 := 0#32
  let v55 : BitVec 1 := Scalar.cmpi .sgt c4_i32_26 c0_i32_29
  let v56 : BitVec 32 := Scalar.extui v55
  let c0_i32_30 : BitVec 32 := 0#32
  let v57 : BitVec 1 := Scalar.cmpi .slt c4_i32_26 c0_i32_30
  let v58 : BitVec 32 := Scalar.extui v57
  let v59 : BitVec 32 := Scalar.subi v56 v58
  let v60 : BitVec 1 := Scalar.cmpi .ne v54 v59
  let v61 : BitVec 32 := Scalar.remsi arg1 c4_i32_26
  let c0_i32_31 : BitVec 32 := 0#32
  let v62 : BitVec 1 := Scalar.cmpi .ne v61 c0_i32_31
  let v63 : BitVec 1 := Scalar.andi v60 v62
  let v49 : BitVec 32 := Scalar.divsi arg1 c4_i32_26
  let c1_i32_32 : BitVec 32 := 1#32
  let v64 : BitVec 32 := Scalar.subi v49 c1_i32_32
  let v65 : BitVec 32 := Scalar.select v63 v64 v49
  let v66 : Index := Scalar.indexCast v65
  let c0 : Index := 0#32
  let c0_33 : Index := 0#32
  ![v66.toNat, 0, 0]
def k0_cond6 (i : grid0.Coords) : BitVec 1 :=
  let arg0 : BitVec 32 := BitVec.ofNat 32 (i 0).val
  let c0_i32_36 : BitVec 32 := 0#32
  let v72 : BitVec 1 := Scalar.cmpi .eq arg0 c0_i32_36
  let v73 : BitVec 32 := Scalar.extui v72
  let c0_i32_37 : BitVec 32 := 0#32
  let v74 : BitVec 1 := Scalar.cmpi .ne v73 c0_i32_37
  v74

def k0_off4 (i : grid0.Coords) : Fin 4 → Nat :=
  let c1 : Index := 1#32
  let arg1 : BitVec 32 := BitVec.ofNat 32 (i 1).val
  let v210 : Index := Scalar.indexCast arg1
  let c0_116 : Index := 0#32
  let c0_117 : Index := 0#32
  ![1, v210.toNat, 0, 0]
def k0_cond7 (i : grid0.Coords) : BitVec 1 :=
  let arg0 : BitVec 32 := BitVec.ofNat 32 (i 0).val
  let c1_i32_38 : BitVec 32 := 1#32
  let v75 : BitVec 1 := Scalar.cmpi .eq arg0 c1_i32_38
  let v76 : BitVec 32 := Scalar.extui v75
  let c0_i32_39 : BitVec 32 := 0#32
  let v77 : BitVec 1 := Scalar.cmpi .ne v76 c0_i32_39
  v77

def k0_off5 (i : grid0.Coords) : Fin 4 → Nat :=
  let c0_116 : Index := 0#32
  let arg1 : BitVec 32 := BitVec.ofNat 32 (i 1).val
  let v209 : Index := Scalar.indexCast arg1
  let c0_117 : Index := 0#32
  let c0_118 : Index := 0#32
  ![0, v209.toNat, 0, 0]
def k0_cond8 (i : grid0.Coords) : BitVec 1 :=
  let arg0 : BitVec 32 := BitVec.ofNat 32 (i 0).val
  let c2_i32_40 : BitVec 32 := 2#32
  let v78 : BitVec 1 := Scalar.cmpi .eq arg0 c2_i32_40
  let v79 : BitVec 32 := Scalar.extui v78
  let c0_i32_41 : BitVec 32 := 0#32
  let v80 : BitVec 1 := Scalar.cmpi .ne v79 c0_i32_41
  v80

def k0_off6 (i : grid0.Coords) : Fin 4 → Nat :=
  let c1 : Index := 1#32
  let arg1 : BitVec 32 := BitVec.ofNat 32 (i 1).val
  let v209 : Index := Scalar.indexCast arg1
  let c0_116 : Index := 0#32
  let c0_117 : Index := 0#32
  ![1, v209.toNat, 0, 0]
def k0_cond9 (i : grid0.Coords) : BitVec 1 :=
  let arg0 : BitVec 32 := BitVec.ofNat 32 (i 0).val
  let c3_i32_42 : BitVec 32 := 3#32
  let v81 : BitVec 1 := Scalar.cmpi .eq arg0 c3_i32_42
  let v82 : BitVec 32 := Scalar.extui v81
  let c0_i32_43 : BitVec 32 := 0#32
  let v83 : BitVec 1 := Scalar.cmpi .ne v82 c0_i32_43
  v83

def k0_off7 (i : grid0.Coords) : Fin 4 → Nat :=
  let c0_116 : Index := 0#32
  let arg1 : BitVec 32 := BitVec.ofNat 32 (i 1).val
  let v209 : Index := Scalar.indexCast arg1
  let c0_117 : Index := 0#32
  let c0_118 : Index := 0#32
  ![0, v209.toNat, 0, 0]
def k0_cond10 (i : grid0.Coords) : BitVec 1 :=
  let arg0 : BitVec 32 := BitVec.ofNat 32 (i 0).val
  let c0_i32_44 : BitVec 32 := 0#32
  let v84 : BitVec 1 := Scalar.cmpi .eq arg0 c0_i32_44
  let arg1 : BitVec 32 := BitVec.ofNat 32 (i 1).val
  let c0_i32_45 : BitVec 32 := 0#32
  let v85 : BitVec 1 := Scalar.cmpi .eq arg1 c0_i32_45
  let v86 : BitVec 1 := Scalar.andi v84 v85
  let v87 : BitVec 32 := Scalar.extui v86
  let c0_i32_46 : BitVec 32 := 0#32
  let v88 : BitVec 1 := Scalar.cmpi .ne v87 c0_i32_46
  v88

def k0_dev7 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond11 (i : grid0.Coords) : BitVec 1 :=
  let arg0 : BitVec 32 := BitVec.ofNat 32 (i 0).val
  let c0_i32_47 : BitVec 32 := 0#32
  let v89 : BitVec 1 := Scalar.cmpi .eq arg0 c0_i32_47
  let arg1 : BitVec 32 := BitVec.ofNat 32 (i 1).val
  let c1_i32_48 : BitVec 32 := 1#32
  let v90 : BitVec 1 := Scalar.cmpi .eq arg1 c1_i32_48
  let v91 : BitVec 1 := Scalar.andi v89 v90
  let v92 : BitVec 32 := Scalar.extui v91
  let c0_i32_49 : BitVec 32 := 0#32
  let v93 : BitVec 1 := Scalar.cmpi .ne v92 c0_i32_49
  v93

def k0_dev8 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond12 (i : grid0.Coords) : BitVec 1 :=
  let arg0 : BitVec 32 := BitVec.ofNat 32 (i 0).val
  let c0_i32_50 : BitVec 32 := 0#32
  let v94 : BitVec 1 := Scalar.cmpi .eq arg0 c0_i32_50
  let arg1 : BitVec 32 := BitVec.ofNat 32 (i 1).val
  let c2_i32_51 : BitVec 32 := 2#32
  let v95 : BitVec 1 := Scalar.cmpi .eq arg1 c2_i32_51
  let v96 : BitVec 1 := Scalar.andi v94 v95
  let v97 : BitVec 32 := Scalar.extui v96
  let c0_i32_52 : BitVec 32 := 0#32
  let v98 : BitVec 1 := Scalar.cmpi .ne v97 c0_i32_52
  v98

def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond13 (i : grid0.Coords) : BitVec 1 :=
  let arg0 : BitVec 32 := BitVec.ofNat 32 (i 0).val
  let c0_i32_53 : BitVec 32 := 0#32
  let v99 : BitVec 1 := Scalar.cmpi .eq arg0 c0_i32_53
  let arg1 : BitVec 32 := BitVec.ofNat 32 (i 1).val
  let c3_i32_54 : BitVec 32 := 3#32
  let v100 : BitVec 1 := Scalar.cmpi .eq arg1 c3_i32_54
  let v101 : BitVec 1 := Scalar.andi v99 v100
  let v102 : BitVec 32 := Scalar.extui v101
  let c0_i32_55 : BitVec 32 := 0#32
  let v103 : BitVec 1 := Scalar.cmpi .ne v102 c0_i32_55
  v103

def k0_dev10 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond14 (i : grid0.Coords) : BitVec 1 :=
  let arg0 : BitVec 32 := BitVec.ofNat 32 (i 0).val
  let c0_i32_56 : BitVec 32 := 0#32
  let v104 : BitVec 1 := Scalar.cmpi .eq arg0 c0_i32_56
  let arg1 : BitVec 32 := BitVec.ofNat 32 (i 1).val
  let c4_i32_57 : BitVec 32 := 4#32
  let v105 : BitVec 1 := Scalar.cmpi .eq arg1 c4_i32_57
  let v106 : BitVec 1 := Scalar.andi v104 v105
  let v107 : BitVec 32 := Scalar.extui v106
  let c0_i32_58 : BitVec 32 := 0#32
  let v108 : BitVec 1 := Scalar.cmpi .ne v107 c0_i32_58
  v108

def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond15 (i : grid0.Coords) : BitVec 1 :=
  let arg0 : BitVec 32 := BitVec.ofNat 32 (i 0).val
  let c0_i32_59 : BitVec 32 := 0#32
  let v109 : BitVec 1 := Scalar.cmpi .eq arg0 c0_i32_59
  let arg1 : BitVec 32 := BitVec.ofNat 32 (i 1).val
  let c5_i32 : BitVec 32 := 5#32
  let v110 : BitVec 1 := Scalar.cmpi .eq arg1 c5_i32
  let v111 : BitVec 1 := Scalar.andi v109 v110
  let v112 : BitVec 32 := Scalar.extui v111
  let c0_i32_60 : BitVec 32 := 0#32
  let v113 : BitVec 1 := Scalar.cmpi .ne v112 c0_i32_60
  v113

def k0_dev12 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond16 (i : grid0.Coords) : BitVec 1 :=
  let arg0 : BitVec 32 := BitVec.ofNat 32 (i 0).val
  let c0_i32_61 : BitVec 32 := 0#32
  let v114 : BitVec 1 := Scalar.cmpi .eq arg0 c0_i32_61
  let arg1 : BitVec 32 := BitVec.ofNat 32 (i 1).val
  let c6_i32 : BitVec 32 := 6#32
  let v115 : BitVec 1 := Scalar.cmpi .eq arg1 c6_i32
  let v116 : BitVec 1 := Scalar.andi v114 v115
  let v117 : BitVec 32 := Scalar.extui v116
  let c0_i32_62 : BitVec 32 := 0#32
  let v118 : BitVec 1 := Scalar.cmpi .ne v117 c0_i32_62
  v118

def k0_dev13 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond17 (i : grid0.Coords) : BitVec 1 :=
  let arg0 : BitVec 32 := BitVec.ofNat 32 (i 0).val
  let c0_i32_63 : BitVec 32 := 0#32
  let v119 : BitVec 1 := Scalar.cmpi .eq arg0 c0_i32_63
  let arg1 : BitVec 32 := BitVec.ofNat 32 (i 1).val
  let c7_i32 : BitVec 32 := 7#32
  let v120 : BitVec 1 := Scalar.cmpi .eq arg1 c7_i32
  let v121 : BitVec 1 := Scalar.andi v119 v120
  let v122 : BitVec 32 := Scalar.extui v121
  let c0_i32_64 : BitVec 32 := 0#32
  let v123 : BitVec 1 := Scalar.cmpi .ne v122 c0_i32_64
  v123

def k0_dev14 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond18 (i : grid0.Coords) : BitVec 1 :=
  let arg0 : BitVec 32 := BitVec.ofNat 32 (i 0).val
  let c1_i32_65 : BitVec 32 := 1#32
  let v124 : BitVec 1 := Scalar.cmpi .eq arg0 c1_i32_65
  let arg1 : BitVec 32 := BitVec.ofNat 32 (i 1).val
  let c0_i32_66 : BitVec 32 := 0#32
  let v125 : BitVec 1 := Scalar.cmpi .eq arg1 c0_i32_66
  let v126 : BitVec 1 := Scalar.andi v124 v125
  let v127 : BitVec 32 := Scalar.extui v126
  let c0_i32_67 : BitVec 32 := 0#32
  let v128 : BitVec 1 := Scalar.cmpi .ne v127 c0_i32_67
  v128

def k0_dev15 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_130 : BitVec 32 := 1#32
  let v217 : BitVec 32 := Scalar.muli v25 c1_i32_130
  let v218 : BitVec 32 := Scalar.addi c0_i32_131 v217
  v218.toNat
def k0_cond19 (i : grid0.Coords) : BitVec 1 :=
  let arg0 : BitVec 32 := BitVec.ofNat 32 (i 0).val
  let c1_i32_68 : BitVec 32 := 1#32
  let v129 : BitVec 1 := Scalar.cmpi .eq arg0 c1_i32_68
  let arg1 : BitVec 32 := BitVec.ofNat 32 (i 1).val
  let c1_i32_69 : BitVec 32 := 1#32
  let v130 : BitVec 1 := Scalar.cmpi .eq arg1 c1_i32_69
  let v131 : BitVec 1 := Scalar.andi v129 v130
  let v132 : BitVec 32 := Scalar.extui v131
  let c0_i32_70 : BitVec 32 := 0#32
  let v133 : BitVec 1 := Scalar.cmpi .ne v132 c0_i32_70
  v133

def k0_dev16 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond20 (i : grid0.Coords) : BitVec 1 :=
  let arg0 : BitVec 32 := BitVec.ofNat 32 (i 0).val
  let c1_i32_71 : BitVec 32 := 1#32
  let v134 : BitVec 1 := Scalar.cmpi .eq arg0 c1_i32_71
  let arg1 : BitVec 32 := BitVec.ofNat 32 (i 1).val
  let c2_i32_72 : BitVec 32 := 2#32
  let v135 : BitVec 1 := Scalar.cmpi .eq arg1 c2_i32_72
  let v136 : BitVec 1 := Scalar.andi v134 v135
  let v137 : BitVec 32 := Scalar.extui v136
  let c0_i32_73 : BitVec 32 := 0#32
  let v138 : BitVec 1 := Scalar.cmpi .ne v137 c0_i32_73
  v138

def k0_dev17 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond21 (i : grid0.Coords) : BitVec 1 :=
  let arg0 : BitVec 32 := BitVec.ofNat 32 (i 0).val
  let c1_i32_74 : BitVec 32 := 1#32
  let v139 : BitVec 1 := Scalar.cmpi .eq arg0 c1_i32_74
  let arg1 : BitVec 32 := BitVec.ofNat 32 (i 1).val
  let c3_i32_75 : BitVec 32 := 3#32
  let v140 : BitVec 1 := Scalar.cmpi .eq arg1 c3_i32_75
  let v141 : BitVec 1 := Scalar.andi v139 v140
  let v142 : BitVec 32 := Scalar.extui v141
  let c0_i32_76 : BitVec 32 := 0#32
  let v143 : BitVec 1 := Scalar.cmpi .ne v142 c0_i32_76
  v143

def k0_dev18 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond22 (i : grid0.Coords) : BitVec 1 :=
  let arg0 : BitVec 32 := BitVec.ofNat 32 (i 0).val
  let c1_i32_77 : BitVec 32 := 1#32
  let v144 : BitVec 1 := Scalar.cmpi .eq arg0 c1_i32_77
  let arg1 : BitVec 32 := BitVec.ofNat 32 (i 1).val
  let c4_i32_78 : BitVec 32 := 4#32
  let v145 : BitVec 1 := Scalar.cmpi .eq arg1 c4_i32_78
  let v146 : BitVec 1 := Scalar.andi v144 v145
  let v147 : BitVec 32 := Scalar.extui v146
  let c0_i32_79 : BitVec 32 := 0#32
  let v148 : BitVec 1 := Scalar.cmpi .ne v147 c0_i32_79
  v148

def k0_dev19 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_130 : BitVec 32 := 1#32
  let v217 : BitVec 32 := Scalar.muli v14 c1_i32_130
  let v218 : BitVec 32 := Scalar.addi c0_i32_131 v217
  v218.toNat
def k0_cond23 (i : grid0.Coords) : BitVec 1 :=
  let arg0 : BitVec 32 := BitVec.ofNat 32 (i 0).val
  let c1_i32_80 : BitVec 32 := 1#32
  let v149 : BitVec 1 := Scalar.cmpi .eq arg0 c1_i32_80
  let arg1 : BitVec 32 := BitVec.ofNat 32 (i 1).val
  let c5_i32_81 : BitVec 32 := 5#32
  let v150 : BitVec 1 := Scalar.cmpi .eq arg1 c5_i32_81
  let v151 : BitVec 1 := Scalar.andi v149 v150
  let v152 : BitVec 32 := Scalar.extui v151
  let c0_i32_82 : BitVec 32 := 0#32
  let v153 : BitVec 1 := Scalar.cmpi .ne v152 c0_i32_82
  v153

def k0_dev20 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond24 (i : grid0.Coords) : BitVec 1 :=
  let arg0 : BitVec 32 := BitVec.ofNat 32 (i 0).val
  let c1_i32_83 : BitVec 32 := 1#32
  let v154 : BitVec 1 := Scalar.cmpi .eq arg0 c1_i32_83
  let arg1 : BitVec 32 := BitVec.ofNat 32 (i 1).val
  let c6_i32_84 : BitVec 32 := 6#32
  let v155 : BitVec 1 := Scalar.cmpi .eq arg1 c6_i32_84
  let v156 : BitVec 1 := Scalar.andi v154 v155
  let v157 : BitVec 32 := Scalar.extui v156
  let c0_i32_85 : BitVec 32 := 0#32
  let v158 : BitVec 1 := Scalar.cmpi .ne v157 c0_i32_85
  v158

def k0_dev21 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond25 (i : grid0.Coords) : BitVec 1 :=
  let arg0 : BitVec 32 := BitVec.ofNat 32 (i 0).val
  let c1_i32_86 : BitVec 32 := 1#32
  let v159 : BitVec 1 := Scalar.cmpi .eq arg0 c1_i32_86
  let arg1 : BitVec 32 := BitVec.ofNat 32 (i 1).val
  let c7_i32_87 : BitVec 32 := 7#32
  let v160 : BitVec 1 := Scalar.cmpi .eq arg1 c7_i32_87
  let v161 : BitVec 1 := Scalar.andi v159 v160
  let v162 : BitVec 32 := Scalar.extui v161
  let c0_i32_88 : BitVec 32 := 0#32
  let v163 : BitVec 1 := Scalar.cmpi .ne v162 c0_i32_88
  v163

def k0_dev22 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond26 (i : grid0.Coords) : BitVec 1 :=
  let arg0 : BitVec 32 := BitVec.ofNat 32 (i 0).val
  let c2_i32_89 : BitVec 32 := 2#32
  let v164 : BitVec 1 := Scalar.cmpi .eq arg0 c2_i32_89
  let arg1 : BitVec 32 := BitVec.ofNat 32 (i 1).val
  let c0_i32_90 : BitVec 32 := 0#32
  let v165 : BitVec 1 := Scalar.cmpi .eq arg1 c0_i32_90
  let v166 : BitVec 1 := Scalar.andi v164 v165
  let v167 : BitVec 32 := Scalar.extui v166
  let c0_i32_91 : BitVec 32 := 0#32
  let v168 : BitVec 1 := Scalar.cmpi .ne v167 c0_i32_91
  v168

def k0_dev23 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_130 : BitVec 32 := 1#32
  let v217 : BitVec 32 := Scalar.muli v25 c1_i32_130
  let v218 : BitVec 32 := Scalar.addi c0_i32_131 v217
  v218.toNat
def k0_cond27 (i : grid0.Coords) : BitVec 1 :=
  let arg0 : BitVec 32 := BitVec.ofNat 32 (i 0).val
  let c2_i32_92 : BitVec 32 := 2#32
  let v169 : BitVec 1 := Scalar.cmpi .eq arg0 c2_i32_92
  let arg1 : BitVec 32 := BitVec.ofNat 32 (i 1).val
  let c1_i32_93 : BitVec 32 := 1#32
  let v170 : BitVec 1 := Scalar.cmpi .eq arg1 c1_i32_93
  let v171 : BitVec 1 := Scalar.andi v169 v170
  let v172 : BitVec 32 := Scalar.extui v171
  let c0_i32_94 : BitVec 32 := 0#32
  let v173 : BitVec 1 := Scalar.cmpi .ne v172 c0_i32_94
  v173

def k0_dev24 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond28 (i : grid0.Coords) : BitVec 1 :=
  let arg0 : BitVec 32 := BitVec.ofNat 32 (i 0).val
  let c2_i32_95 : BitVec 32 := 2#32
  let v174 : BitVec 1 := Scalar.cmpi .eq arg0 c2_i32_95
  let arg1 : BitVec 32 := BitVec.ofNat 32 (i 1).val
  let c2_i32_96 : BitVec 32 := 2#32
  let v175 : BitVec 1 := Scalar.cmpi .eq arg1 c2_i32_96
  let v176 : BitVec 1 := Scalar.andi v174 v175
  let v177 : BitVec 32 := Scalar.extui v176
  let c0_i32_97 : BitVec 32 := 0#32
  let v178 : BitVec 1 := Scalar.cmpi .ne v177 c0_i32_97
  v178

def k0_dev25 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond29 (i : grid0.Coords) : BitVec 1 :=
  let arg0 : BitVec 32 := BitVec.ofNat 32 (i 0).val
  let c2_i32_98 : BitVec 32 := 2#32
  let v179 : BitVec 1 := Scalar.cmpi .eq arg0 c2_i32_98
  let arg1 : BitVec 32 := BitVec.ofNat 32 (i 1).val
  let c3_i32_99 : BitVec 32 := 3#32
  let v180 : BitVec 1 := Scalar.cmpi .eq arg1 c3_i32_99
  let v181 : BitVec 1 := Scalar.andi v179 v180
  let v182 : BitVec 32 := Scalar.extui v181
  let c0_i32_100 : BitVec 32 := 0#32
  let v183 : BitVec 1 := Scalar.cmpi .ne v182 c0_i32_100
  v183

def k0_dev26 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_121 : BitVec 32 := 1#32
  let v209 : BitVec 32 := Scalar.muli v25 c1_i32_121
  let v210 : BitVec 32 := Scalar.addi c0_i32_122 v209
  v210.toNat
def k0_cond30 (i : grid0.Coords) : BitVec 1 :=
  let arg0 : BitVec 32 := BitVec.ofNat 32 (i 0).val
  let c2_i32_101 : BitVec 32 := 2#32
  let v184 : BitVec 1 := Scalar.cmpi .eq arg0 c2_i32_101
  let arg1 : BitVec 32 := BitVec.ofNat 32 (i 1).val
  let c4_i32_102 : BitVec 32 := 4#32
  let v185 : BitVec 1 := Scalar.cmpi .eq arg1 c4_i32_102
  let v186 : BitVec 1 := Scalar.andi v184 v185
  let v187 : BitVec 32 := Scalar.extui v186
  let c0_i32_103 : BitVec 32 := 0#32
  let v188 : BitVec 1 := Scalar.cmpi .ne v187 c0_i32_103
  v188

def k0_dev27 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_130 : BitVec 32 := 1#32
  let v217 : BitVec 32 := Scalar.muli v14 c1_i32_130
  let v218 : BitVec 32 := Scalar.addi c0_i32_131 v217
  v218.toNat
def k0_cond31 (i : grid0.Coords) : BitVec 1 :=
  let arg0 : BitVec 32 := BitVec.ofNat 32 (i 0).val
  let c2_i32_104 : BitVec 32 := 2#32
  let v189 : BitVec 1 := Scalar.cmpi .eq arg0 c2_i32_104
  let arg1 : BitVec 32 := BitVec.ofNat 32 (i 1).val
  let c5_i32_105 : BitVec 32 := 5#32
  let v190 : BitVec 1 := Scalar.cmpi .eq arg1 c5_i32_105
  let v191 : BitVec 1 := Scalar.andi v189 v190
  let v192 : BitVec 32 := Scalar.extui v191
  let c0_i32_106 : BitVec 32 := 0#32
  let v193 : BitVec 1 := Scalar.cmpi .ne v192 c0_i32_106
  v193

def k0_dev28 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond32 (i : grid0.Coords) : BitVec 1 :=
  let arg0 : BitVec 32 := BitVec.ofNat 32 (i 0).val
  let c2_i32_107 : BitVec 32 := 2#32
  let v194 : BitVec 1 := Scalar.cmpi .eq arg0 c2_i32_107
  let arg1 : BitVec 32 := BitVec.ofNat 32 (i 1).val
  let c6_i32_108 : BitVec 32 := 6#32
  let v195 : BitVec 1 := Scalar.cmpi .eq arg1 c6_i32_108
  let v196 : BitVec 1 := Scalar.andi v194 v195
  let v197 : BitVec 32 := Scalar.extui v196
  let c0_i32_109 : BitVec 32 := 0#32
  let v198 : BitVec 1 := Scalar.cmpi .ne v197 c0_i32_109
  v198

def k0_dev29 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond33 (i : grid0.Coords) : BitVec 1 :=
  let arg0 : BitVec 32 := BitVec.ofNat 32 (i 0).val
  let c2_i32_110 : BitVec 32 := 2#32
  let v199 : BitVec 1 := Scalar.cmpi .eq arg0 c2_i32_110
  let arg1 : BitVec 32 := BitVec.ofNat 32 (i 1).val
  let c7_i32_111 : BitVec 32 := 7#32
  let v200 : BitVec 1 := Scalar.cmpi .eq arg1 c7_i32_111
  let v201 : BitVec 1 := Scalar.andi v199 v200
  let v202 : BitVec 32 := Scalar.extui v201
  let c0_i32_112 : BitVec 32 := 0#32
  let v203 : BitVec 1 := Scalar.cmpi .ne v202 c0_i32_112
  v203

def k0_dev30 (d0 : Dev nD) : Nat :=
  let c0_i32_122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_121 : BitVec 32 := 1#32
  let v209 : BitVec 32 := Scalar.muli v14 c1_i32_121
  let v210 : BitVec 32 := Scalar.addi c0_i32_122 v209
  v210.toNat
def k0_cond34 (i : grid0.Coords) : BitVec 1 :=
  let arg0 : BitVec 32 := BitVec.ofNat 32 (i 0).val
  let c3_i32_113 : BitVec 32 := 3#32
  let v204 : BitVec 1 := Scalar.cmpi .eq arg0 c3_i32_113
  let arg1 : BitVec 32 := BitVec.ofNat 32 (i 1).val
  let c7_i32_114 : BitVec 32 := 7#32
  let v205 : BitVec 1 := Scalar.cmpi .eq arg1 c7_i32_114
  let v206 : BitVec 1 := Scalar.andi v204 v205
  let v207 : BitVec 32 := Scalar.extui v206
  let c0_i32_115 : BitVec 32 := 0#32
  let v208 : BitVec 1 := Scalar.cmpi .ne v207 c0_i32_115
  v208

def k0_dev31 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_135 : BitVec 32 := 1#32
  let v222 : BitVec 32 := Scalar.addi v2 c1_i32_135
  let c4_i32_136 : BitVec 32 := 4#32
  let c0_i32_137 : BitVec 32 := 0#32
  let v223 : BitVec 1 := Scalar.cmpi .eq c4_i32_136 c0_i32_137
  let c1_i32_138 : BitVec 32 := 1#32
  let v224 : BitVec 32 := Scalar.select v223 c1_i32_138 c4_i32_136
  let v225 : BitVec 32 := Scalar.remsi v222 v224
  let c0_i32_140 : BitVec 32 := 0#32
  let v227 : BitVec 1 := Scalar.cmpi .slt v225 c0_i32_140
  let c0_i32_141 : BitVec 32 := 0#32
  let v228 : BitVec 1 := Scalar.cmpi .slt v224 c0_i32_141
  let v229 : BitVec 1 := Scalar.xori v227 v228
  let c0_i32_139 : BitVec 32 := 0#32
  let v226 : BitVec 1 := Scalar.cmpi .ne v225 c0_i32_139
  let v230 : BitVec 1 := Scalar.andi v229 v226
  let v231 : BitVec 32 := Scalar.addi v225 v224
  let v232 : BitVec 32 := Scalar.select v230 v231 v225
  let c1_i32_143 : BitVec 32 := 1#32
  let v233 : BitVec 32 := Scalar.muli v232 c1_i32_143
  let v234 : BitVec 32 := Scalar.addi c0_i32_144 v233
  v234.toNat
def k0_dev32 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_147 : BitVec 32 := 2#32
  let v237 : BitVec 32 := Scalar.addi v2 c2_i32_147
  let c4_i32_148 : BitVec 32 := 4#32
  let c0_i32_149 : BitVec 32 := 0#32
  let v238 : BitVec 1 := Scalar.cmpi .eq c4_i32_148 c0_i32_149
  let c1_i32_150 : BitVec 32 := 1#32
  let v239 : BitVec 32 := Scalar.select v238 c1_i32_150 c4_i32_148
  let v240 : BitVec 32 := Scalar.remsi v237 v239
  let c0_i32_152 : BitVec 32 := 0#32
  let v242 : BitVec 1 := Scalar.cmpi .slt v240 c0_i32_152
  let c0_i32_153 : BitVec 32 := 0#32
  let v243 : BitVec 1 := Scalar.cmpi .slt v239 c0_i32_153
  let v244 : BitVec 1 := Scalar.xori v242 v243
  let c0_i32_151 : BitVec 32 := 0#32
  let v241 : BitVec 1 := Scalar.cmpi .ne v240 c0_i32_151
  let v245 : BitVec 1 := Scalar.andi v244 v241
  let v246 : BitVec 32 := Scalar.addi v240 v239
  let v247 : BitVec 32 := Scalar.select v245 v246 v240
  let c1_i32_155 : BitVec 32 := 1#32
  let v248 : BitVec 32 := Scalar.muli v247 c1_i32_155
  let v249 : BitVec 32 := Scalar.addi c0_i32_156 v248
  v249.toNat
def k0_dev33 (d0 : Dev nD) : Nat :=
  let c0_i32_168 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_159 : BitVec 32 := 3#32
  let v252 : BitVec 32 := Scalar.addi v2 c3_i32_159
  let c4_i32_160 : BitVec 32 := 4#32
  let c0_i32_161 : BitVec 32 := 0#32
  let v253 : BitVec 1 := Scalar.cmpi .eq c4_i32_160 c0_i32_161
  let c1_i32_162 : BitVec 32 := 1#32
  let v254 : BitVec 32 := Scalar.select v253 c1_i32_162 c4_i32_160
  let v255 : BitVec 32 := Scalar.remsi v252 v254
  let c0_i32_164 : BitVec 32 := 0#32
  let v257 : BitVec 1 := Scalar.cmpi .slt v255 c0_i32_164
  let c0_i32_165 : BitVec 32 := 0#32
  let v258 : BitVec 1 := Scalar.cmpi .slt v254 c0_i32_165
  let v259 : BitVec 1 := Scalar.xori v257 v258
  let c0_i32_163 : BitVec 32 := 0#32
  let v256 : BitVec 1 := Scalar.cmpi .ne v255 c0_i32_163
  let v260 : BitVec 1 := Scalar.andi v259 v256
  let v261 : BitVec 32 := Scalar.addi v255 v254
  let v262 : BitVec 32 := Scalar.select v260 v261 v255
  let c1_i32_167 : BitVec 32 := 1#32
  let v263 : BitVec 32 := Scalar.muli v262 c1_i32_167
  let v264 : BitVec 32 := Scalar.addi c0_i32_168 v263
  v264.toNat
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.KernelIdeal.Base.lean ====
/-
# The ring kernel: names, the ring, pieces of buffers

What every module of the proof of the first call (`cc0_body`) shares: the ring of four devices, the semaphores by name,
and a PIECE of a buffer — the elements under one rectangle of a memref, held at contents that read as a given value
(`piece`) or at any contents (`pieceAny`). The kernel's loads and stores go through a rectangle (`Memref.access`), its
transfers through the squeezed slice at the same rectangle; both have the same elements, so one piece serves both.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Duty names: at most eight tiles travel in a round. -/
abbrev D : Type := Fin 8
/-- Instance names: a cell awaited twice with different places in the order of waits has one per wait. -/
abbrev Ix : Type := Fin 2
abbrev UB : Type := URounds (GSem nD τ sig) D
abbrev UU : Type := UR sig nD τ × UB

local notation "𝕄" => MT nD τ sig Ix (Elt F) ℕ UU ℕ

abbrev EP : Emb (UR sig nD τ) (MT nD τ sig Ix (Elt F) ℕ UU ℕ) := embL
abbrev ER : Emb UB (MT nD τ sig Ix (Elt F) ℕ UU ℕ) := embR

abbrev 𝒱₀ : Variants := Variants.none

/-! ## The ring -/

set_option backward.proofsInPublic true in
/-- The device to the right. -/
def nxt (c : Dev nD) : Dev nD := ⟨(c.val + 1) % 4, Nat.mod_lt _ (by decide)⟩
set_option backward.proofsInPublic true in
/-- The device to the left. -/
def prv (c : Dev nD) : Dev nD := ⟨(c.val + 3) % 4, Nat.mod_lt _ (by decide)⟩
set_option backward.proofsInPublic true in
/-- The device opposite. -/
def opp (c : Dev nD) : Dev nD := ⟨(c.val + 2) % 4, Nat.mod_lt _ (by decide)⟩
theorem prv_nxt (c : Dev nD) : prv (nxt c) = c := by revert c; decide
theorem nxt_prv (c : Dev nD) : nxt (prv c) = c := by revert c; decide
theorem opp_opp (c : Dev nD) : opp (opp c) = c := by revert c; decide
theorem nxt_nxt (c : Dev nD) : nxt (nxt c) = opp c := by revert c; decide
def ring : Dev nD ≃ Dev nD := ⟨nxt, prv, prv_nxt, nxt_prv⟩
def across : Dev nD ≃ Dev nD := ⟨opp, opp, opp_opp, opp_opp⟩

/-! ## Memrefs and semaphores -/

abbrev xM : Memref sig .tc .hbm S4096x1024 .bf16 := Memref.whole main_v1
abbrev cM : Memref sig .tc .vmem S2x8x1024x1024 .bf16 := Memref.whole cc0_scratch0
abbrev vM : Memref sig .tc .vmem S2x1024x1024 .bf16 := Memref.whole cc0_scratch1
abbrev aM : Memref sig .tc .vmem S8x128 .f32 := Memref.whole cc0_scratch2
abbrev gM : Memref sig .tc .vmem S3x8x128 .f32 := Memref.whole cc0_scratch3
abbrev kM : Memref sig .tc .vmem S5x8x128 .f32 := Memref.whole cc0_scratch4
abbrev mM : Memref sig .tc .smem S1 .f32 := Memref.whole cc0_scratch12

abbrev barS : Sem sig := (SemArray.scalar (sig.barrier 0 rfl) : Sems sig S_).sem
abbrev xS : DmaSem sig := ⟨5, by decide⟩
abbrev rsS : DmaSem sig := ⟨6, by decide⟩
abbrev rrS : Fin 3 → DmaSem sig := fun | 0 => ⟨7, by decide⟩ | 1 => ⟨8, by decide⟩ | 2 => ⟨9, by decide⟩
abbrev asS : DmaSem sig := ⟨10, by decide⟩
abbrev arS : DmaSem sig := ⟨11, by decide⟩
abbrev csS : DmaSem sig := ⟨12, by decide⟩
abbrev crS : Fin 2 → DmaSem sig := fun | 0 => ⟨13, by decide⟩ | 1 => ⟨14, by decide⟩

theorem sem_x : cc0_scratch5.sem = xS := rfl
theorem sem_rs : cc0_scratch6.sem = rsS := rfl
theorem sem_rr0 : ((cc0_scratch7.slice (Rect.unit (s := S3) ![0] S1.size inb_S3_S1_0)).squeeze S_ squeezes_S1_S_).sem = rrS 0 := rfl
theorem sem_rr2 : ((cc0_scratch7.slice (Rect.unit (s := S3) ![2] S1.size inb_S3_S1_2)).squeeze S_ squeezes_S1_S_).sem = rrS 2 := rfl
theorem sem_as : cc0_scratch8.sem = asS := rfl
theorem sem_ar : cc0_scratch9.sem = arS := rfl
theorem sem_cs : cc0_scratch10.sem = csS := rfl
theorem sem_cr1 : ((cc0_scratch11.slice (Rect.unit (s := S2) ![1] S1.size inb_S2_S1_1)).squeeze S_ squeezes_S1_S_).sem = crS 1 := rfl

/-! ## Rectangles: the slots of the scratch buffers -/

/-- Slot `b`, tile `t` of the travelling buffer. -/
theorem cR_inb (b : Fin 2) (t : Fin 8) : ∀ a, (![b.val, t.val, 0, 0] : Fin 4 → ℕ) a + S1x1x1024x1024.size a ≤ S2x8x1024x1024.size a := by
  revert b t; decide +kernel
theorem vR_inb (h : Fin 2) : ∀ a, (![h.val, 0, 0] : Fin 3 → ℕ) a + S1x1024x1024.size a ≤ S2x1024x1024.size a := by revert h; decide +kernel
theorem gR_inb (o : Fin 3) : ∀ a, (![o.val, 0, 0] : Fin 3 → ℕ) a + S1x8x128.size a ≤ S3x8x128.size a := by revert o; decide +kernel
theorem kR_inb (o : Fin 5) : ∀ a, (![o.val, 0, 0] : Fin 3 → ℕ) a + S1x8x128.size a ≤ S5x8x128.size a := by revert o; decide +kernel
abbrev cR (b : Fin 2) (t : Fin 8) : Rect S2x8x1024x1024 := Rect.unit (s := S2x8x1024x1024) ![b.val, t.val, 0, 0] S1x1x1024x1024.size (cR_inb b t)
abbrev vR (h : Fin 2) : Rect S2x1024x1024 := Rect.unit (s := S2x1024x1024) ![h.val, 0, 0] S1x1024x1024.size (vR_inb h)
abbrev gR (o : Fin 3) : Rect S3x8x128 := Rect.unit (s := S3x8x128) ![o.val, 0, 0] S1x8x128.size (gR_inb o)
abbrev kR (o : Fin 5) : Rect S5x8x128 := Rect.unit (s := S5x8x128) ![o.val, 0, 0] S1x8x128.size (kR_inb o)

/-- The squeezed slices the transfers name. -/
abbrev cT (b : Fin 2) (t : Fin 8) : Memref sig .tc .vmem S1024x1024 .bf16 :=
  (cM.slice (cR b t) (fun _ => rfl)).squeeze S1024x1024 squeezes_S1x1x1024x1024_S1024x1024
abbrev vT (h : Fin 2) : Memref sig .tc .vmem S1024x1024 .bf16 :=
  (vM.slice (vR h) (fun _ => rfl)).squeeze S1024x1024 squeezes_S1x1024x1024_S1024x1024
abbrev gT (o : Fin 3) : Memref sig .tc .vmem S8x128 .f32 :=
  (gM.slice (gR o) (fun _ => rfl)).squeeze S8x128 squeezes_S1x8x128_S8x128
abbrev kT (o : Fin 5) : Memref sig .tc .vmem S8x128 .f32 :=
  (kM.slice (kR o) (fun _ => rfl)).squeeze S8x128 squeezes_S1x8x128_S8x128

/-! ## Pieces -/

section Piece
variable {sp : Space} {s : Shape} {e : EltTy}

/-- The elements of `m` under `r`, on device `c`, held whole at contents that read as `v` there. -/
def piece (m : Memref sig .tc sp s e) (r : Rect s) (c : Dev nD) (v : r.shape.Idx → Elt F e) : sProp 𝕄 :=
  iprop(∃ f : Buf (Elt F) ((m.access r).loc (c : Thread nD τ)), ⌜(m.access r).read (Elt F) f = v⌝
    ∗ ((m.access r).loc (c : Thread nD τ) ↦[(m.access r).set]{fullShare} f))
/-- The same at any contents. -/
def pieceAny (m : Memref sig .tc sp s e) (r : Rect s) (c : Dev nD) : sProp 𝕄 :=
  iprop(∃ f : Buf (Elt F) ((m.access r).loc (c : Thread nD τ)), ((m.access r).loc (c : Thread nD τ) ↦[(m.access r).set]{fullShare} f))

omit [FloatOps F] in
theorem piece_any (m : Memref sig .tc sp s e) (r : Rect s) (c : Dev nD) (v : r.shape.Idx → Elt F e) :
    (piece m r c v : sProp 𝕄) ⊢ pieceAny m r c := by
  unfold piece pieceAny
  iintro ⟨%f, -, H⟩; iexists f; iexact H

omit [FloatOps F] in
instance piece_storable (m : Memref sig .tc sp s e) (r : Rect s) (c : Dev nD) (v : r.shape.Idx → Elt F e) :
    BI.Storable (upEmb : UEmb _ 𝕄) (piece m r c v) := by unfold piece; infer_instance
omit [FloatOps F] in
instance pieceAny_storable (m : Memref sig .tc sp s e) (r : Rect s) (c : Dev nD) :
    BI.Storable (upEmb : UEmb _ 𝕄) (pieceAny (F := F) m r c) := by unfold pieceAny; infer_instance

/-- A value of the squeezed slice's shape as a value of the slice's. -/
abbrev unsq {s' : Shape} (r : Rect s) (h : r.shape.Squeezes s') (v : s'.Idx → Elt F e) : r.shape.Idx → Elt F e :=
  fun j => v ((Shape.reshapeEquiv h.numel_eq).symm j)

omit [FloatOps F] in
/-- A transfer landed in the squeezed slice makes the piece at what it carried. -/
theorem piece_landed (m : Memref sig .tc sp s e) (r : Rect s) (hr : ∀ a, r.stride a = 1) {s' : Shape} (h : r.shape.Squeezes s')
    (c : Dev nD) (fd : Buf (Elt F) (((m.slice r hr).squeeze s' h).view.loc (c : Thread nD τ))) (v : s'.Idx → Elt F e) :
    ((((m.slice r hr).squeeze s' h).view.loc (c : Thread nD τ)) ↦[((m.slice r hr).squeeze s' h).view.set]{fullShare}
        (((m.slice r hr).squeeze s' h).view.write (Elt F) fd v Finset.univ) : sProp 𝕄) ⊢ piece m r c (unsq r h v) := by
  unfold piece
  iintro H
  iexists (((m.slice r hr).squeeze s' h).view.write (Elt F) fd v Finset.univ)
  isplitr
  · ipureintro
    have e1 := View.read_write_univ (Val := Elt F) (v := ((m.slice r hr).squeeze s' h).view) fd v
    funext j
    have := congrFun e1 ((Shape.reshapeEquiv h.numel_eq).symm j)
    unfold unsq
    rw [← this]
    show _ = ((m.slice r hr).view.reshape s' h.numel_eq).read (Elt F) _ _
    rw [View.read_apply, View.read_apply, View.emb_reshape]
    simp
  · have hs : ((m.slice r hr).squeeze s' h).view.set = (m.access r).set := View.set_reshape _ _
    rw [hs]; iexact H

end Piece

end Cert.KernelIdeal.Ring

end
-- ==== Proof.KernelIdeal.Sched.lean ====
/-
# The ring kernel's protocol

Four devices, four steps. At step `s` a device multiplies, for each of eight column tiles, one block of rows of its `x`
by one block of columns of its `w`, adds the partial sum that came from its neighbour, and (steps 0–2) sends the sum on:
tiles 0–3 to the right, tiles 4–7 to the left. Per semaphore, on every device `c`:

* barrier: one round, one unit from each neighbour. Duty 0 comes from `nxt c`, duty 1 from `prv c`; each hands over the
  neighbour's slots the transfers of `c` will land in, and that it opened the cells they credit.
* `x` fetch: one round per step, two duties (the two halves): the staging slot at the block of that step, and the share of
  `x` that was read.
* tiles, send side (`rs`): one round per step 0–2, eight duties, each gives back the slot sent from.
* tiles, receive side (`rr st`, one cell per step): one round, eight duties: slot with the sum of the neighbour.
* credits, send side (`cs`): two rounds of two duties: the two half shares of the credits' source.
* credits, receive side (`cr d`, one per direction): ONE round of two duties, awaited one duty at a time. What a credit
  stands for (the sender's freed slots) is not this payload; it goes through the invariant of `Credit.lean`.
* maximum, send side (`as`) and receive side (`ar`): one round of three duties: a third of the source; a slot with the
  maximum of the device `o + 1` places to the left.

Order of waits (levels): barrier 1, receive step 0: 2, credit 0: 3, receive step 1: 4, credit 1: 5, receive step 2: 6,
maximum 7, everything a device awaits of its own 0.
-/
module

public import proofs.«01_k».proof.Proof.KernelIdeal.Base

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16)

/-! ## Contents -/

/-- Which way a tile travels: columns 0–3 to the right (0), columns 4–7 to the left (1). -/
def half (t : Fin 8) : Fin 2 := if t.val < 4 then 0 else 1
/-- The device a tile comes from, and the one it goes to. -/
def frm (c : Dev nD) (t : Fin 8) : Dev nD := if t.val < 4 then prv c else nxt c
def tow (c : Dev nD) (t : Fin 8) : Dev nD := if t.val < 4 then nxt c else prv c
theorem frm_tow (c : Dev nD) (t : Fin 8) : frm (tow c t) t = c := by
  unfold frm tow; split
  · exact prv_nxt c
  · exact nxt_prv c

/-- The block row of `x` device `c` multiplies at step `s`, for the right-moving half and the left-moving one. -/
def xrow (c : Dev nD) (s : Fin 4) (h : Fin 2) : ℕ := if h = 0 then (c.val + 7 - s.val) % 4 else (c.val + 1 + s.val) % 4
theorem xR_inb (c : Dev nD) (s : Fin 4) (h : Fin 2) :
    ∀ a, (![1024 * xrow c s h, 0] : Fin 2 → ℕ) a + S1024x1024.size a ≤ S4096x1024.size a := by
  revert c s h; decide +kernel
abbrev xR (c : Dev nD) (s : Fin 4) (h : Fin 2) : Rect S4096x1024 :=
  Rect.unit (s := S4096x1024) ![1024 * xrow c s h, 0] S1024x1024.size (xR_inb c s h)
abbrev xT (c : Dev nD) (s : Fin 4) (h : Fin 2) : Memref sig .tc .hbm S1024x1024 .bf16 := xM.slice (xR c s h) (fun _ => rfl)
/-- That block, as the slot of the staging buffer reads it. -/
def xv (c : Dev nD) (s : Fin 4) (h : Fin 2) : Vec F S1x1024x1024 .bf16 :=
  unsq (vR h) squeezes_S1x1024x1024_S1024x1024 ((xT c s h).view.read (Elt F) (X c))
/-- The left operand of step `s` at column `t`. -/
def xs (c : Dev nD) (s : Fin 4) (t : Fin 8) : FVec F S1024x1024 .bf16 := k0_pay5 (xv X c s (half t))

/-- The travelling partial sums after steps 0, 1, 2. -/
def acc0 (c : Dev nD) (t : Fin 8) : Vec F S1x1x1024x1024 .bf16 := k0_pay7 (xs X c 0 t) (wv c t)
def acc1 (c : Dev nD) (t : Fin 8) : Vec F S1x1x1024x1024 .bf16 := k0_pay8 (xs X c 1 t) (wv c t) (acc0 X wv (frm c t) t)
def acc2 (c : Dev nD) (t : Fin 8) : Vec F S1x1x1024x1024 .bf16 := k0_pay9 (xs X c 2 t) (wv c t) (acc1 X wv (frm c t) t)
def acc (st : Fin 3) (c : Dev nD) (t : Fin 8) : Vec F S1x1x1024x1024 .bf16 :=
  match st with | 0 => acc0 X wv c t | 1 => acc1 X wv c t | 2 => acc2 X wv c t
/-- The finished tile of step 3. -/
def yv (c : Dev nD) (t : Fin 8) : FVec F S1024x1024 .f32 := k0_pay10 (xs X c 3 t) (wv c t) (acc2 X wv (frm c t) t)
/-- The running maximum of absolute values over the first `n` finished tiles. -/
def amx (c : Dev nD) : ℕ → Elt F .f32
  | 0 => Scalar.ofBits .f32 0x00000000#32
  | n + 1 => k0_pay11 (xs X c 3 (Fin.ofNat 8 n)) (wv c (Fin.ofNat 8 n)) (acc2 X wv (frm c (Fin.ofNat 8 n)) (Fin.ofNat 8 n)) (amx c n)
/-- The block a device sends the others: its maximum everywhere. -/
def av (c : Dev nD) : FVec F S8x128 .f32 := k0_pay2 (amx X wv c 8)
/-- Slot `o` of the landing buffer is written by the device `o + 1` places to the left. -/
def gfrm (c : Dev nD) (o : Fin 3) : Dev nD := match o with | 0 => prv c | 1 => opp c | 2 => nxt c
def gtow (c : Dev nD) (o : Fin 3) : Dev nD := match o with | 0 => nxt c | 1 => opp c | 2 => prv c
theorem gfrm_gtow (c : Dev nD) (o : Fin 3) : gfrm (gtow c o) o = c := by revert c o; decide
def gv (c : Dev nD) (o : Fin 3) : Vec F S1x8x128 .f32 := unsq (gR o) squeezes_S1x8x128_S8x128 (av X wv (gfrm c o))
/-- The scale. -/
def scl (c : Dev nD) : FVec F S1x1 .f32 :=
  k0_pay1 (k0_pay3 (amx X wv c 8) (gv X wv c 0)) (k0_pay4 (gv X wv c 1)) (gv X wv c 2)

/-! ## The cells -/

/-- What a cell is for: the barrier; the fetch of `x`; the tiles' send side; their receive side, one per step; the
    maximum's send and receive side; the credits' send side; their receive side, one per direction. -/
inductive Kd
  | bar | x | rs | rr (st : Fin 3) | as | ar | cs | cr (d : Fin 2) | other
  deriving DecidableEq

def kdD : ℕ → Kd
  | 5 => .x | 6 => .rs | 7 => .rr 0 | 8 => .rr 1 | 9 => .rr 2 | 10 => .as | 11 => .ar | 12 => .cs | 13 => .cr 0 | 14 => .cr 1 | _ => .other
def kd : SemLoc sig → Kd
  | .reg s => if s = barS then .bar else .other
  | .dma q => kdD q.val

/-- The cells by number: ten transfer semaphores and the barrier. -/
abbrev osem : Fin 11 → SemLoc sig := fun
  | 0 => .dma xS | 1 => .dma rsS | 2 => .dma (rrS 0) | 3 => .dma (rrS 1) | 4 => .dma (rrS 2) | 5 => .dma asS | 6 => .dma arS
  | 7 => .dma csS | 8 => .dma (crS 0) | 9 => .dma (crS 1) | 10 => .reg barS
abbrev cell (c : Dev nD) (k : Fin 11) : GSem nD τ sig := ((c : Thread nD τ), osem k)
def kdN : Fin 11 → Kd := fun
  | 0 => .x | 1 => .rs | 2 => .rr 0 | 3 => .rr 1 | 4 => .rr 2 | 5 => .as | 6 => .ar | 7 => .cs | 8 => .cr 0 | 9 => .cr 1 | 10 => .bar
theorem kd_osem (k : Fin 11) : kd (osem k) = kdN k := by revert k; decide
theorem osem_injective : Function.Injective osem := by intro a b; revert a b; decide
def rrI (st : Fin 3) : Fin 11 := ⟨2 + st.val, by omega⟩
def crI (d : Fin 2) : Fin 11 := ⟨8 + d.val, by omega⟩
theorem osem_rr (st : Fin 3) : osem (rrI st) = .dma (rrS st) := by revert st; decide
theorem osem_cr (d : Fin 2) : osem (crI d) = .dma (crS d) := by revert d; decide
theorem kdN_rr (st : Fin 3) : kdN (rrI st) = .rr st := by revert st; decide
theorem kdN_cr (d : Fin 2) : kdN (crI d) = .cr d := by revert d; decide

abbrev Nx : ℕ := (vT 0).view.dmaCredit
abbrev Nt : ℕ := (cT 0 0).view.dmaCredit
abbrev Ng : ℕ := (gT 0).view.dmaCredit
abbrev Nk : ℕ := (kT 0).view.dmaCredit
theorem Nx_pos : 0 < Nx := View.dmaCredit_pos _ (by decide +kernel)
theorem Nt_pos : 0 < Nt := View.dmaCredit_pos _ (by decide +kernel)
theorem Ng_pos : 0 < Ng := View.dmaCredit_pos _ (by decide +kernel)
theorem Nk_pos : 0 < Nk := View.dmaCredit_pos _ (by decide +kernel)
theorem aM_credit : (aM.view.dmaCredit : ℕ) = Ng := by decide +kernel

def nr : Kd → ℕ | .bar => 1 | .x => 4 | .rs => 3 | .rr _ => 1 | .as => 1 | .ar => 1 | .cs => 2 | .cr _ => 1 | .other => 0
def nd : Kd → ℕ | .bar => 2 | .x => 2 | .rs => 8 | .rr _ => 8 | .as => 3 | .ar => 3 | .cs => 2 | .cr _ => 2 | .other => 0
def amt : Kd → ℕ | .bar => 1 | .x => Nx | .rs => Nt | .rr _ => Nt | .as => Ng | .ar => Ng | .cs => Nk | .cr _ => Nk | .other => 1
theorem amt_pos (k : Kd) : 0 < amt k := by
  cases k <;> first | exact Nat.one_pos | exact Nx_pos | exact Nt_pos | exact Ng_pos | exact Nk_pos

/-! ## Payloads -/

/-- Slot of the travelling buffer. -/
abbrev slot (c : Dev nD) (b : Fin 2) (t : Fin 8) (v : Vec F S1x1x1024x1024 .bf16) : sProp 𝕄 := piece cM (cR b t) c v
abbrev slotAny (c : Dev nD) (b : Fin 2) (t : Fin 8) : sProp 𝕄 := pieceAny cM (cR b t) c
abbrev kAny (c : Dev nD) (o : Fin 5) : sProp 𝕄 := pieceAny kM (kR o) c
abbrev gAny (c : Dev nD) (o : Fin 3) : sProp 𝕄 := pieceAny gM (gR o) c

/-- The slot of the travelling buffer step `st` sends from (`odd`) and into (`even`). -/
def sOf (st : Fin 3) : Fin 2 := match st with | 0 => 1 | 1 => 0 | 2 => 1
def dOf (st : Fin 3) : Fin 2 := match st with | 0 => 0 | 1 => 1 | 2 => 0

def lr (h : Fin 2) : PosShare TreeShare := match h with | 0 => fullShare.left | 1 => fullShare.right
def third (o : Fin 3) : PosShare TreeShare := match o with | 0 => fullShare.left | 1 => fullShare.right.left | 2 => fullShare.right.right

/-- The columns that travel one way. -/
def cols (h : Fin 2) : Finset (Fin 8) := Finset.univ.filter fun t => half t = h
def slotsAny (c : Dev nD) (b : Fin 2) (h : Fin 2) : sProp 𝕄 := bigSep (cols h) fun t => slotAny c b t

/-- The share of `x` one fetch reads. -/
def xPts (c : Dev nD) (s : Fin 4) (h : Fin 2) : sProp 𝕄 :=
  (xT c s h).view.loc (c : Thread nD τ) ↦[(xT c s h).view.set]{lr h} X c
/-- The share of the maximum's block one send reads. -/
def aPts (c : Dev nD) (o : Fin 3) : sProp 𝕄 :=
  aM.view.loc (c : Thread nD τ) ↦[aM.view.set]{third o} (av X wv c : Buf (Elt F) (aM.view.loc (c : Thread nD τ)))
/-- The share of the credits' source one send reads. -/
def kPts (c : Dev nD) (d : Fin 2) : sProp 𝕄 :=
  iprop(∃ f : Buf (Elt F) ((kT 0).view.loc (c : Thread nD τ)), (kT 0).view.loc (c : Thread nD τ) ↦[(kT 0).view.set]{lr d} f)

/-- The slot a credit lands in: step `k`, direction `d`. -/
def kslot (k d : Fin 2) : Fin 5 := ⟨1 + 2 * k.val + d.val, by omega⟩

/-- What the neighbours hand over by the barrier: `nxt c` by duty 0, `prv c` by duty 1 — their landing slots, and that
    they opened the cells the transfers credit. -/
def barPay (c : Dev nD) (d : Fin 2) : sProp 𝕄 :=
  match d with
  | 0 => iprop(slotsAny (nxt c) 0 0 ∗ kAny (nxt c) 2 ∗ kAny (nxt c) 4 ∗ gAny (nxt c) 0 ∗ gAny (nxt c) 1
      ∗ (reached ER (cell (nxt c) 2) 0 ∗ reached ER (cell (nxt c) 3) 0 ∗ reached ER (cell (nxt c) 4) 0)
      ∗ reached ER (cell (nxt c) 9) 0 ∗ reached ER (cell (nxt c) 6) 0)
  | 1 => iprop(slotsAny (prv c) 0 1 ∗ kAny (prv c) 1 ∗ kAny (prv c) 3 ∗ gAny (prv c) 2
      ∗ (reached ER (cell (prv c) 2) 0 ∗ reached ER (cell (prv c) 3) 0 ∗ reached ER (cell (prv c) 4) 0)
      ∗ reached ER (cell (prv c) 8) 0 ∗ reached ER (cell (prv c) 6) 0)

def pay (c : Dev nD) (k : Kd) (r : ℕ) (d : D) : sProp 𝕄 :=
  match k with
  | .bar => barPay c (Fin.ofNat 2 d.val)
  | .x => iprop(piece vM (vR (Fin.ofNat 2 d.val)) c (xv X c (Fin.ofNat 4 r) (Fin.ofNat 2 d.val)) ∗ xPts X c (Fin.ofNat 4 r) (Fin.ofNat 2 d.val))
  | .rs => slotAny c (sOf (Fin.ofNat 3 r)) d
  | .rr st => slot c (dOf st) d (acc X wv st (frm c d) d)
  | .as => aPts X wv c (Fin.ofNat 3 d.val)
  | .ar => piece gM (gR (Fin.ofNat 3 d.val)) c (gv X wv c (Fin.ofNat 3 d.val))
  | .cs => kPts c (Fin.ofNat 2 d.val)
  | .cr e => kAny c (kslot (Fin.ofNat 2 d.val) e)
  | .other => iprop(emp)

/-- The schedule. -/
def Rd : Rounds.Schedule (GSem nD τ sig) D 𝕄 where
  duties g r := if g.1.2 = .tc ∧ r < nr (kd g.2) then Finset.univ.filter (fun d : D => d.val < nd (kd g.2)) else ∅
  unitless _ := False
  amount g _ _ := amt (kd g.2)
  payload g r d := pay X wv g.1.1 (kd g.2) r d
  amount_pos g _ _ _ := amt_pos _

omit [FloatOps F] in
instance slotsAny_storable (c : Dev nD) (b h : Fin 2) : BI.Storable (upEmb : UEmb _ 𝕄) (slotsAny (F := F) c b h) := by
  unfold slotsAny; infer_instance
omit [FloatOps F] in
instance barPay_storable (c : Dev nD) (d : Fin 2) : BI.Storable (upEmb : UEmb _ 𝕄) (barPay (F := F) c d) := by
  unfold barPay; split <;> infer_instance
instance xPts_storable (c : Dev nD) (s : Fin 4) (h : Fin 2) : BI.Storable (upEmb : UEmb _ 𝕄) (xPts X c s h) := by unfold xPts; infer_instance
instance aPts_storable (c : Dev nD) (o : Fin 3) : BI.Storable (upEmb : UEmb _ 𝕄) (aPts X wv c o) := by unfold aPts; infer_instance
omit [FloatOps F] in
instance kPts_storable (c : Dev nD) (d : Fin 2) : BI.Storable (upEmb : UEmb _ 𝕄) (kPts (F := F) c d) := by unfold kPts; infer_instance
instance pay_storable (c : Dev nD) (k : Kd) (r : ℕ) (d : D) : BI.Storable (upEmb : UEmb _ 𝕄) (pay X wv c k r d) := by
  unfold pay; split <;> infer_instance
instance Rd_storable (g : GSem nD τ sig) (r : ℕ) (d : D) : BI.Storable (upEmb : UEmb _ 𝕄) ((Rd X wv).payload g r d) := pay_storable X wv _ _ _ _

/-! ### The schedule's tables -/

def dset (n : ℕ) : Finset D := Finset.univ.filter fun d : D => d.val < n
theorem card_dset (n : ℕ) (h : n ≤ 8) : (dset n).card = n := by
  have : ∀ n : Fin 9, (dset n.val).card = n.val := by decide
  exact this ⟨n, by omega⟩

theorem duties_cell (c : Dev nD) (k : Fin 11) (r : ℕ) (hr : r < nr (kdN k)) : (Rd X wv).duties (cell c k) r = dset (nd (kdN k)) := by
  dsimp only [Rd]; rw [kd_osem]; exact if_pos ⟨rfl, hr⟩
theorem duties_none (c : Dev nD) (k : Fin 11) (r : ℕ) (hr : nr (kdN k) ≤ r) : (Rd X wv).duties (cell c k) r = ∅ := by
  dsimp only [Rd]; rw [kd_osem]; exact if_neg fun h => absurd h.2 (by omega)
theorem mem_duties (c : Dev nD) (k : Fin 11) (r : ℕ) (d : D) (hr : r < nr (kdN k)) (hd : d.val < nd (kdN k)) :
    d ∈ (Rd X wv).duties (cell c k) r := by
  rw [duties_cell X wv c k r hr]; exact Finset.mem_filter.mpr ⟨Finset.mem_univ _, hd⟩
theorem amount_cell (c : Dev nD) (k : Fin 11) (r : ℕ) (d : D) : (Rd X wv).amount (cell c k) r d = amt (kdN k) := by
  dsimp only [Rd]; rw [kd_osem]
theorem payload_cell (c : Dev nD) (k : Fin 11) (r : ℕ) (d : D) : (Rd X wv).payload (cell c k) r d = pay X wv c (kdN k) r d := by
  dsimp only [Rd]; rw [kd_osem]
theorem nd_le (k : Kd) : nd k ≤ 8 := by cases k <;> simp [nd]
theorem expect_cell (c : Dev nD) (k : Fin 11) (r : ℕ) (hr : r < nr (kdN k)) :
    (Rd X wv).expect (cell c k) r = nd (kdN k) * amt (kdN k) := by
  unfold Schedule.expect Schedule.amountOf
  rw [duties_cell X wv c k r hr, Finset.sum_congr rfl fun d _ => amount_cell X wv c k r d, Finset.sum_const, card_dset _ (nd_le _), smul_eq_mul]

/-! ## What a device owes; the order of waits -/

/-- A device's dues, by name. -/
inductive Due
  | bar (d : Fin 2) | tile (st : Fin 3) (t : Fin 8) | cr (k d : Fin 2) | amax (o : Fin 3)
  deriving DecidableEq

/-- All of them, and their place in the program's order. -/
def allDues : Finset Due :=
  (Finset.univ.image Due.bar) ∪ (Finset.univ.image fun p : Fin 3 × Fin 8 => Due.tile p.1 p.2)
    ∪ (Finset.univ.image fun p : Fin 2 × Fin 2 => Due.cr p.1 p.2) ∪ (Finset.univ.image Due.amax)
def ord : Due → ℕ
  | .bar d => d.val | .tile st t => 2 + 10 * st.val + t.val | .cr k d => 10 + 10 * k.val + d.val | .amax o => 30 + o.val
/-- The dues from place `n` on. -/
def left (n : ℕ) : Finset Due := allDues.filter fun y => n ≤ ord y
theorem mem_allDues (y : Due) : y ∈ allDues := by
  unfold allDues
  cases y <;> simp
theorem ord_inj {y z : Due} (h : ord y = ord z) : y = z := by
  cases y <;> cases z <;> simp only [ord] at h <;> (try omega) <;> congr 1 <;> (apply Fin.ext) <;> omega
theorem left_insert {y : Due} {n : ℕ} (h : ord y = n) : left n = insert y (left (n + 1)) := by
  subst h
  ext z
  simp only [left, Finset.mem_filter, Finset.mem_insert, mem_allDues, true_and]
  constructor
  · intro hz
    rcases Nat.eq_or_lt_of_le hz with h | h
    · exact .inl (ord_inj h.symm)
    · exact .inr h
  · rintro (rfl | h)
    · exact le_rfl
    · omega
theorem not_mem_left {y : Due} {n : ℕ} (h : ord y = n) : y ∉ left (n + 1) := by
  simp only [left, Finset.mem_filter, not_and]; intro _; omega
theorem left_end {n : ℕ} (h : 33 ≤ n) : left n = ∅ := by
  ext z; simp only [left, Finset.mem_filter, Finset.notMem_empty, iff_false, not_and]; intro _
  cases z <;> simp only [ord] <;> omega

/-- The device at the left end of direction 0, at the right end of direction 1. -/
def side (c : Dev nD) (d : Fin 2) : Dev nD := match d with | 0 => prv c | 1 => nxt c
def dcell (c : Dev nD) : Due → GSem nD τ sig
  | .bar d => cell (side c d) 10
  | .tile st t => cell (tow c t) (rrI st)
  | .cr _ d => cell (side c d) (crI d)
  | .amax o => cell (gtow c o) 6
def dix : Due → Ix | .cr k _ => k | _ => 0
def damt : Due → ℕ | .bar _ => 1 | .tile _ _ => Nt | .cr _ _ => Nk | .amax _ => Ng

def owing (c : Dev nD) (Y : Finset Due) : CellTallies nD τ sig Ix := ∑ y ∈ Y, tallyAt (dcell c y) (dix y) (damt y)
theorem owing_insert (c : Dev nD) {Y : Finset Due} {y : Due} (h : y ∉ Y) :
    owing c (insert y Y) = owing c Y + tallyAt (dcell c y) (dix y) (damt y) := by
  unfold owing; rw [Finset.sum_insert h, add_comm]
theorem owing_empty (c : Dev nD) : owing c ∅ = 0 := rfl
theorem owing_pos {c : Dev nD} {Y : Finset Due} {g : GSem nD τ sig} {i : Ix} (h : 0 < owing c Y g i) :
    ∃ y ∈ Y, g = dcell c y ∧ i = dix y := by
  unfold owing at h
  rw [Finset.sum_apply, Finsupp.finset_sum_apply] at h
  obtain ⟨y, hy, hp⟩ := Finset.exists_ne_zero_of_sum_ne_zero (Nat.pos_iff_ne_zero.mp h)
  refine ⟨y, hy, ?_⟩
  rw [tallyAt_apply] at hp
  by_contra hn
  exact hp (if_neg hn)

theorem owing_left (c : Dev nD) {y : Due} {n : ℕ} (h : ord y = n) :
    owing c (left n) = owing c (left (n + 1)) + tallyAt (dcell c y) (dix y) (damt y) := by
  rw [left_insert h, owing_insert c (not_mem_left h)]

def L (g : GSem nD τ sig) : Finset Ix := if g.1.2 = .tc then Finset.univ else ∅
def kl : Kd → Ix → ℕ
  | .bar, _ => 1 | .rr 0, _ => 2 | .cr _, 0 => 3 | .rr 1, _ => 4 | .cr _, 1 => 5 | .rr 2, _ => 6 | .ar, _ => 7 | _, _ => 0
def lv (g : GSem nD τ sig) (i : Ix) : ℕ := kl (kd g.2) i
/-- The level of a due. -/
def dlv : Due → ℕ
  | .bar _ => 1 | .tile 0 _ => 2 | .cr 0 _ => 3 | .tile 1 _ => 4 | .cr 1 _ => 5 | .tile 2 _ => 6 | .amax _ => 7
theorem lv_due (c : Dev nD) (y : Due) : lv (dcell c y) (dix y) = dlv y := by
  cases y with
  | bar d => show kl (kd (osem 10)) _ = _; rw [kd_osem]; rfl
  | tile st t => show kl (kd (osem (rrI st))) _ = _; rw [kd_osem, kdN_rr]; fin_cases st <;> rfl
  | cr k d => show kl (kd (osem (crI d))) _ = _; rw [kd_osem, kdN_cr]; fin_cases k <;> rfl
  | amax o => show kl (kd (osem 6)) _ = _; rw [kd_osem]; rfl
theorem dcell_tc (c : Dev nD) (y : Due) : (dcell c y).1.2 = .tc := by cases y <;> rfl
theorem L_due (c : Dev nD) (y : Due) (i : Ix) : i ∈ L (dcell c y) := by
  unfold L; rw [if_pos (dcell_tc c y)]; exact Finset.mem_univ _

omit [FloatOps F] in
/-- A device may wait on a cell below everything it still owes. -/
theorem mayWait (c : Dev nD) (sm : SemLoc sig) (i : Ix) (Y : Finset Due) (h : ∀ y ∈ Y, kl (kd sm) i < dlv y) :
    (levAts L lv : sProp 𝕄) ⊢ MayWait (c : Thread nD τ) sm i (owing c Y) :=
  Pipeline.mayWait_of_levAts (by unfold L; rw [if_pos rfl]; exact Finset.mem_univ _) fun g j hg => by
    obtain ⟨y, hy, rfl, rfl⟩ := owing_pos hg
    refine ⟨L_due c y _, ?_⟩
    rw [lv_due]; exact h y hy

/-- What a device still owes from place `n` of its program on, whatever it has waited for. -/
def owesL (c : Dev nD) (n : ℕ) : sProp 𝕄 := iprop(∃ W : Waits sig Ix, owes (c : Thread nD τ) (owing c (left n)) W)

end Cert.KernelIdeal.Ring

end
-- ==== Proof.KernelIdeal.Credit.lean ====
/-
# The credits' invariant

A credit transfer tells a neighbour that some slots may be overwritten. Both credits of one direction raise ONE cell, and
the waiter takes them one at a time, so the first wait may be met by units of either: the cell's payloads cannot carry the
slots. They go through an invariant, one per waiting device `w` and direction `d`. The sender leaves credit 0's slots in
it and only then gets the token of the cell's duty 0, leaves credit 1's slots and only then gets the token of duty 1. So
while no slot is there both tokens are, and then nothing of the round can be on the counter: a waiter that has consumed a
unit finds credit 0's slots, one that has consumed the whole round finds credit 1's.
-/
module

public import proofs.«01_k».proof.Proof.KernelIdeal.Sched

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16)

/-- The device that sends to `w` in direction `d`. -/
def sdr (w : Dev nD) (d : Fin 2) : Dev nD := match d with | 0 => nxt w | 1 => prv w
theorem sdr_side (c : Dev nD) (d : Fin 2) : sdr (side c d) d = c := by revert c d; decide

/-- The slots credit `k` stands for: those the sender `s` emptied by step `k`'s sends, the columns the waiter sends to it.
    Credit 0 of direction 0 carries besides the landing slot of the device opposite, which `s` got by the barrier. -/
def freed (s : Dev nD) (d k : Fin 2) : sProp 𝕄 :=
  match k, d with
  | 0, 0 => iprop(slotsAny s 1 0 ∗ gAny (nxt s) 1 ∗ reached ER (cell (nxt s) 6) 0)
  | 0, 1 => slotsAny s 1 1
  | 1, d => slotsAny s 0 d

/-- The token of credit `k`'s duty. -/
def ctok (w : Dev nD) (d k : Fin 2) : sProp 𝕄 := dutyTok ER (cell w (crI d)) 0 (⟨k.val, by omega⟩ : D)
/-- Four markers, none of which exists twice: tokens of a round the barrier never has. 0 and 1: the sender has sent that
    many credits. 2 and 3: the waiter has taken credit 0's slots, credit 1's. -/
def mark (w : Dev nD) (d : Fin 2) (i : Fin 4) : sProp 𝕄 := dutyTok ER (cell w 10) 1 (⟨4 * d.val + i.val, by omega⟩ : D)

/-- The invariant of the waiter `w` in direction `d`. -/
def J (w : Dev nD) (d : Fin 2) : sProp 𝕄 :=
  iprop((ctok w d 0 ∗ ctok w d 1 ∗ mark w d 1)
    ∨ ((freed (sdr w d) d 0 ∨ mark w d 2) ∗ ctok w d 1 ∗ mark w d 0)
    ∨ ((freed (sdr w d) d 0 ∨ mark w d 2) ∗ (freed (sdr w d) d 1 ∨ mark w d 3) ∗ mark w d 0 ∗ mark w d 1))

omit [FloatOps F] in
instance freed_storable (s : Dev nD) (d k : Fin 2) : BI.Storable (upEmb : UEmb _ 𝕄) (freed (F := F) s d k) := by
  unfold freed; split <;> infer_instance
omit [FloatOps F] in
instance ctok_storable (w : Dev nD) (d k : Fin 2) : BI.Storable (upEmb : UEmb _ 𝕄) (ctok (F := F) w d k) := by unfold ctok; infer_instance
omit [FloatOps F] in
instance mark_storable (w : Dev nD) (d : Fin 2) (i : Fin 4) : BI.Storable (upEmb : UEmb _ 𝕄) (mark (F := F) w d i) := by unfold mark; infer_instance
omit [FloatOps F] in
instance J_storable (w : Dev nD) (d : Fin 2) : BI.Storable (upEmb : UEmb _ 𝕄) (J (F := F) w d) := by unfold J; infer_instance

omit [FloatOps F] in
theorem mark_false (w : Dev nD) (d : Fin 2) (i : Fin 4) : iprop(mark w d i ∗ mark w d i) ⊢ (False : sProp 𝕄) := dutyTok_dutyTok_false ER
omit [FloatOps F] in
theorem ctok_false (w : Dev nD) (d k : Fin 2) : iprop(ctok w d k ∗ ctok w d k) ⊢ (False : sProp 𝕄) := dutyTok_dutyTok_false ER

variable {κ κj : ℕ} (w : Dev nD) (d : Fin 2)

omit [FloatOps F] in
/-- The sender leaves credit 0's slots and gets the token to send credit 0 with. -/
theorem credit0 : iprop(inv κj (J w d) ∗ freed (sdr w d) d 0 ∗ mark w d 0) ⊢ (|={Set.univ}=> (ctok w d 0 ∗ mark w d 1) : sProp 𝕄) := by
  iintro ⟨Hi, HS, Hm⟩
  imod (inv_acc (Set.mem_univ κj)) $$ Hi with ⟨HJ, Hclose⟩
  unfold J
  icases HJ with (⟨Ht0, Ht1, Hm1⟩ | ⟨-, -, Hm'⟩ | ⟨-, -, Hm', -⟩)
  rotate_left
  · iexfalso; iapply (mark_false w d 0); isplitl [Hm] <;> iassumption
  · iexfalso; iapply (mark_false w d 0); isplitl [Hm] <;> iassumption
  ihave Hc := Hclose $$ [HS Hm Ht1]
  · iright; ileft
    isplitl [HS]; · ileft; iexact HS
    isplitl [Ht1] <;> iassumption
  imod Hc
  imodintro
  isplitl [Ht0] <;> iassumption

omit [FloatOps F] in
/-- The same for credit 1. -/
theorem credit1 : iprop(inv κj (J w d) ∗ freed (sdr w d) d 1 ∗ mark w d 1) ⊢ (|={Set.univ}=> ctok w d 1 : sProp 𝕄) := by
  iintro ⟨Hi, HS, Hm⟩
  imod (inv_acc (Set.mem_univ κj)) $$ Hi with ⟨HJ, Hclose⟩
  unfold J
  icases HJ with (⟨-, -, Hm'⟩ | ⟨H0, Ht1, Hm0⟩ | ⟨-, -, -, Hm'⟩)
  · iexfalso; iapply (mark_false w d 1); isplitl [Hm] <;> iassumption
  rotate_left
  · iexfalso; iapply (mark_false w d 1); isplitl [Hm] <;> iassumption
  ihave Hc := Hclose $$ [HS Hm H0 Hm0]
  · iright; iright
    isplitl [H0]; · iexact H0
    isplitl [HS]; · ileft; iexact HS
    isplitl [Hm0] <;> iassumption
  imod Hc
  imodintro
  iexact Ht1

/-- Both tokens outside the cell refute a consumed unit: -/
theorem no_tokens (v : ℕ) {T : Finset D} {m : ℕ} (hm : 0 < m) :
    iprop(roundState ER (Rd X wv) (cell w (crI d)) v ∗ atPos ER (cell w (crI d)) 0 T m ∗ ctok w d 0 ∗ ctok w d 1) ⊢ (False : sProp 𝕄) := by
  have hsub : ∀ B : Finset D, B ⊆ (Rd X wv).duties (cell w (crI d)) 0 → B.Nonempty →
      (iprop(bigSep B (fun e => dutyTok ER (cell w (crI d)) 0 e) ∗ ctok w d 0 ∗ ctok w d 1) ⊢ (False : sProp 𝕄)) := by
    rintro B hB ⟨e, he⟩
    have h1 : e.val < 2 := by
      have := hB he
      rw [duties_cell X wv w (crI d) 0 (by rw [kdN_cr]; exact Nat.one_pos), kdN_cr] at this
      exact (Finset.mem_filter.mp this).2
    iintro ⟨HB, H0, H1⟩
    icases (Rounds.bigSep_pick he) $$ HB with ⟨He, -⟩
    have h2 : e = (0 : D) ∨ e = (1 : D) := by
      rcases Nat.lt_or_ge e.val 1 with h | h
      · left; apply Fin.ext; show e.val = 0; omega
      · right; apply Fin.ext; show e.val = 1; omega
    rcases h2 with h2 | h2 <;> rw [h2]
    · iapply (ctok_false w d 0); unfold ctok; isplitl [He]; · iexact He
      iexact H0
    · iapply (ctok_false w d 1); unfold ctok; isplitl [He]; · iexact He
      iexact H1
  have htok : ∀ A : Finset D, (bigSep A (fun e => iprop(dutyTok ER (cell w (crI d)) 0 e ∗ (Rd X wv).payload (cell w (crI d)) 0 e)) : sProp 𝕄)
      ⊢ bigSep A (fun e => dutyTok ER (cell w (crI d)) 0 e) := fun A => bigSep_mono fun e _ => by
    show iprop(dutyTok ER (cell w (crI d)) 0 e ∗ (Rd X wv).payload (cell w (crI d)) 0 e) ⊢ dutyTok ER (cell w (crI d)) 0 e
    iintro ⟨H, -⟩; iexact H
  unfold roundState
  iintro ⟨⟨%R, %T', %m', %A, %L', %P, Hauth, -, %hf, -, HT, HA, HL⟩, Hat, H0, H1⟩
  icombine Hauth Hat gives %hag
  obtain ⟨rfl, rfl, rfl⟩ := hag
  by_cases hT : T.Nonempty
  · iapply (hsub T hf.T_sub hT); isplitl [HT]; · iexact HT
    isplitl [H0] <;> iassumption
  by_cases hA : A.Nonempty
  · iapply (hsub A (hf.A_sub.trans Finset.sdiff_subset) hA); isplitl [HA]
    · iapply (htok A)
      iexact HA
    isplitl [H0] <;> iassumption
  by_cases hL : L'.Nonempty
  · iapply (hsub L' (hf.L_sub.trans (Finset.sdiff_subset.trans Finset.sdiff_subset)) hL); isplitl [HL]; · iexact HL
    isplitl [H0] <;> iassumption
  exfalso
  have hv := hf.v_eq
  rw [Finset.not_nonempty_iff_eq_empty.mp hT, Finset.not_nonempty_iff_eq_empty.mp hA, Finset.not_nonempty_iff_eq_empty.mp hL] at hv
  simp at hv
  omega

/-- and the token of a duty of a consumed round is in the cell. -/
theorem no_past (v : ℕ) {T : Finset D} {m : ℕ} (k : Fin 2) :
    iprop(roundState ER (Rd X wv) (cell w (crI d)) v ∗ atPos ER (cell w (crI d)) 1 T m ∗ ctok w d k) ⊢ (False : sProp 𝕄) := by
  unfold roundState
  iintro ⟨⟨%R, %T', %m', %A, %L', %P, Hauth, -, %hf, Hold, -⟩, Hat, H0⟩
  icombine Hauth Hat gives %hag
  obtain ⟨rfl, rfl, rfl⟩ := hag
  icases (Rounds.bigSep_pick (Finset.mem_range.mpr Nat.one_pos)) $$ Hold with ⟨Hr, -⟩
  icases (Rounds.bigSep_pick (mem_duties X wv w (crI d) 0 (⟨k.val, by omega⟩ : D) (by rw [kdN_cr]; exact Nat.one_pos) (by rw [kdN_cr]; exact k.isLt))) $$ Hr with ⟨He, -⟩
  iapply (ctok_false w d k); unfold ctok; isplitl [He] <;> iassumption

/-- Having consumed a unit of the round, the waiter takes credit 0's slots. -/
theorem claim0 (hne : κ ≠ κj) {T : Finset D} {m : ℕ} (hm : 0 < m) :
    iprop(cellInv ER (Rd X wv) κ (cell w (crI d)) ∗ inv κj (J w d) ∗ atPos ER (cell w (crI d)) 0 T m ∗ mark w d 2)
      ⊢ (|={Set.univ}=> (atPos ER (cell w (crI d)) 0 T m ∗ freed (sdr w d) d 0) : sProp 𝕄) := by
  iintro ⟨Hc, Hi, Hat, Hm⟩
  imod (inv_acc (Set.mem_univ κj)) $$ Hi with ⟨HJ, Hclose⟩
  imod (fupd_roundState ER (Rd X wv) (κ := κ) (g := cell w (crI d)) (Es := Set.univ \ {κj})
      (X := iprop(atPos ER (cell w (crI d)) 0 T m ∗ J w d ∗ mark w d 2))
      (Y := iprop(atPos ER (cell w (crI d)) 0 T m ∗ J w d ∗ freed (sdr w d) d 0)) ⟨Set.mem_univ _, hne⟩
      (by iintro ⟨H1, H2, -⟩; iapply (closed_atPos_false ER (Rd X wv)); isplitl [H1] <;> iassumption)
      (by iintro ⟨H1, H2, -⟩; iapply (dormant_atPos_false ER (Rd X wv)); isplitl [H1] <;> iassumption)
      (fun v => by
        unfold J
        iintro ⟨Hst, Hat, HJ, Hm⟩
        icases HJ with (⟨Ht0, Ht1, -⟩ | ⟨(HS | Hm'), Ht1, Hm0⟩ | ⟨(HS | Hm'), H1, Hm0, Hm1⟩)
        · iexfalso; iapply (no_tokens X wv w d v hm)
          isplitl [Hst]; · iexact Hst
          isplitl [Hat]; · iexact Hat
          isplitl [Ht0] <;> iassumption
        · imodintro
          isplitl [Hst]; · iexact Hst
          isplitl [Hat]; · iexact Hat
          isplitr [HS]
          · iright; ileft; isplitl [Hm]; · iright; iexact Hm
            isplitl [Ht1] <;> iassumption
          iexact HS
        · iexfalso; iapply (mark_false w d 2); isplitl [Hm] <;> iassumption
        · imodintro
          isplitl [Hst]; · iexact Hst
          isplitl [Hat]; · iexact Hat
          isplitr [HS]
          · iright; iright; isplitl [Hm]; · iright; iexact Hm
            isplitl [H1]; · iexact H1
            isplitl [Hm0] <;> iassumption
          iexact HS
        · iexfalso; iapply (mark_false w d 2); isplitl [Hm] <;> iassumption)) $$ [Hc Hat HJ Hm] with ⟨Hat, HJ, HS⟩
  · isplitl [Hc]; · iexact Hc
    isplitl [Hat]; · iexact Hat
    isplitl [HJ] <;> iassumption
  ihave Hcl := Hclose $$ HJ
  imod Hcl
  imodintro
  isplitl [Hat] <;> iassumption

/-- Having consumed the whole round, the waiter takes credit 1's slots. -/
theorem claim1 (hne : κ ≠ κj) :
    iprop(cellInv ER (Rd X wv) κ (cell w (crI d)) ∗ inv κj (J w d) ∗ atPos ER (cell w (crI d)) 1 ∅ 0 ∗ mark w d 3)
      ⊢ (|={Set.univ}=> (atPos ER (cell w (crI d)) 1 ∅ 0 ∗ freed (sdr w d) d 1) : sProp 𝕄) := by
  iintro ⟨Hc, Hi, Hat, Hm⟩
  imod (inv_acc (Set.mem_univ κj)) $$ Hi with ⟨HJ, Hclose⟩
  imod (fupd_roundState ER (Rd X wv) (κ := κ) (g := cell w (crI d)) (Es := Set.univ \ {κj})
      (X := iprop(atPos ER (cell w (crI d)) 1 ∅ 0 ∗ J w d ∗ mark w d 3))
      (Y := iprop(atPos ER (cell w (crI d)) 1 ∅ 0 ∗ J w d ∗ freed (sdr w d) d 1)) ⟨Set.mem_univ _, hne⟩
      (by iintro ⟨H1, H2, -⟩; iapply (closed_atPos_false ER (Rd X wv)); isplitl [H1] <;> iassumption)
      (by iintro ⟨H1, H2, -⟩; iapply (dormant_atPos_false ER (Rd X wv)); isplitl [H1] <;> iassumption)
      (fun v => by
        unfold J
        iintro ⟨Hst, Hat, HJ, Hm⟩
        icases HJ with (⟨-, Ht1, -⟩ | ⟨-, Ht1, -⟩ | ⟨H0, (HS | Hm'), Hm0, Hm1⟩)
        · iexfalso; iapply (no_past X wv w d v 1)
          isplitl [Hst]; · iexact Hst
          isplitl [Hat] <;> iassumption
        · iexfalso; iapply (no_past X wv w d v 1)
          isplitl [Hst]; · iexact Hst
          isplitl [Hat] <;> iassumption
        · imodintro
          isplitl [Hst]; · iexact Hst
          isplitl [Hat]; · iexact Hat
          isplitr [HS]
          · iright; iright; isplitl [H0]; · iexact H0
            isplitl [Hm]; · iright; iexact Hm
            isplitl [Hm0] <;> iassumption
          iexact HS
        · iexfalso; iapply (mark_false w d 3); isplitl [Hm] <;> iassumption)) $$ [Hc Hat HJ Hm] with ⟨Hat, HJ, HS⟩
  · isplitl [Hc]; · iexact Hc
    isplitl [Hat]; · iexact Hat
    isplitl [HJ] <;> iassumption
  ihave Hcl := Hclose $$ HJ
  imod Hcl
  imodintro
  isplitl [Hat] <;> iassumption

end Cert.KernelIdeal.Ring

end
-- ==== Proof.KernelIdeal.Steps.lean ====
/-
# One lemma per kind of step

The records every device keeps (`recs`: the cells' invariants, the credits' invariants, the order of waits), and the
kernel's remote steps and waits, each once: a wait for one of a round's several transfers (`wp_wait_part`), for the last
(`wp_wait_last`), the send of a tile, of a credit, of the maximum, the fetch of a block of `x`, the barrier's signals.
-/
module

public import proofs.«01_k».proof.Proof.KernelIdeal.Credit

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16)

/-! ## Records -/

/-- The invariants' names. -/
structure Names where
  K : Dev nD → Fin 11 → ℕ
  KJ : Dev nD → Fin 2 → ℕ
  ne : ∀ w d, K w (crI d) ≠ KJ w d

variable (N : Names)

/-- What every device knows throughout. -/
def recs : sProp 𝕄 :=
  iprop(bigSep Finset.univ (fun p : Dev nD × Fin 11 => cellInv ER (Rd X wv) (N.K p.1 p.2) (cell p.1 p.2))
    ∗ bigSep Finset.univ (fun p : Dev nD × Fin 2 => inv (N.KJ p.1 p.2) (J p.1 p.2)) ∗ levAts L lv)

instance recs_persistent : BI.Persistent (recs X wv N) := by unfold recs; infer_instance

theorem recs_cell (c : Dev nD) (k : Fin 11) : recs X wv N ⊢ cellInv ER (Rd X wv) (N.K c k) (cell c k) := by
  unfold recs
  iintro ⟨H, -, -⟩
  icases (Rounds.bigSep_pick (Finset.mem_univ ((c, k) : Dev nD × Fin 11))) $$ H with ⟨H, -⟩
  iexact H
theorem recs_J (c : Dev nD) (d : Fin 2) : recs X wv N ⊢ inv (N.KJ c d) (J c d) := by
  unfold recs
  iintro ⟨-, H, -⟩
  icases (Rounds.bigSep_pick (Finset.mem_univ ((c, d) : Dev nD × Fin 2))) $$ H with ⟨H, -⟩
  iexact H
theorem recs_lev : recs X wv N ⊢ levAts L lv := by
  unfold recs
  iintro ⟨-, -, H⟩
  iexact H

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem WP_ret (c : Dev nD) {α : Type} (a : α) {Q : α → sProp 𝕄} : Q a ⊢ WP c (.ret a) Q := by
  rw [WP, wp_ret]; iintro H; imodintro; iexact H
theorem WP_bind (c : Dev nD) {α β : Type} (p : Prog (TpuEff nD τ sig (Elt F) Λ₀ .tc) α) (k : α → Prog (TpuEff nD τ sig (Elt F) Λ₀ .tc) β)
    {Q : β → sProp 𝕄} : WP c (p >>= k) Q = WP c p (fun a => WP c (k a) Q) := wp_bind ..

/-! ## Waits for one transfer of several -/

/-- Round `R` of a cell after `j` of its transfers were awaited: the position, and what has come in. -/
def WS0 (c : Dev nD) (k : Fin 11) (R j : ℕ) : sProp 𝕄 :=
  iprop(∃ T : Finset D, ⌜T ⊆ (Rd X wv).duties (cell c k) R⌝ ∗ atPos ER (cell c k) R T (j * amt (kdN k))
    ∗ bigSep T (fun d => (Rd X wv).payload (cell c k) R d))
/-- The same with the credit for the waits to come. -/
def WS (c : Dev nD) (k : Fin 11) (ι : Ix) (R j : ℕ) : sProp 𝕄 :=
  iprop(WS0 X wv c k R j ∗ cred (tallyAt (cell c k) ι ((nd (kdN k) - j) * amt (kdN k))))

theorem WS0_start (c : Dev nD) (k : Fin 11) (R : ℕ) : (atPos ER (cell c k) R ∅ 0 : sProp 𝕄) ⊢ WS0 X wv c k R 0 := by
  unfold WS0
  iintro Hat
  iexists ∅
  isplitr; · ipureintro; exact Finset.empty_subset _
  isplitl [Hat]; · rw [Nat.zero_mul]; iexact Hat
  rw [bigSep_empty]; iempintro
theorem WS_start (c : Dev nD) (k : Fin 11) (ι : Ix) (R : ℕ) :
    iprop(atPos ER (cell c k) R ∅ 0 ∗ cred (tallyAt (cell c k) ι (nd (kdN k) * amt (kdN k)))) ⊢ WS X wv c k ι R 0 := by
  unfold WS
  iintro ⟨Hat, Hc⟩
  isplitl [Hat]; · iapply (WS0_start X wv c k R); iexact Hat
  rw [Nat.sub_zero]; iexact Hc

omit [FloatOps F] in
theorem cred_split (g : GSem nD τ sig) (ι : Ix) (a b : ℕ) :
    (cred (tallyAt g ι (a + b)) : sProp 𝕄) ⊣⊢ iprop(cred (tallyAt g ι a) ∗ cred (tallyAt g ι b)) := by
  have : (tallyAt g ι (a + b) : CellTallies nD τ sig Ix) = tallyAt g ι a + tallyAt g ι b := (tallyAt_add g ι a b).symm
  rw [this]; exact cred_add _ _

omit [FloatOps F] in
theorem bigSep_rejoin {I : Type} [DecidableEq I] {s t : Finset I} (h : t ⊆ s) {Φ : I → sProp 𝕄} :
    iprop(bigSep t Φ ∗ bigSep (s \ t) Φ) ⊢ bigSep s Φ := Entails.of_eq (BI.bigSep_sdiff_split h).symm

variable {α : Type}

/-- A wait for one transfer, more to come after it. -/
theorem wp_wait_part0 (c : Dev nD) (k : Fin 11) (ι : Ix) (R j n : ℕ) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (osem k) (amt (kdN k)) Q)
    (hj : j + 1 < nd (kdN k)) (hlv : ∀ y ∈ left n, kl (kdN k) ι < dlv y)
    {kk : PUnit → Prog (TpuEff nD τ sig (Elt F) Λ₀ .tc) α} {Q : α → sProp 𝕄} :
    iprop(recs X wv N ∗ owesL c n ∗ WS0 X wv c k R j ∗ cred (tallyAt (cell c k) ι (amt (kdN k))))
      ⊢ iprop(((owesL c n ∗ WS0 X wv c k R (j + 1)) -∗ WP c (kk ⟨⟩) Q) -∗ WP c (.op w kk) Q) := by
  unfold owesL WS0
  iintro ⟨#Hr, ⟨%W, HO⟩, ⟨%T, %hT, Hat, Hp⟩, Hc1⟩ Hk
  have htot : Util.total (Finsupp.single ι (amt (kdN k))) = amt (kdN k) := Util.total_single ι _
  have hmw := mayWait (F := F) c (osem k) ι (left n) (by rw [kd_osem]; exact hlv)
  iapply (Rounds.wp_wait 𝒱₀ ER (Rd X wv) (c : Thread nD τ) none (κ := N.K c k) (sm := osem k) (k' := amt (kdN k)) hw (Set.mem_univ _)
      (cr := Finsupp.single ι (amt (kdN k))) (O := owing c (left n)) (W := W) {(osem k, ι)} (R := R) (T := T) htot (image_single_subset (osem k) ι _)) $$ [Hc1 HO Hat]
  · isplitr; · iapply (recs_cell X wv N c k); iexact Hr
    isplitl [Hc1]; · iexact Hc1
    isplitl [HO]; · iexact HO
    isplitr
    · iapply hmw; iapply (recs_lev X wv N); iexact Hr
    iexact Hat
  iintro %S ⟨%hS, HO, Hat, Hp2⟩
  iapply Hk
  isplitl [HO]; · iexists _; iexact HO
  iexists S
  isplitr; · ipureintro; exact hS.2.1
  isplitl [Hat]; · rw [show (j + 1) * amt (kdN k) = j * amt (kdN k) + amt (kdN k) from by rw [Nat.add_mul, Nat.one_mul]]; iexact Hat
  iapply (bigSep_rejoin hS.1 (Φ := fun d => (Rd X wv).payload (cell c k) R d))
  isplitl [Hp]; · iexact Hp
  iexact Hp2

/-- The wait for a round's last transfer: everything the round delivers is there. -/
theorem wp_wait_last0 (c : Dev nD) (k : Fin 11) (ι : Ix) (R j n : ℕ) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (osem k) (amt (kdN k)) Q)
    (hR : R < nr (kdN k)) (hj : j + 1 = nd (kdN k)) (hlv : ∀ y ∈ left n, kl (kdN k) ι < dlv y)
    {kk : PUnit → Prog (TpuEff nD τ sig (Elt F) Λ₀ .tc) α} {Q : α → sProp 𝕄} :
    iprop(recs X wv N ∗ owesL c n ∗ WS0 X wv c k R j ∗ cred (tallyAt (cell c k) ι (amt (kdN k))))
      ⊢ iprop(((owesL c n ∗ atPos ER (cell c k) (R + 1) ∅ 0 ∗ reached ER (cell c k) (R + 1)
            ∗ bigSep (dset (nd (kdN k))) (fun d => pay X wv c (kdN k) R d)) -∗ WP c (kk ⟨⟩) Q) -∗ WP c (.op w kk) Q) := by
  unfold owesL WS0
  iintro ⟨#Hr, ⟨%W, HO⟩, ⟨%T, %hT, Hat, Hp⟩, Hc1⟩ Hk
  have hmw := mayWait (F := F) c (osem k) ι (left n) (by rw [kd_osem]; exact hlv)
  have hex : j * amt (kdN k) + amt (kdN k) = (Rd X wv).expect (cell c k) R := by
    rw [expect_cell X wv c k R hR, ← hj, Nat.add_mul, Nat.one_mul]
  iapply (Rounds.wp_wait_rest_token 𝒱₀ ER (Rd X wv) (c : Thread nD τ) none (κ := N.K c k) (sm := osem k) (k' := amt (kdN k)) hw (Set.mem_univ _)
      ι (O := owing c (left n)) (W := W) (R := R) (T := T) (m := j * amt (kdN k)) hex) $$ [Hc1 HO Hat]
  · isplitr; · iapply (recs_cell X wv N c k); iexact Hr
    isplitl [Hc1]; · iexact Hc1
    isplitl [HO]; · iexact HO
    isplitr
    · iapply hmw; iapply (recs_lev X wv N); iexact Hr
    iexact Hat
  iintro ⟨HO, Hat, Hre, Hp2⟩
  iapply Hk
  isplitl [HO]; · iexists _; iexact HO
  isplitl [Hat]; · iexact Hat
  isplitl [Hre]; · iexact Hre
  rw [← duties_cell X wv c k R hR]
  have e2 : (fun d => pay X wv c (kdN k) R d) = fun d => (Rd X wv).payload (cell c k) R d := funext fun d => (payload_cell X wv c k R d).symm
  rw [e2]
  iapply (bigSep_rejoin hT (Φ := fun d => (Rd X wv).payload (cell c k) R d))
  isplitl [Hp]; · iexact Hp
  iexact Hp2

/-- The state between two waits on a cell. -/
def WW (c : Dev nD) (n : ℕ) (k : Fin 11) (ι : Ix) (R j : ℕ) : sProp 𝕄 := iprop(recs X wv N ∗ owesL c n ∗ WS X wv c k ι R j)
/-- The state after the last wait of a round. -/
def WL (c : Dev nD) (n : ℕ) (k : Fin 11) (R : ℕ) : sProp 𝕄 :=
  iprop(owesL c n ∗ atPos ER (cell c k) (R + 1) ∅ 0 ∗ reached ER (cell c k) (R + 1)
    ∗ bigSep (dset (nd (kdN k))) (fun d => pay X wv c (kdN k) R d))

theorem wp_dma_part (c : Dev nD) (k : Fin 11) (ι : Ix) (R j n : ℕ) {sem : DmaSem sig} {sp sp' : Space} {s s' : Shape} {e e' : EltTy}
    {src : Memref sig .tc sp' s' e'} {dst : Memref sig .tc sp s e} {hsrc : src.view.WordExact} {hdst : dst.view.WordExact}
    (hs : osem k = .dma sem) (ha : dst.view.dmaCredit = amt (kdN k)) (hj : j + 1 < nd (kdN k)) (hlv : ∀ y ∈ left n, kl (kdN k) ι < dlv y)
    {kk : PUnit → Prog (TpuEff nD τ sig (Elt F) Λ₀ .tc) α} {Q : α → sProp 𝕄} :
    WW X wv N c n k ι R j ⊢ iprop((WW X wv N c n k ι R (j + 1) -∗ WP c (kk ⟨⟩) Q) -∗ WP c (.op (.waitDma2 sem src dst hsrc hdst) kk) Q) := by
  unfold WW WS
  iintro ⟨#Hr, HO, HW, Hc⟩ Hk
  have e : (nd (kdN k) - j) * amt (kdN k) = amt (kdN k) + (nd (kdN k) - (j + 1)) * amt (kdN k) := by
    have : nd (kdN k) - j = 1 + (nd (kdN k) - (j + 1)) := by omega
    rw [this, Nat.add_mul, Nat.one_mul]
  rw [e]
  icases (cred_split (cell c k) ι _ _).1 $$ Hc with ⟨Hc1, Hc⟩
  iapply (wp_wait_part0 X wv N c k ι R j n (fun K => by rw [hs, ← ha]; exact wpE_waitDma2_eq 𝒱₀ (c : Thread nD τ) none Set.univ K) hj hlv) $$ [HO HW Hc1]
  · isplitr; · iexact Hr
    isplitl [HO]; · iexact HO
    isplitl [HW]; · iexact HW
    iexact Hc1
  iintro ⟨HO, HW⟩
  iapply Hk
  isplitr; · iexact Hr
  isplitl [HO]; · iexact HO
  isplitl [HW]; · iexact HW
  iexact Hc

theorem wp_dma_last (c : Dev nD) (k : Fin 11) (ι : Ix) (R j n : ℕ) {sem : DmaSem sig} {sp sp' : Space} {s s' : Shape} {e e' : EltTy}
    {src : Memref sig .tc sp' s' e'} {dst : Memref sig .tc sp s e} {hsrc : src.view.WordExact} {hdst : dst.view.WordExact}
    (hs : osem k = .dma sem) (ha : dst.view.dmaCredit = amt (kdN k)) (hR : R < nr (kdN k)) (hj : j + 1 = nd (kdN k)) (hlv : ∀ y ∈ left n, kl (kdN k) ι < dlv y)
    {kk : PUnit → Prog (TpuEff nD τ sig (Elt F) Λ₀ .tc) α} {Q : α → sProp 𝕄} :
    WW X wv N c n k ι R j ⊢ iprop((WL X wv c n k R -∗ WP c (kk ⟨⟩) Q) -∗ WP c (.op (.waitDma2 sem src dst hsrc hdst) kk) Q) := by
  unfold WW WS WL
  iintro ⟨#Hr, HO, HW, Hc⟩ Hk
  have e : (nd (kdN k) - j) * amt (kdN k) = amt (kdN k) := by
    have : nd (kdN k) - j = 1 := by omega
    rw [this, Nat.one_mul]
  rw [e]
  iapply (wp_wait_last0 X wv N c k ι R j n (fun K => by rw [hs, ← ha]; exact wpE_waitDma2_eq 𝒱₀ (c : Thread nD τ) none Set.univ K) hR hj hlv) $$ [HO HW Hc]
  · isplitr; · iexact Hr
    isplitl [HO]; · iexact HO
    isplitl [HW]; · iexact HW
    iexact Hc
  iexact Hk

end Cert.KernelIdeal.Ring

end
-- ==== Proof.KernelIdeal.Moves.lean ====
/-
# Loads, stores, transfers and signals

The remaining steps of the kernel, each once: a load and a store of a piece, the barrier's signals and wait, the fetch of
a block of `x`, the send of a tile, of a credit, of the maximum.
-/
module

public import proofs.«01_k».proof.Proof.KernelIdeal.Steps

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## Loads and stores -/

section LoadStore
variable {cs : CoreSpace} {s : Shape} {e : EltTy} {m : Memref sig .tc cs s e} {r : Rect s} {α : Type}

omit [FloatOps F] in
theorem any_piece (c : Dev nD) : (pieceAny m r c : sProp 𝕄) ⊢ iprop(∃ v, piece m r c v) := by
  unfold pieceAny piece
  iintro ⟨%f, H⟩
  iexists ((m.access r).read (Elt F) f); iexists f
  isplitr; · ipureintro; rfl
  iexact H

theorem wp_load_piece (c : Dev nD) {hl : m.view.LoadsAt r.toLoadRect} {v : r.shape.Idx → Elt F e}
    {k : (r.shape.Idx → Elt F e) → Prog (TpuEff nD τ sig (Elt F) Λ₀ .tc) α} {Q : α → sProp 𝕄} :
    (piece m r c v : sProp 𝕄) ⊢ iprop((piece m r c v -∗ WP c (k v) Q) -∗ WP c (.op (.load m r.toLoadRect hl) k) Q) := by
  unfold piece
  iintro ⟨%f, %hf, H⟩ Hk
  iapply (wp_load_rect 𝒱₀ (c : Thread nD τ) none Set.univ (m := m) (r := r) (hl := hl) (Finset.Subset.refl _)) $$ H
  iintro H
  rw [hf]
  iapply Hk
  iexists f
  isplitr; · ipureintro; exact hf
  iexact H

theorem wp_store_piece (c : Dev nD) {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (pieceAny m r c : sProp 𝕄) ⊢ iprop((piece m r c w -∗ WP c (k ⟨⟩) Q) -∗ WP c (.op (.store m r w Finset.univ hx hm) k) Q) := by
  unfold pieceAny piece
  iintro ⟨%f, H⟩ Hk
  iapply (wp_store 𝒱₀ (c : Thread nD τ) none Set.univ (m := m) (r := r) (hx := hx) (hm := hm) (w := w) (Mk := Finset.univ) (f := f) (S := (m.access r).set) (by rw [View.setOn_univ])) $$ H
  iintro H
  iapply Hk
  iexists ((m.access r).write (Elt F) f w Finset.univ)
  isplitr; · ipureintro; exact View.read_write_univ (Val := Elt F) (v := m.access r) f w
  iexact H

omit [FloatOps F] in
/-- A piece as the source of a transfer from the squeezed slice. -/
theorem piece_src (hr : ∀ a, r.stride a = 1) {s' : Shape} (h : r.shape.Squeezes s') (c : Dev nD) (v : r.shape.Idx → Elt F e) :
    (piece m r c v : sProp 𝕄) ⊢ iprop(∃ f, ⌜unsq r h (((m.slice r hr).squeeze s' h).view.read (Elt F) f) = v⌝
      ∗ (((m.slice r hr).squeeze s' h).view.loc (c : Thread nD τ)) ↦[((m.slice r hr).squeeze s' h).view.set]{fullShare} f) := by
  unfold piece
  iintro ⟨%f, %hf, H⟩
  iexists f
  isplitr
  · ipureintro
    subst hf
    funext j
    show ((m.slice r hr).view.reshape s' h.numel_eq).read (Elt F) _ _ = _
    rw [View.read_apply, View.read_apply, View.emb_reshape]
    simp
  · have hs : ((m.slice r hr).squeeze s' h).view.set = (m.access r).set := View.set_reshape _ _
    rw [hs]; iexact H

omit [FloatOps F] in
theorem pieceAny_squeeze (hr : ∀ a, r.stride a = 1) {s' : Shape} (h : r.shape.Squeezes s') (c : Dev nD) :
    (pieceAny (F := F) m r c : sProp 𝕄) ⊣⊢ iprop(∃ f, (((m.slice r hr).squeeze s' h).view.loc (c : Thread nD τ)) ↦[((m.slice r hr).squeeze s' h).view.set]{fullShare} f) := by
  have hs : ((m.slice r hr).squeeze s' h).view.set = (m.access r).set := View.set_reshape _ _
  unfold pieceAny
  rw [hs]

end LoadStore

section Moves
variable {α : Type}

theorem ofNat2 (h : Fin 2) : Fin.ofNat 2 h.val = h := by revert h; decide
theorem ofNat3 (h : Fin 3) : Fin.ofNat 3 h.val = h := by revert h; decide
theorem ofNat4 (h : Fin 4) : Fin.ofNat 4 h.val = h := by revert h; decide
theorem ofNat8 (h : Fin 8) : Fin.ofNat 8 h.val = h := by revert h; decide
theorem amount_x (h : Fin 2) : (vT h).view.amount (.dma xS) = Nx := by revert h; decide +kernel
theorem amount_tile (st : Fin 3) (t : Fin 8) : (cT (dOf st) t).view.amount (osem (rrI st)) = Nt := by revert st t; decide +kernel
theorem amount_credit (k d : Fin 2) : (kT (kslot k d)).view.amount (osem (crI d)) = Nk := by revert k d; decide +kernel
theorem amount_max (o : Fin 3) : (gT o).view.amount (.dma arS) = Ng := by revert o; decide +kernel

/-! ## The barrier -/

theorem wp_bar_signal (c : Dev nD) (d : Fin 2) {c' : Dev nD} (hc : c' = side c d)
    {kk : PUnit → Prog (TpuEff nD τ sig (Elt F) Λ₀ .tc) α} {Q : α → sProp 𝕄} :
    iprop(recs X wv N ∗ owesL c d.val ∗ dutyTok ER (cell (side c d) 10) 0 (⟨d.val, by omega⟩ : D) ∗ barPay (side c d) d
        ∗ reached ER (cell (side c d) 10) 0)
      ⊢ iprop((owesL c (d.val + 1) -∗ WP c (kk ⟨⟩) Q) -∗ WP c (.op (.semSignal (c', .tc) barS 1) kk) Q) := by
  subst hc
  unfold owesL
  iintro ⟨#Hr, ⟨%W, HO⟩, Ht, Hp, Hre⟩ Hk
  have hpay : (Rd X wv).payload (cell (side c d) 10) 0 (⟨d.val, by omega⟩ : D) = barPay (side c d) d := by
    rw [payload_cell]; show barPay (side c d) (Fin.ofNat 2 d.val) = _
    rw [ofNat2]
  have hO := owing_left c (y := Due.bar d) (n := d.val) rfl
  have hd := mem_duties X wv (side c d) 10 0 (⟨d.val, by omega⟩ : D) Nat.one_pos d.isLt
  have hk : (Rd X wv).amount (cell (side c d) 10) 0 (⟨d.val, by omega⟩ : D) = 1 := amount_cell X wv (side c d) 10 0 _
  iapply (Rounds.wp_signal 𝒱₀ ER (Rd X wv) (c : Thread nD τ) none (dst := (side c d : Thread nD τ)) (κ := N.K (side c d) 10) (d := (⟨d.val, by omega⟩ : D)) hd hk
      0 (owing c (left (d.val + 1))) hO) $$ [HO Ht Hp Hre]
  · isplitr; · iapply (recs_cell X wv N (side c d) 10); iexact Hr
    isplitl [HO]; · iexact HO
    isplitl [Ht]; · iexact Ht
    isplitl [Hp]; · rw [hpay]; iexact Hp
    iexact Hre
  iintro HO
  iapply Hk
  iexists _; iexact HO

theorem wp_bar_wait (c : Dev nD) {kk : PUnit → Prog (TpuEff nD τ sig (Elt F) Λ₀ .tc) α} {Q : α → sProp 𝕄} :
    iprop(recs X wv N ∗ owesL c 2 ∗ atPos ER (cell c 10) 0 ∅ 0 ∗ cred (tallyAt (cell c 10) 0 2))
      ⊢ iprop(((owesL c 2 ∗ atPos ER (cell c 10) 1 ∅ 0 ∗ barPay c 0 ∗ barPay c 1) -∗ WP c (kk ⟨⟩) Q) -∗ WP c (.op (.semWait barS 2) kk) Q) := by
  unfold owesL
  iintro ⟨#Hr, ⟨%W, HO⟩, Hat, Hc⟩ Hk
  have hlv : ∀ y ∈ left 2, kl (kd (.reg barS)) 0 < dlv y := by decide
  have hmw := mayWait (F := F) c (osem 10) 0 (left 2) hlv
  have hex : 0 + 2 = (Rd X wv).expect (cell c 10) 0 := by rw [expect_cell X wv c 10 0 Nat.one_pos]; rfl
  iapply (Rounds.wp_wait_rest_token 𝒱₀ ER (Rd X wv) (c : Thread nD τ) none (κ := N.K c 10) (sm := osem 10) (k' := 2)
      (fun K => wpE_semWait_eq 𝒱₀ (c : Thread nD τ) none Set.univ K) (Set.mem_univ _)
      0 (O := owing c (left 2)) (W := W) (R := 0) (T := ∅) (m := 0) hex) $$ [Hc HO Hat]
  · isplitr; · iapply (recs_cell X wv N c 10); iexact Hr
    isplitl [Hc]; · iexact Hc
    isplitl [HO]; · iexact HO
    isplitr; · iapply hmw; iapply (recs_lev X wv N); iexact Hr
    iexact Hat
  iintro ⟨HO, Ha, -, Hp⟩
  iapply Hk
  isplitl [HO]; · iexists _; iexact HO
  isplitl [Ha]; · iexact Ha
  have h0 := mem_duties X wv c 10 0 (0 : D) Nat.one_pos (by decide)
  have h1 := mem_duties X wv c 10 0 (1 : D) Nat.one_pos (by decide)
  rw [Finset.sdiff_empty]
  icases (Rounds.bigSep_pick h0) $$ Hp with ⟨H0, Hp⟩
  icases (Rounds.bigSep_pick (Finset.mem_erase.mpr ⟨by decide, h1⟩)) $$ Hp with ⟨H1, -⟩
  have e0 : (Rd X wv).payload (cell c 10) 0 (0 : D) = barPay c 0 := payload_cell X wv c 10 0 0
  have e1 : (Rd X wv).payload (cell c 10) 0 (1 : D) = barPay c 1 := payload_cell X wv c 10 0 1
  isplitl [H0]
  · iapply (Entails.of_eq e0); iexact H0
  iapply (Entails.of_eq e1); iexact H1

/-! ## The fetch of a block of `x` -/

theorem wp_fetch (c : Dev nD) (s : Fin 4) (h : Fin 2) {src : Memref sig .tc .hbm S1024x1024 .bf16} (hsrc' : src = xT c s h)
    {dst : Memref sig .tc .vmem S1024x1024 .bf16} (hdst' : dst = vT h) {hsrc : src.view.WordExact} {hdst : dst.view.WordExact}
    {hsem : DmaTarget.Typed (nD := nD) (τ := τ) (p := .tc) .hbm (.dma xS) (.here dst)}
    {kk : PUnit → Prog (TpuEff nD τ sig (Elt F) Λ₀ .tc) α} {Q : α → sProp 𝕄} :
    iprop(recs X wv N ∗ xPts X c s h ∗ pieceAny vM (vR h) c ∗ dutyTok ER (cell c 0) s.val (⟨h.val, by omega⟩ : D) ∗ reached ER (cell c 0) s.val)
      ⊢ iprop((cred (tallyAt (cell c 0) 0 Nx) -∗ WP c (kk ⟨⟩) Q)
          -∗ WP c (.op (.enqueueDma src (.here dst) (.dma xS) hsrc hdst hsem) kk) Q) := by
  subst hsrc' hdst'
  iintro ⟨#Hr, Hx, Hv, Ht, Hre⟩ Hk
  unfold xPts
  icases (pieceAny_squeeze (m := vM) (r := vR h) (fun _ => rfl) squeezes_S1x1024x1024_S1024x1024 c).1 $$ Hv with ⟨%fd, Hv⟩
  have hd := mem_duties X wv c 0 s.val (⟨h.val, by omega⟩ : D) s.isLt h.isLt
  have hk : (Rd X wv).amount (cell c 0) s.val (⟨h.val, by omega⟩ : D) = Nx := amount_cell X wv c 0 _ _
  have hN : (vT h).view.amount (.dma xS) = Nx := amount_x h
  have hpay : iprop(((vT h).view.loc (c : Thread nD τ) ↦[(vT h).view.set]{fullShare} ((vT h).view.write (Elt F) fd ((xT c s h).view.read (Elt F) (X c)) Finset.univ))
      ∗ ((xT c s h).view.loc (c : Thread nD τ) ↦[(xT c s h).view.set]{lr h} X c)) ⊢ (Rd X wv).payload (cell c 0) s.val (⟨h.val, by omega⟩ : D) := by
    rw [payload_cell]
    have e1 := ofNat2 h
    have e2 := ofNat4 s
    show _ ⊢ iprop(piece vM (vR (Fin.ofNat 2 h.val)) c (xv X c (Fin.ofNat 4 s.val) (Fin.ofNat 2 h.val)) ∗ xPts X c (Fin.ofNat 4 s.val) (Fin.ofNat 2 h.val))
    rw [e1, e2]
    iintro ⟨H1, H2⟩
    isplitl [H1]
    · iapply (piece_landed vM (vR h) (fun _ => rfl) squeezes_S1x1024x1024_S1024x1024 c); iexact H1
    · unfold xPts; iexact H2
  iapply (Rounds.wp_copy_pointsTo 𝒱₀ ER (Rd X wv) (c : Thread nD τ) none (κ := N.K c 0) (src := xT c s h) (dst := vT h) (sem := .dma xS)
      (hsrc := hsrc) (hdst := hdst) (hsem := hsem) (fd := fd) (fs := X c) (q := lr h) (r := s.val) (d := (⟨h.val, by omega⟩ : D)) hd 0 Nx hN hk hpay) $$ [Hx Hv Ht Hre]
  · isplitr; · iapply (recs_cell X wv N c 0); iexact Hr
    isplitl [Hx]; · iexact Hx
    isplitl [Hv]; · iexact Hv
    isplitl [Ht]; · iexact Ht
    iexact Hre
  iexact Hk

/-! ## The remote copies -/

theorem wp_send_tile (c : Dev nD) (st : Fin 3) (t : Fin 8) {c' : Dev nD} (hc : c' = tow c t)
    {src dst : Memref sig .tc .vmem S1024x1024 .bf16} (hsrc' : src = cT (sOf st) t) (hdst' : dst = cT (dOf st) t)
    {sm : SemLoc sig} (hsm : sm = osem (rrI st)) {hsc : dst.view.ref.isScScratch = false}
    {hsrc : src.view.WordExact} {hdst : dst.view.WordExact} {hsem : DmaTarget.Typed .vmem sm (.remote (Dev.tc c') dst (.dma rsS) hsc)}
    {kk : PUnit → Prog (TpuEff nD τ sig (Elt F) Λ₀ .tc) α} {Q : α → sProp 𝕄} :
    iprop(recs X wv N ∗ owesL c (2 + 10 * st.val + t.val) ∗ slot c (sOf st) t (acc X wv st c t) ∗ slotAny (tow c t) (dOf st) t
        ∗ dutyTok ER (cell c 1) st.val t ∗ reached ER (cell c 1) st.val
        ∗ dutyTok ER (cell (tow c t) (rrI st)) 0 t ∗ reached ER (cell (tow c t) (rrI st)) 0)
      ⊢ iprop(((cred (tallyAt (cell c 1) 0 Nt) ∗ owesL c (2 + 10 * st.val + t.val + 1)) -∗ WP c (kk ⟨⟩) Q)
          -∗ WP c (.op (.enqueueDma src (.remote (Dev.tc c') dst (.dma rsS) hsc) sm hsrc hdst hsem) kk) Q) := by
  subst hc hsrc' hdst' hsm
  unfold owesL
  iintro ⟨#Hr, ⟨%W, HO⟩, Hs, Hd, Ht1, Hr1, Ht2, Hr2⟩ Hk
  icases (piece_src (m := cM) (r := cR (sOf st) t) (fun _ => rfl) squeezes_S1x1x1024x1024_S1024x1024 c _) $$ Hs with ⟨%fs, %hfs, Hs⟩
  icases (pieceAny_squeeze (m := cM) (r := cR (dOf st) t) (fun _ => rfl) squeezes_S1x1x1024x1024_S1024x1024 (tow c t)).1 $$ Hd with ⟨%fd, Hd⟩
  have hd1 := mem_duties X wv c 1 st.val t st.isLt t.isLt
  have hd2 := mem_duties X wv (tow c t) (rrI st) 0 t (by rw [kdN_rr]; exact Nat.one_pos) (by rw [kdN_rr]; exact t.isLt)
  have hk1 : (Rd X wv).amount (cell c 1) st.val t = Nt := amount_cell X wv c 1 _ _
  have hk2 : (Rd X wv).amount (cell (tow c t) (rrI st)) 0 t = Nt := by rw [amount_cell, kdN_rr]; rfl
  have hN : (cT (dOf st) t).view.amount (osem (rrI st)) = Nt := amount_tile st t
  have hO := owing_left c (y := Due.tile st t) (n := 2 + 10 * st.val + t.val) rfl
  have hp1 : ((cT (sOf st) t).view.loc (c : Thread nD τ) ↦[(cT (sOf st) t).view.set]{fullShare} fs) ⊢ (Rd X wv).payload (cell c 1) st.val t := by
    rw [payload_cell]
    have e1 := ofNat3 st
    show _ ⊢ slotAny c (sOf (Fin.ofNat 3 st.val)) t
    rw [e1]
    iintro H
    iapply (pieceAny_squeeze (m := cM) (r := cR (sOf st) t) (fun _ => rfl) squeezes_S1x1x1024x1024_S1024x1024 c).2
    iexists fs; iexact H
  have hp2 : ((cT (dOf st) t).view.loc (tow c t : Thread nD τ) ↦[(cT (dOf st) t).view.set]{fullShare}
      ((cT (dOf st) t).view.write (Elt F) fd ((cT (sOf st) t).view.read (Elt F) fs) Finset.univ)) ⊢ (Rd X wv).payload (cell (tow c t) (rrI st)) 0 t := by
    rw [payload_cell, kdN_rr]
    show _ ⊢ slot (tow c t) (dOf st) t (acc X wv st (frm (tow c t) t) t)
    rw [frm_tow, ← hfs]
    iintro H
    iapply (piece_landed cM (cR (dOf st) t) (fun _ => rfl) squeezes_S1x1x1024x1024_S1024x1024 (tow c t)); iexact H
  iapply (Rounds.wp_send_pointsTo 𝒱₀ ER (Rd X wv) (c : Thread nD τ) none (c' := (tow c t : Thread nD τ)) (κ₁ := N.K c 1) (κ₂ := N.K (tow c t) (rrI st))
      (src := cT (sOf st) t) (dst := cT (dOf st) t) (sem := osem (rrI st)) (sS := .dma rsS) (hsc := hsc)
      (hsrc := hsrc) (hdst := hdst) (hsem := hsem) (fd := fd) (fs := fs) (q := fullShare) (r₁ := st.val) (r₂ := 0) (d₁ := t) (d₂ := t)
      hd1 hd2 0 0 Nt hN hk1 hk2 (owing c (left (2 + 10 * st.val + t.val + 1))) hO (W := W) hp1 hp2) $$ [HO Hs Hd Ht1 Hr1 Ht2 Hr2]
  · isplitr; · iapply (recs_cell X wv N c 1); iexact Hr
    isplitr; · iapply (recs_cell X wv N (tow c t) (rrI st)); iexact Hr
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

theorem wp_send_credit (c : Dev nD) (k d : Fin 2) {c' : Dev nD} (hc : c' = side c d)
    {dst : Memref sig .tc .vmem S8x128 .f32} (hdst' : dst = kT (kslot k d))
    {sm : SemLoc sig} (hsm : sm = osem (crI d)) {hsc : dst.view.ref.isScScratch = false}
    {hsrc : (kT 0).view.WordExact} {hdst : dst.view.WordExact} {hsem : DmaTarget.Typed .vmem sm (.remote (Dev.tc c') dst (.dma csS) hsc)}
    {kk : PUnit → Prog (TpuEff nD τ sig (Elt F) Λ₀ .tc) α} {Q : α → sProp 𝕄} :
    iprop(recs X wv N ∗ owesL c (10 + 10 * k.val + d.val) ∗ kPts c d ∗ kAny (side c d) (kslot k d)
        ∗ dutyTok ER (cell c 7) k.val (⟨d.val, by omega⟩ : D) ∗ reached ER (cell c 7) k.val
        ∗ ctok (side c d) d k ∗ reached ER (cell (side c d) (crI d)) 0)
      ⊢ iprop(((cred (tallyAt (cell c 7) 0 Nk) ∗ owesL c (10 + 10 * k.val + d.val + 1)) -∗ WP c (kk ⟨⟩) Q)
          -∗ WP c (.op (.enqueueDma (kT 0) (.remote (Dev.tc c') dst (.dma csS) hsc) sm hsrc hdst hsem) kk) Q) := by
  subst hc hdst' hsm
  unfold owesL kPts ctok
  iintro ⟨#Hr, ⟨%W, HO⟩, ⟨%fs, Hs⟩, Hd, Ht1, Hr1, Ht2, Hr2⟩ Hk
  icases (pieceAny_squeeze (m := kM) (r := kR (kslot k d)) (fun _ => rfl) squeezes_S1x8x128_S8x128 (side c d)).1 $$ Hd with ⟨%fd, Hd⟩
  have hd1 := mem_duties X wv c 7 k.val (⟨d.val, by omega⟩ : D) k.isLt d.isLt
  have hd2 := mem_duties X wv (side c d) (crI d) 0 (⟨k.val, by omega⟩ : D) (by rw [kdN_cr]; exact Nat.one_pos) (by rw [kdN_cr]; exact k.isLt)
  have hk1 : (Rd X wv).amount (cell c 7) k.val (⟨d.val, by omega⟩ : D) = Nk := amount_cell X wv c 7 _ _
  have hk2 : (Rd X wv).amount (cell (side c d) (crI d)) 0 (⟨k.val, by omega⟩ : D) = Nk := by rw [amount_cell, kdN_cr]; rfl
  have hN : (kT (kslot k d)).view.amount (osem (crI d)) = Nk := amount_credit k d
  have hO := owing_left c (y := Due.cr k d) (n := 10 + 10 * k.val + d.val) rfl
  have hp1 : ((kT 0).view.loc (c : Thread nD τ) ↦[(kT 0).view.set]{lr d} fs) ⊢ (Rd X wv).payload (cell c 7) k.val (⟨d.val, by omega⟩ : D) := by
    rw [payload_cell]
    have e1 := ofNat2 d
    show _ ⊢ kPts c (Fin.ofNat 2 d.val)
    rw [e1]
    unfold kPts
    iintro H
    iexists fs; iexact H
  have hp2 : ((kT (kslot k d)).view.loc (side c d : Thread nD τ) ↦[(kT (kslot k d)).view.set]{fullShare}
      ((kT (kslot k d)).view.write (Elt F) fd ((kT 0).view.read (Elt F) fs) Finset.univ)) ⊢ (Rd X wv).payload (cell (side c d) (crI d)) 0 (⟨k.val, by omega⟩ : D) := by
    rw [payload_cell, kdN_cr]
    have e1 := ofNat2 k
    show _ ⊢ kAny (side c d) (kslot (Fin.ofNat 2 k.val) d)
    rw [e1]
    iintro H
    iapply (pieceAny_squeeze (m := kM) (r := kR (kslot k d)) (fun _ => rfl) squeezes_S1x8x128_S8x128 (side c d)).2
    iexists _; iexact H
  iapply (Rounds.wp_send_pointsTo 𝒱₀ ER (Rd X wv) (c : Thread nD τ) none (c' := (side c d : Thread nD τ)) (κ₁ := N.K c 7) (κ₂ := N.K (side c d) (crI d))
      (src := kT 0) (dst := kT (kslot k d)) (sem := osem (crI d)) (sS := .dma csS) (hsc := hsc)
      (hsrc := hsrc) (hdst := hdst) (hsem := hsem) (fd := fd) (fs := fs) (q := lr d) (r₁ := k.val) (r₂ := 0)
      (d₁ := (⟨d.val, by omega⟩ : D)) (d₂ := (⟨k.val, by omega⟩ : D))
      hd1 hd2 k 0 Nk hN hk1 hk2 (owing c (left (10 + 10 * k.val + d.val + 1))) hO (W := W) hp1 hp2) $$ [HO Hs Hd Ht1 Hr1 Ht2 Hr2]
  · isplitr; · iapply (recs_cell X wv N c 7); iexact Hr
    isplitr; · iapply (recs_cell X wv N (side c d) (crI d)); iexact Hr
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

theorem wp_send_max (c : Dev nD) (o : Fin 3) {c' : Dev nD} (hc : c' = gtow c o)
    {dst : Memref sig .tc .vmem S8x128 .f32} (hdst' : dst = gT o) {hsc : dst.view.ref.isScScratch = false}
    {hsrc : aM.view.WordExact} {hdst : dst.view.WordExact} {hsem : DmaTarget.Typed .vmem (.dma arS) (.remote (Dev.tc c') dst (.dma asS) hsc)}
    {kk : PUnit → Prog (TpuEff nD τ sig (Elt F) Λ₀ .tc) α} {Q : α → sProp 𝕄} :
    iprop(recs X wv N ∗ owesL c (30 + o.val) ∗ aPts X wv c o ∗ gAny (gtow c o) o
        ∗ dutyTok ER (cell c 5) 0 (⟨o.val, by omega⟩ : D) ∗ reached ER (cell c 5) 0
        ∗ dutyTok ER (cell (gtow c o) 6) 0 (⟨o.val, by omega⟩ : D) ∗ reached ER (cell (gtow c o) 6) 0)
      ⊢ iprop(((cred (tallyAt (cell c 5) 0 Ng) ∗ owesL c (30 + o.val + 1)) -∗ WP c (kk ⟨⟩) Q)
          -∗ WP c (.op (.enqueueDma aM (.remote (Dev.tc c') dst (.dma asS) hsc) (.dma arS) hsrc hdst hsem) kk) Q) := by
  subst hc hdst'
  unfold owesL aPts
  iintro ⟨#Hr, ⟨%W, HO⟩, Hs, Hd, Ht1, Hr1, Ht2, Hr2⟩ Hk
  icases (pieceAny_squeeze (m := gM) (r := gR o) (fun _ => rfl) squeezes_S1x8x128_S8x128 (gtow c o)).1 $$ Hd with ⟨%fd, Hd⟩
  have hd1 := mem_duties X wv c 5 0 (⟨o.val, by omega⟩ : D) Nat.one_pos o.isLt
  have hd2 := mem_duties X wv (gtow c o) 6 0 (⟨o.val, by omega⟩ : D) Nat.one_pos o.isLt
  have hk1 : (Rd X wv).amount (cell c 5) 0 (⟨o.val, by omega⟩ : D) = Ng := amount_cell X wv c 5 _ _
  have hk2 : (Rd X wv).amount (cell (gtow c o) 6) 0 (⟨o.val, by omega⟩ : D) = Ng := amount_cell X wv (gtow c o) 6 _ _
  have hN : (gT o).view.amount (.dma arS) = Ng := amount_max o
  have hO := owing_left c (y := Due.amax o) (n := 30 + o.val) rfl
  have e1 := ofNat3 o
  have hp1 : (aM.view.loc (c : Thread nD τ) ↦[aM.view.set]{third o} (av X wv c : Buf (Elt F) (aM.view.loc (c : Thread nD τ))))
      ⊢ (Rd X wv).payload (cell c 5) 0 (⟨o.val, by omega⟩ : D) := by
    rw [payload_cell]
    show _ ⊢ aPts X wv c (Fin.ofNat 3 o.val)
    rw [e1]
    unfold aPts
    iintro H; iexact H
  have hp2 : ((gT o).view.loc (gtow c o : Thread nD τ) ↦[(gT o).view.set]{fullShare}
      ((gT o).view.write (Elt F) fd (aM.view.read (Elt F) (av X wv c : Buf (Elt F) (aM.view.loc (c : Thread nD τ)))) Finset.univ))
      ⊢ (Rd X wv).payload (cell (gtow c o) 6) 0 (⟨o.val, by omega⟩ : D) := by
    rw [payload_cell]
    show _ ⊢ piece gM (gR (Fin.ofNat 3 o.val)) (gtow c o) (gv X wv (gtow c o) (Fin.ofNat 3 o.val))
    rw [e1]
    unfold gv
    rw [gfrm_gtow]
    iintro H
    iapply (piece_landed gM (gR o) (fun _ => rfl) squeezes_S1x8x128_S8x128 (gtow c o)); iexact H
  iapply (Rounds.wp_send_pointsTo 𝒱₀ ER (Rd X wv) (c : Thread nD τ) none (c' := (gtow c o : Thread nD τ)) (κ₁ := N.K c 5) (κ₂ := N.K (gtow c o) 6)
      (src := aM) (dst := gT o) (sem := .dma arS) (sS := .dma asS) (hsc := hsc)
      (hsrc := hsrc) (hdst := hdst) (hsem := hsem) (fd := fd) (fs := av X wv c) (q := third o) (r₁ := 0) (r₂ := 0)
      (d₁ := (⟨o.val, by omega⟩ : D)) (d₂ := (⟨o.val, by omega⟩ : D))
      hd1 hd2 0 0 Ng hN hk1 hk2 (owing c (left (30 + o.val + 1))) hO (W := W) hp1 hp2) $$ [HO Hs Hd Ht1 Hr1 Ht2 Hr2]
  · isplitr; · iapply (recs_cell X wv N c 5); iexact Hr
    isplitr; · iapply (recs_cell X wv N (gtow c o) 6); iexact Hr
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Moves

end Cert.KernelIdeal.Ring

end
-- ==== Proof.KernelIdeal.Waits.lean ====
/-
# The kernel's runs of waits

The printed parts of the body that do nothing but wait: the tiles' send sides and receive sides, three or four at a time.
-/
module

public import proofs.«01_k».proof.Proof.KernelIdeal.Moves

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## The order of waits at the program's places -/

theorem lv0 (n : ℕ) : ∀ y ∈ left n, 0 < dlv y := fun y _ => (by decide : ∀ y ∈ allDues, 0 < dlv y) y (mem_allDues y)
theorem left_mono {m n : ℕ} (h : m ≤ n) {y : Due} (hy : y ∈ left n) : y ∈ left m := by
  simp only [left, Finset.mem_filter] at hy ⊢; exact ⟨hy.1, h.trans hy.2⟩
theorem lv_cr0 {n : ℕ} (h : 12 ≤ n) : ∀ y ∈ left n, 3 < dlv y := fun y hy => (by decide : ∀ y ∈ left 12, 3 < dlv y) y (left_mono h hy)
theorem lv_rr0 {n : ℕ} (h : 12 ≤ n) : ∀ y ∈ left n, 2 < dlv y := fun y hy => (lv_cr0 h y hy).trans' (by decide)
theorem lv_cr1 {n : ℕ} (h : 22 ≤ n) : ∀ y ∈ left n, 5 < dlv y := fun y hy => (by decide : ∀ y ∈ left 22, 5 < dlv y) y (left_mono h hy)
theorem lv_rr1 {n : ℕ} (h : 22 ≤ n) : ∀ y ∈ left n, 4 < dlv y := fun y hy => (lv_cr1 h y hy).trans' (by decide)
theorem lv_rr2 {n : ℕ} (h : 30 ≤ n) : ∀ y ∈ left n, 6 < dlv y := fun y hy => (by decide : ∀ y ∈ left 30, 6 < dlv y) y (left_mono h hy)
theorem lv_end {n a : ℕ} (h : 33 ≤ n) : ∀ y ∈ left n, a < dlv y := fun y hy => by rw [left_end h] at hy; exact absurd hy (Finset.notMem_empty y)

/-! ## The waits -/

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)
variable (v14 v25 : BitVec 32)

theorem part2_spec {Q : PUnit → sProp 𝕄} :
    WW X wv N c 10 1 0 0 0 ⊢ iprop((WW X wv N c 10 1 0 0 4 -∗ Q ⟨⟩) -∗ WP c (k0_part2 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) ) Q) := by
  rw [k0_part2_eq_skeleton]; unfold k0_part2_skel
  simp only [Prog.lift, Prog.bind_op, Prog.bind_ret, Prog.pure_eq_ret]
  iintro H Hk
  iapply (wp_dma_part X wv N c 1 0 0 0 10 (dst := cT 1 0) rfl rfl (by decide) (lv0 _)) $$ H; iintro H
  iapply (wp_dma_part X wv N c 1 0 0 1 10 (dst := cT 1 1) rfl rfl (by decide) (lv0 _)) $$ H; iintro H
  iapply (wp_dma_part X wv N c 1 0 0 2 10 (dst := cT 1 2) rfl rfl (by decide) (lv0 _)) $$ H; iintro H
  iapply (wp_dma_part X wv N c 1 0 0 3 10 (dst := cT 1 3) rfl rfl (by decide) (lv0 _)) $$ H; iintro H
  iapply (WP_ret c); iapply Hk; iexact H

theorem part3_spec {Q : PUnit → sProp 𝕄} :
    WW X wv N c 10 1 0 0 4 ⊢ iprop((WL X wv c 10 1 0 -∗ Q ⟨⟩) -∗ WP c (k0_part3 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) ) Q) := by
  rw [k0_part3_eq_skeleton]; unfold k0_part3_skel
  simp only [Prog.lift, Prog.bind_op, Prog.bind_ret, Prog.pure_eq_ret]
  iintro H Hk
  iapply (wp_dma_part X wv N c 1 0 0 4 10 (dst := cT 1 4) rfl rfl (by decide) (lv0 _)) $$ H; iintro H
  iapply (wp_dma_part X wv N c 1 0 0 5 10 (dst := cT 1 5) rfl rfl (by decide) (lv0 _)) $$ H; iintro H
  iapply (wp_dma_part X wv N c 1 0 0 6 10 (dst := cT 1 6) rfl rfl (by decide) (lv0 _)) $$ H; iintro H
  iapply (wp_dma_last X wv N c 1 0 0 7 10 (dst := cT 1 7) rfl rfl (by decide) rfl (lv0 _)) $$ H; iintro H
  iapply (WP_ret c); iapply Hk; iexact H

theorem part5_spec {Q : PUnit → sProp 𝕄} :
    WW X wv N c 12 2 0 0 1 ⊢ iprop((WW X wv N c 12 2 0 0 4 -∗ Q ⟨⟩) -∗ WP c (k0_part5 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v25) Q) := by
  rw [k0_part5_eq_skeleton]; unfold k0_part5_skel
  simp only [Prog.lift, Prog.bind_op, Prog.bind_ret, Prog.pure_eq_ret]
  iintro H Hk
  iapply (wp_dma_part X wv N c 2 0 0 1 12 (dst := cT 0 1) rfl rfl (by decide) (lv_rr0 (by decide))) $$ H; iintro H
  iapply (wp_dma_part X wv N c 2 0 0 2 12 (dst := cT 0 2) rfl rfl (by decide) (lv_rr0 (by decide))) $$ H; iintro H
  iapply (wp_dma_part X wv N c 2 0 0 3 12 (dst := cT 0 3) rfl rfl (by decide) (lv_rr0 (by decide))) $$ H; iintro H
  iapply (WP_ret c); iapply Hk; iexact H

theorem part6_spec {Q : PUnit → sProp 𝕄} :
    WW X wv N c 12 2 0 0 4 ⊢ iprop((WW X wv N c 12 2 0 0 7 -∗ Q ⟨⟩) -∗ WP c (k0_part6 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v14) Q) := by
  rw [k0_part6_eq_skeleton]; unfold k0_part6_skel
  simp only [Prog.lift, Prog.bind_op, Prog.bind_ret, Prog.pure_eq_ret]
  iintro H Hk
  iapply (wp_dma_part X wv N c 2 0 0 4 12 (dst := cT 0 4) rfl rfl (by decide) (lv_rr0 (by decide))) $$ H; iintro H
  iapply (wp_dma_part X wv N c 2 0 0 5 12 (dst := cT 0 5) rfl rfl (by decide) (lv_rr0 (by decide))) $$ H; iintro H
  iapply (wp_dma_part X wv N c 2 0 0 6 12 (dst := cT 0 6) rfl rfl (by decide) (lv_rr0 (by decide))) $$ H; iintro H
  iapply (WP_ret c); iapply Hk; iexact H

theorem part7_spec {Q : PUnit → sProp 𝕄} :
    WW X wv N c 20 1 0 1 0 ⊢ iprop((WW X wv N c 20 1 0 1 4 -∗ Q ⟨⟩) -∗ WP c (k0_part7 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) ) Q) := by
  rw [k0_part7_eq_skeleton]; unfold k0_part7_skel
  simp only [Prog.lift, Prog.bind_op, Prog.bind_ret, Prog.pure_eq_ret]
  iintro H Hk
  iapply (wp_dma_part X wv N c 1 0 1 0 20 (dst := cT 0 0) rfl rfl (by decide) (lv0 _)) $$ H; iintro H
  iapply (wp_dma_part X wv N c 1 0 1 1 20 (dst := cT 0 1) rfl rfl (by decide) (lv0 _)) $$ H; iintro H
  iapply (wp_dma_part X wv N c 1 0 1 2 20 (dst := cT 0 2) rfl rfl (by decide) (lv0 _)) $$ H; iintro H
  iapply (wp_dma_part X wv N c 1 0 1 3 20 (dst := cT 0 3) rfl rfl (by decide) (lv0 _)) $$ H; iintro H
  iapply (WP_ret c); iapply Hk; iexact H

theorem part8_spec {Q : PUnit → sProp 𝕄} :
    WW X wv N c 20 1 0 1 4 ⊢ iprop((WL X wv c 20 1 1 -∗ Q ⟨⟩) -∗ WP c (k0_part8 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) ) Q) := by
  rw [k0_part8_eq_skeleton]; unfold k0_part8_skel
  simp only [Prog.lift, Prog.bind_op, Prog.bind_ret, Prog.pure_eq_ret]
  iintro H Hk
  iapply (wp_dma_part X wv N c 1 0 1 4 20 (dst := cT 0 4) rfl rfl (by decide) (lv0 _)) $$ H; iintro H
  iapply (wp_dma_part X wv N c 1 0 1 5 20 (dst := cT 0 5) rfl rfl (by decide) (lv0 _)) $$ H; iintro H
  iapply (wp_dma_part X wv N c 1 0 1 6 20 (dst := cT 0 6) rfl rfl (by decide) (lv0 _)) $$ H; iintro H
  iapply (wp_dma_last X wv N c 1 0 1 7 20 (dst := cT 0 7) rfl rfl (by decide) rfl (lv0 _)) $$ H; iintro H
  iapply (WP_ret c); iapply Hk; iexact H

theorem part11_spec {Q : PUnit → sProp 𝕄} :
    WW X wv N c 22 3 0 0 2 ⊢ iprop((WW X wv N c 22 3 0 0 5 -∗ Q ⟨⟩) -∗ WP c (k0_part11 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v14 v25) Q) := by
  rw [k0_part11_eq_skeleton]; unfold k0_part11_skel
  simp only [Prog.lift, Prog.bind_op, Prog.bind_ret, Prog.pure_eq_ret]
  iintro H Hk
  iapply (wp_dma_part X wv N c 3 0 0 2 22 (dst := cT 1 2) rfl rfl (by decide) (lv_rr1 (by decide))) $$ H; iintro H
  iapply (wp_dma_part X wv N c 3 0 0 3 22 (dst := cT 1 3) rfl rfl (by decide) (lv_rr1 (by decide))) $$ H; iintro H
  iapply (wp_dma_part X wv N c 3 0 0 4 22 (dst := cT 1 4) rfl rfl (by decide) (lv_rr1 (by decide))) $$ H; iintro H
  iapply (WP_ret c); iapply Hk; iexact H

theorem part12_spec {Q : PUnit → sProp 𝕄} :
    WW X wv N c 30 1 0 2 0 ⊢ iprop((WW X wv N c 30 1 0 2 4 -∗ Q ⟨⟩) -∗ WP c (k0_part12 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) ) Q) := by
  rw [k0_part12_eq_skeleton]; unfold k0_part12_skel
  simp only [Prog.lift, Prog.bind_op, Prog.bind_ret, Prog.pure_eq_ret]
  iintro H Hk
  iapply (wp_dma_part X wv N c 1 0 2 0 30 (dst := cT 1 0) rfl rfl (by decide) (lv0 _)) $$ H; iintro H
  iapply (wp_dma_part X wv N c 1 0 2 1 30 (dst := cT 1 1) rfl rfl (by decide) (lv0 _)) $$ H; iintro H
  iapply (wp_dma_part X wv N c 1 0 2 2 30 (dst := cT 1 2) rfl rfl (by decide) (lv0 _)) $$ H; iintro H
  iapply (wp_dma_part X wv N c 1 0 2 3 30 (dst := cT 1 3) rfl rfl (by decide) (lv0 _)) $$ H; iintro H
  iapply (WP_ret c); iapply Hk; iexact H

theorem part13_spec {Q : PUnit → sProp 𝕄} :
    WW X wv N c 30 1 0 2 4 ⊢ iprop((WL X wv c 30 1 2 -∗ Q ⟨⟩) -∗ WP c (k0_part13 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) ) Q) := by
  rw [k0_part13_eq_skeleton]; unfold k0_part13_skel
  simp only [Prog.lift, Prog.bind_op, Prog.bind_ret, Prog.pure_eq_ret]
  iintro H Hk
  iapply (wp_dma_part X wv N c 1 0 2 4 30 (dst := cT 1 4) rfl rfl (by decide) (lv0 _)) $$ H; iintro H
  iapply (wp_dma_part X wv N c 1 0 2 5 30 (dst := cT 1 5) rfl rfl (by decide) (lv0 _)) $$ H; iintro H
  iapply (wp_dma_part X wv N c 1 0 2 6 30 (dst := cT 1 6) rfl rfl (by decide) (lv0 _)) $$ H; iintro H
  iapply (wp_dma_last X wv N c 1 0 2 7 30 (dst := cT 1 7) rfl rfl (by decide) rfl (lv0 _)) $$ H; iintro H
  iapply (WP_ret c); iapply Hk; iexact H

theorem part14_spec {Q : PUnit → sProp 𝕄} :
    WW X wv N c 30 4 0 0 0 ⊢ iprop((WW X wv N c 30 4 0 0 3 -∗ Q ⟨⟩) -∗ WP c (k0_part14 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v25) Q) := by
  rw [k0_part14_eq_skeleton]; unfold k0_part14_skel
  simp only [Prog.lift, Prog.bind_op, Prog.bind_ret, Prog.pure_eq_ret]
  iintro H Hk
  iapply (wp_dma_part X wv N c 4 0 0 0 30 (dst := cT 0 0) rfl rfl (by decide) (lv_rr2 (by decide))) $$ H; iintro H
  iapply (wp_dma_part X wv N c 4 0 0 1 30 (dst := cT 0 1) rfl rfl (by decide) (lv_rr2 (by decide))) $$ H; iintro H
  iapply (wp_dma_part X wv N c 4 0 0 2 30 (dst := cT 0 2) rfl rfl (by decide) (lv_rr2 (by decide))) $$ H; iintro H
  iapply (WP_ret c); iapply Hk; iexact H

theorem part15_spec {Q : PUnit → sProp 𝕄} :
    WW X wv N c 30 4 0 0 3 ⊢ iprop((WW X wv N c 30 4 0 0 6 -∗ Q ⟨⟩) -∗ WP c (k0_part15 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v14 v25) Q) := by
  rw [k0_part15_eq_skeleton]; unfold k0_part15_skel
  simp only [Prog.lift, Prog.bind_op, Prog.bind_ret, Prog.pure_eq_ret]
  iintro H Hk
  iapply (wp_dma_part X wv N c 4 0 0 3 30 (dst := cT 0 3) rfl rfl (by decide) (lv_rr2 (by decide))) $$ H; iintro H
  iapply (wp_dma_part X wv N c 4 0 0 4 30 (dst := cT 0 4) rfl rfl (by decide) (lv_rr2 (by decide))) $$ H; iintro H
  iapply (wp_dma_part X wv N c 4 0 0 5 30 (dst := cT 0 5) rfl rfl (by decide) (lv_rr2 (by decide))) $$ H; iintro H
  iapply (WP_ret c); iapply Hk; iexact H

end Cert.KernelIdeal.Ring

end
-- ==== Proof.KernelIdeal.State.lean ====
/-
  What a device holds between the points of its grid: the travelling tiles, the landing slots it may send into, the
  credits, the tokens, and what it still owes.
-/
module

public import proofs.«01_k».proof.Proof.KernelIdeal.Waits

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16)

/-! ## Columns yet to come -/

/-- The columns from `t` on. -/
def ge (t : ℕ) : Finset (Fin 8) := Finset.univ.filter fun tt => t ≤ tt.val
theorem ge_zero : ge 0 = Finset.univ := by decide
theorem ge_insert : ∀ t : Fin 8, ge t.val = insert t (ge (t.val + 1)) ∧ t ∉ ge (t.val + 1) := by decide
/-- Those of one direction. -/
def geH (h : Fin 2) (t : ℕ) : Finset (Fin 8) := (cols h).filter fun tt => t ≤ tt.val
theorem geH_zero : ∀ h : Fin 2, geH h 0 = cols h := by decide
theorem geH_insert : ∀ t : Fin 8, geH (half t) t.val = insert t (geH (half t) (t.val + 1)) ∧ t ∉ geH (half t) (t.val + 1) := by decide
theorem geH_other : ∀ (t : Fin 8) (h : Fin 2), h ≠ half t → geH h t.val = geH h (t.val + 1) := by decide
theorem geH_start : ∀ h : Fin 2, geH h (4 * h.val) = cols h := by decide
/-- The transfers of tiles from place `n` on. -/
def tl (n : ℕ) : Finset (Fin 3 × Fin 8) := Finset.univ.filter fun p => n ≤ 2 + 10 * p.1.val + p.2.val
theorem tl_insert : ∀ (st : Fin 3) (t : Fin 8), tl (2 + 10 * st.val + t.val) = insert (st, t) (tl (2 + 10 * st.val + t.val + 1))
    ∧ (st, t) ∉ tl (2 + 10 * st.val + t.val + 1) := by decide
theorem tl_credit : ∀ k d : Fin 2, tl (10 + 10 * k.val + d.val) = tl (10 + 10 * k.val + d.val + 1) := by decide
/-- The fetches from step `s` on. -/
def fe (s : ℕ) : Finset (Fin 4 × Fin 2) := Finset.univ.filter fun p => s ≤ p.1.val
theorem fe_insert : ∀ s : Fin 4, fe s.val = insert (s, 0) (insert (s, 1) (fe (s.val + 1)))
    ∧ (s, 0) ∉ insert (s, (1 : Fin 2)) (fe (s.val + 1)) ∧ (s, (1 : Fin 2)) ∉ fe (s.val + 1) := by decide

omit [FloatOps F] in
theorem bigSep_take {I : Type} [DecidableEq I] {A B : Finset I} {i : I} (h : A = insert i B ∧ i ∉ B) {Φ : I → sProp 𝕄} :
    bigSep A Φ ⊢ iprop(Φ i ∗ bigSep B Φ) := by
  obtain ⟨rfl, h2⟩ := h
  rw [BI.bigSep_insert h2]; exact .rfl
omit [FloatOps F] in
theorem bigSep_put {I : Type} [DecidableEq I] {A B : Finset I} {i : I} (h : A = insert i B ∧ i ∉ B) {Φ : I → sProp 𝕄} :
    iprop(Φ i ∗ bigSep B Φ) ⊢ bigSep A Φ := by
  obtain ⟨rfl, h2⟩ := h
  rw [BI.bigSep_insert h2]; exact .rfl

/-! ## What stays -/

/-- The neighbours have opened the cells this device's transfers credit. -/
def near (c : Dev nD) : sProp 𝕄 :=
  iprop(((reached ER (cell (nxt c) 2) 0 ∗ reached ER (cell (nxt c) 3) 0 ∗ reached ER (cell (nxt c) 4) 0)
      ∗ reached ER (cell (nxt c) 9) 0 ∗ reached ER (cell (nxt c) 6) 0)
    ∗ ((reached ER (cell (prv c) 2) 0 ∗ reached ER (cell (prv c) 3) 0 ∗ reached ER (cell (prv c) 4) 0)
      ∗ reached ER (cell (prv c) 8) 0 ∗ reached ER (cell (prv c) 6) 0))
omit [FloatOps F] in
instance near_persistent (c : Dev nD) : BI.Persistent (near (F := F) c) := by unfold near; infer_instance

omit [FloatOps F] in
theorem near_rr (c : Dev nD) (st : Fin 3) (t : Fin 8) : (near c : sProp 𝕄) ⊢ reached ER (cell (tow c t) (rrI st)) 0 := by
  unfold near tow
  iintro ⟨⟨⟨#A0, #A1, #A2⟩, -⟩, ⟨#B0, #B1, #B2⟩, -⟩
  split <;> fin_cases st
  · iexact A0
  · iexact A1
  · iexact A2
  · iexact B0
  · iexact B1
  · iexact B2
omit [FloatOps F] in
theorem near_cr (c : Dev nD) (d : Fin 2) : (near c : sProp 𝕄) ⊢ reached ER (cell (side c d) (crI d)) 0 := by
  unfold near
  iintro ⟨⟨-, #A, -⟩, -, #B, -⟩
  fin_cases d
  · iexact B
  · iexact A

/-- Of `x`: the fetches from step `s` on, and the buffer. -/
def xF (c : Dev nD) : sProp 𝕄 := xM.view.loc (c : Thread nD τ) ↦[xM.view.set]{fullShare} (X c)
def xK (c : Dev nD) (s : ℕ) : sProp 𝕄 :=
  iprop(atPos ER (cell c 0) s ∅ 0 ∗ reached ER (cell c 0) s
    ∗ bigSep (fe s) (fun p => dutyTok ER (cell c 0) p.1.val (⟨p.2.val, by omega⟩ : D)) ∗ xF X c)
def xB (c : Dev nD) (s : ℕ) : sProp 𝕄 := iprop(xK X c s ∗ pieceAny vM (vR 0) c ∗ pieceAny vM (vR 1) c)
def xA (c : Dev nD) (s : Fin 4) : sProp 𝕄 :=
  iprop(xK X c (s.val + 1) ∗ piece vM (vR 0) c (xv X c s 0) ∗ piece vM (vR 1) c (xv X c s 1))
theorem xA_B (c : Dev nD) (s : Fin 4) : xA X c s ⊢ xB X c (s.val + 1) := by
  unfold xA xB
  iintro ⟨H, H0, H1⟩
  isplitl [H]; · iexact H
  isplitl [H0]
  · iapply (piece_any vM (vR 0) c _); iexact H0
  · iapply (piece_any vM (vR 1) c _); iexact H1

/-- The tokens of one tile's transfer. -/
def stok (c : Dev nD) (p : Fin 3 × Fin 8) : sProp 𝕄 :=
  iprop(dutyTok ER (cell c 1) p.1.val p.2 ∗ dutyTok ER (cell (tow c p.2) (rrI p.1)) 0 p.2)
/-- What is owed from place `n` on, with the tokens of the transfers of tiles to come. -/
def OT (c : Dev nD) (n : ℕ) : sProp 𝕄 := iprop(owesL c n ∗ bigSep (tl n) (stok c))

/-- The sends of step `s`: `cnt` of them started. -/
def RS (c : Dev nD) (s cnt : ℕ) : sProp 𝕄 :=
  iprop(atPos ER (cell c 1) s ∅ 0 ∗ reached ER (cell c 1) s ∗ cred (tallyAt (cell c 1) 0 (cnt * Nt)))

/-- The credits from the receiver in direction `d`, `j` of them awaited. -/
def extra (c : Dev nD) (d : Fin 2) : sProp 𝕄 :=
  match d with | 0 => iprop(gAny (opp c) 1 ∗ reached ER (cell (opp c) 6) 0) | 1 => iprop(emp)
def CrW (c : Dev nD) (d : Fin 2) (j : ℕ) : sProp 𝕄 :=
  match j with
  | 0 => iprop(WS0 X wv c (crI d) 0 0 ∗ cred (tallyAt (cell c (crI d)) 0 Nk) ∗ cred (tallyAt (cell c (crI d)) 1 Nk) ∗ mark c d 2 ∗ mark c d 3)
  | 1 => iprop(WS0 X wv c (crI d) 0 1 ∗ cred (tallyAt (cell c (crI d)) 1 Nk) ∗ mark c d 3 ∗ extra c d)
  | _ => iprop(atPos ER (cell c (crI d)) 1 ∅ 0 ∗ kAny c (kslot 0 d) ∗ kAny c (kslot 1 d) ∗ extra c d)

/-- The landing slots of step `s` in direction `d` from column `t` on. -/
def Dst (c : Dev nD) (s : Fin 3) (d : Fin 2) (t : ℕ) : sProp 𝕄 := bigSep (geH d t) fun tt => slotAny (tow c tt) (dOf s) tt
/-- Credits and landing slots of step `s` in direction `d` before column `t`'s send. -/
def CD (c : Dev nD) (s : Fin 3) (d : Fin 2) (t : ℕ) : sProp 𝕄 :=
  if s = 0 ∨ 4 * d.val < t then iprop(Dst c s d t ∗ CrW X wv c d s.val) else CrW X wv c d (s.val - 1)

/-- A column not yet computed at step `s`. -/
def colF (c : Dev nD) (s : Fin 4) (t : Fin 8) : sProp 𝕄 :=
  match s with
  | 0 => slotAny c 1 t
  | 1 => slot c 0 t (acc0 X wv (frm c t) t)
  | 2 => slot c 1 t (acc1 X wv (frm c t) t)
  | 3 => slot c 0 t (acc2 X wv (frm c t) t)
def Cols (c : Dev nD) (s : Fin 4) (t : ℕ) : sProp 𝕄 := bigSep (ge t) (colF X wv c s)

/-- The credits this device sends, at step `s`. -/
def KB (c : Dev nD) (s : ℕ) : sProp 𝕄 :=
  match s with
  | 0 => iprop(kPts c 0 ∗ kPts c 1 ∗ atPos ER (cell c 7) 0 ∅ 0 ∗ reached ER (cell c 7) 0
      ∗ (dutyTok ER (cell c 7) 0 (0 : D) ∗ dutyTok ER (cell c 7) 0 (1 : D)) ∗ (mark (side c 0) 0 0 ∗ mark (side c 1) 1 0)
      ∗ (kAny (side c 0) (kslot 0 0) ∗ kAny (side c 1) (kslot 0 1))
      ∗ (dutyTok ER (cell c 7) 1 (0 : D) ∗ dutyTok ER (cell c 7) 1 (1 : D)) ∗ (kAny (side c 0) (kslot 1 0) ∗ kAny (side c 1) (kslot 1 1)))
  | 1 => iprop((atPos ER (cell c 7) 0 ∅ 0 ∗ cred (tallyAt (cell c 7) 0 (2 * Nk))) ∗ (mark (side c 0) 0 1 ∗ mark (side c 1) 1 1)
      ∗ (dutyTok ER (cell c 7) 1 (0 : D) ∗ dutyTok ER (cell c 7) 1 (1 : D)) ∗ (kAny (side c 0) (kslot 1 0) ∗ kAny (side c 1) (kslot 1 1)))
  | _ => iprop(atPos ER (cell c 7) 1 ∅ 0 ∗ cred (tallyAt (cell c 7) 0 (2 * Nk)))

/-- The neighbours' landing slots for the maximum. -/
def GG (c : Dev nD) (s : ℕ) : sProp 𝕄 :=
  iprop(gAny (nxt c) 0 ∗ gAny (prv c) 2 ∗ (if s = 0 then gAny (nxt c) 1 else iprop(emp)))

abbrev aR : Rect S8x128 := Rect.unit (s := S8x128) ![0, 0] S8x128.size inb_S8x128_S8x128_0_0
/-- What the exchange of the maxima needs. -/
def AM (c : Dev nD) : sProp 𝕄 :=
  iprop(pieceAny aM aR c ∗ atPos ER (cell c 5) 0 ∅ 0 ∗ reached ER (cell c 5) 0 ∗ atPos ER (cell c 6) 0 ∅ 0 ∗ cred (tallyAt (cell c 6) 0 (3 * Ng))
    ∗ bigSep Finset.univ (fun o : Fin 3 => iprop(dutyTok ER (cell c 5) 0 (⟨o.val, by omega⟩ : D) ∗ dutyTok ER (cell (gtow c o) 6) 0 (⟨o.val, by omega⟩ : D))))

/-- The tiles to come in at step `st`. -/
def RR (c : Dev nD) (st : Fin 3) (s : ℕ) : sProp 𝕄 :=
  if st.val < s then atPos ER (cell c (rrI st)) 1 ∅ 0 else iprop(atPos ER (cell c (rrI st)) 0 ∅ 0 ∗ cred (tallyAt (cell c (rrI st)) 0 (8 * Nt)))
def RRs (c : Dev nD) (s : ℕ) : sProp 𝕄 := iprop(RR c 0 s ∗ RR c 1 s ∗ RR c 2 s)

abbrev mR : Rect S1 := Rect.unit (s := S1) ![0] S1.size inb_S1_S1_0
def mword (c : Dev nD) (n : ℕ) : sProp 𝕄 := piece mM mR c (fun _ => amx X wv c n)

/-- What no point of step `s` changes. -/
def Fix (c : Dev nD) (s : ℕ) : sProp 𝕄 := iprop(near c ∗ KB c s ∗ GG c s ∗ AM c ∗ RRs c s)

/-! ## The states -/

/-- Step `s < 3`, before column `t`. -/
def MidL (c : Dev nD) (s : Fin 3) (t : ℕ) : sProp 𝕄 :=
  iprop(OT c (2 + 10 * s.val + t) ∗ RS c s.val t ∗ CD X wv c s 0 t ∗ CD X wv c s 1 t ∗ Cols X wv c s.castSucc t ∗ Fix c s.val
    ∗ xA X c s.castSucc ∗ mword X wv c 0)
/-- The same with column `t` computed. -/
def MidC (c : Dev nD) (s : Fin 3) (t : Fin 8) : sProp 𝕄 :=
  iprop(OT c (2 + 10 * s.val + t.val) ∗ RS c s.val t.val ∗ CD X wv c s 0 t.val ∗ CD X wv c s 1 t.val
    ∗ (slot c (sOf s) t (acc X wv s c t) ∗ Cols X wv c s.castSucc (t.val + 1)) ∗ Fix c s.val ∗ xA X c s.castSucc ∗ mword X wv c 0)
/-- Step 3, before column `t`. -/
def MidR (c : Dev nD) (t : ℕ) : sProp 𝕄 :=
  iprop(OT c 30 ∗ atPos ER (cell c 1) 3 ∅ 0 ∗ (CrW X wv c 0 2 ∗ CrW X wv c 1 2)
    ∗ (bigSep Finset.univ (fun tt : Fin 8 => slotAny c 1 tt) ∗ bigSep (Finset.univ.filter fun tt : Fin 8 => tt.val < t) (fun tt => slotAny c 0 tt) ∗ Cols X wv c 3 t)
    ∗ Fix c 3 ∗ xA X c 3 ∗ mword X wv c t)

/-- Before column `t` of step `s`. -/
def Mid (c : Dev nD) (s : Fin 4) (t : ℕ) : sProp 𝕄 := if h : s.val < 3 then MidL X wv c ⟨s.val, h⟩ t else MidR X wv c t
/-- Column `t` computed, before the sends. -/
def Cmp (c : Dev nD) (s : Fin 4) (t : Fin 8) : sProp 𝕄 := if h : s.val < 3 then MidC X wv c ⟨s.val, h⟩ t else MidR X wv c (t.val + 1)
/-- Column `t` computed, before the `n`-th of the sends in the program. -/
def Snd (c : Dev nD) (s : Fin 4) (t : Fin 8) (n : ℕ) : sProp 𝕄 :=
  if 8 * s.val + t.val < n then Mid X wv c s (t.val + 1) else Cmp X wv c s t

/-- When the device is done. -/
def Done (c : Dev nD) : sProp 𝕄 :=
  iprop(owesL c 33
    ∗ (atPos ER (cell c 0) 4 ∅ 0 ∗ atPos ER (cell c 1) 3 ∅ 0 ∗ (atPos ER (cell c 2) 1 ∅ 0 ∗ atPos ER (cell c 3) 1 ∅ 0 ∗ atPos ER (cell c 4) 1 ∅ 0)
      ∗ atPos ER (cell c 5) 1 ∅ 0 ∗ atPos ER (cell c 6) 1 ∅ 0 ∗ atPos ER (cell c 7) 2 ∅ 0 ∗ atPos ER (cell c 8) 1 ∅ 0 ∗ atPos ER (cell c 9) 1 ∅ 0)
    ∗ (bigSep Finset.univ (fun t : Fin 8 => slotAny c 0 t) ∗ bigSep Finset.univ (fun t : Fin 8 => slotAny c 1 t))
    ∗ (pieceAny vM (vR 0) c ∗ pieceAny vM (vR 1) c)
    ∗ (aPts X wv c 0 ∗ aPts X wv c 1 ∗ aPts X wv c 2)
    ∗ (gAny c 0 ∗ gAny c 1 ∗ gAny c 2)
    ∗ (kPts c 0 ∗ kPts c 1 ∗ kAny c 1 ∗ kAny c 2 ∗ kAny c 3 ∗ kAny c 4)
    ∗ pieceAny mM mR c ∗ xF X c)

/-! ## Starting a step's waits -/

theorem CrW_CD (c : Dev nD) (s : Fin 3) (d : Fin 2) (hs : s ≠ 0) : CrW X wv c d (s.val - 1) ⊢ CD X wv c s d 0 := by
  unfold CD; rw [if_neg (by rintro (h | h); exacts [hs h, absurd h (by omega)])]
omit [FloatOps F] in
theorem Dst_end (c : Dev nD) (s : Fin 3) (d : Fin 2) : (Dst (F := F) c s d 8 : sProp 𝕄) = iprop(emp) := by
  unfold Dst; rw [show geH d 8 = ∅ from by revert d; decide, bigSep_empty]; rfl
theorem CD_end (c : Dev nD) (s : Fin 3) (d : Fin 2) : CD X wv c s d 8 ⊢ CrW X wv c d s.val := by
  unfold CD; rw [if_pos (.inr (by omega)), Dst_end]
  iintro ⟨-, H⟩; iexact H
omit [FloatOps F] in
theorem RS_start (c : Dev nD) (s : ℕ) : iprop(atPos ER (cell c 1) s ∅ 0 ∗ reached ER (cell c 1) s) ⊢ (RS c s 0 : sProp 𝕄) := by
  unfold RS
  rw [Nat.zero_mul, tallyAt_zero, cred_zero]
  iintro ⟨H1, H2⟩
  isplitl [H1]; · iexact H1
  isplitl [H2]; · iexact H2
  iempintro

end Cert.KernelIdeal.Ring

end
-- ==== Proof.KernelIdeal.Fetch.lean ====
/-
  The fetch of a step's two blocks of `x`.
-/
module

public import proofs.«01_k».proof.Proof.KernelIdeal.State

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## Where the blocks lie -/

theorem off1 : ∀ (i : grid0.Coords) (c : Dev nD), k0_off1 i c = ![1024 * xrow c (i 0) 0, 0] := by decide +kernel
theorem off2 : ∀ (i : grid0.Coords) (c : Dev nD), k0_off2 i c = ![1024 * xrow c (i 0) 1, 0] := by decide +kernel
theorem xT_eq (c : Dev nD) (s : Fin 4) (h : Fin 2) {off : Fin 2 → ℕ} (e : off = ![1024 * xrow c s h, 0]) (hi : ∀ a, off a + S1024x1024.size a ≤ S4096x1024.size a) :
    (xM.slice (Rect.unit (s := S4096x1024) off S1024x1024.size hi) (fun _ => rfl) : Memref sig .tc .hbm S1024x1024 .bf16) = xT c s h := by
  subst e; rfl

omit [FloatOps F] in
theorem dset_two {Φ : D → sProp 𝕄} : bigSep (dset 2) Φ ⊢ iprop(Φ 0 ∗ Φ 1) := by
  have h : (dset 2) = insert (0 : D) {1} ∧ (0 : D) ∉ ({1} : Finset D) := by decide
  iintro H
  icases (bigSep_take h) $$ H with ⟨H0, H⟩
  isplitl [H0]; · iexact H0
  iapply (Entails.of_eq bigSep_singleton); iexact H

/-- What the fetches of step `s` leave of `x`. -/
def xRest (c : Dev nD) (s : Fin 4) : sProp 𝕄 :=
  iprop((xM.view.loc (c : Thread nD τ) ↦[xM.view.set \ (xT c s 0).view.set]{fullShare.left} (X c))
    ∗ (xM.view.loc (c : Thread nD τ) ↦[xM.view.set \ (xT c s 1).view.set]{fullShare.right} (X c)))
theorem xF_split (c : Dev nD) (s : Fin 4) : xF X c ⊣⊢ iprop((xPts X c s 0 ∗ xPts X c s 1) ∗ xRest X c s) := by
  have h0 : (xT c s 0).view.set ⊆ xM.view.set := View.set_slice_subset xM.view _
  have h1 : (xT c s 1).view.set ⊆ xM.view.set := View.set_slice_subset xM.view _
  have e : xF X c ⊣⊢ iprop((xM.view.loc (c : Thread nD τ) ↦[xM.view.set]{fullShare.left} (X c)) ∗ (xM.view.loc (c : Thread nD τ) ↦[xM.view.set]{fullShare.right} (X c))) :=
    pointsTo_share (PosShare.mem_left_op_right fullShare)
  have e0 : (xM.view.loc (c : Thread nD τ) ↦[xM.view.set]{fullShare.left} (X c) : sProp 𝕄) ⊣⊢ iprop(xPts X c s 0 ∗ xM.view.loc (c : Thread nD τ) ↦[xM.view.set \ (xT c s 0).view.set]{fullShare.left} (X c)) := pointsTo_split_subset h0
  have e1 : (xM.view.loc (c : Thread nD τ) ↦[xM.view.set]{fullShare.right} (X c) : sProp 𝕄) ⊣⊢ iprop(xPts X c s 1 ∗ xM.view.loc (c : Thread nD τ) ↦[xM.view.set \ (xT c s 1).view.set]{fullShare.right} (X c)) := pointsTo_split_subset h1
  unfold xRest
  constructor
  · iintro H
    icases e.1 $$ H with ⟨H0, H1⟩
    icases e0.1 $$ H0 with ⟨A0, B0⟩
    icases e1.1 $$ H1 with ⟨A1, B1⟩
    isplitl [A0 A1]
    · isplitl [A0]; · iexact A0
      iexact A1
    isplitl [B0]; · iexact B0
    iexact B1
  · iintro ⟨⟨A0, A1⟩, B0, B1⟩
    iapply e.2
    isplitl [A0 B0]
    · iapply e0.2
      isplitl [A0]; · iexact A0
      iexact B0
    · iapply e1.2
      isplitl [A1]; · iexact A1
      iexact B1

/-- Both fetches of step `s` under way. -/
def xGo (c : Dev nD) (s : Fin 4) : sProp 𝕄 :=
  iprop(WS X wv c 0 0 s.val 0 ∗ bigSep (fe (s.val + 1)) (fun p => dutyTok ER (cell c 0) p.1.val (⟨p.2.val, by omega⟩ : D)) ∗ xRest X c s)

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)
variable (arg0 v2 : BitVec 32)

theorem part1_spec (h2 : k0_cond2 i = 1#1) {Q : PUnit → sProp 𝕄} :
    iprop(recs X wv N ∗ xB X c (i 0 : Fin 4).val) ⊢ iprop((xGo X wv c (i 0) -∗ Q ⟨⟩) -∗ WP c (k0_part1 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) arg0 c v2 h2) Q) := by
  rw [k0_part1_eq_skeleton]; unfold k0_part1_skel
  simp only [Prog.lift, Prog.bind_op, Prog.bind_ret, Prog.pure_eq_ret]
  unfold xB xK
  iintro ⟨#Hr, ⟨Hat, #Hre, Ht, Hx⟩, Hv0, Hv1⟩ Hk
  icases (bigSep_take ⟨(fe_insert (i 0)).1, (fe_insert (i 0)).2.1⟩) $$ Ht with ⟨Ht0, Ht⟩
  icases (bigSep_take ⟨rfl, (fe_insert (i 0)).2.2⟩) $$ Ht with ⟨Ht1, Ht⟩
  icases (xF_split X c (i 0)).1 $$ Hx with ⟨⟨Hx0, Hx1⟩, Hx⟩
  iapply (wp_fetch X wv N c (i 0) 0 (xT_eq c (i 0) 0 (off1 i c) _) (dst := vT 0) rfl) $$ [Hx0 Hv0 Ht0]
  · isplitr; · iexact Hr
    isplitl [Hx0]; · iexact Hx0
    isplitl [Hv0]; · iexact Hv0
    isplitl [Ht0]; · iexact Ht0
    iexact Hre
  iintro Hc0
  iapply (wp_fetch X wv N c (i 0) 1 (xT_eq c (i 0) 1 (off2 i c) _) (dst := vT 1) rfl) $$ [Hx1 Hv1 Ht1]
  · isplitr; · iexact Hr
    isplitl [Hx1]; · iexact Hx1
    isplitl [Hv1]; · iexact Hv1
    isplitl [Ht1]; · iexact Ht1
    iexact Hre
  iintro Hc1
  iapply (WP_ret c); iapply Hk
  unfold xGo
  isplitr [Ht Hx]
  · iapply (WS_start X wv c 0 0 _)
    isplitl [Hat]; · iexact Hat
    have e : nd (kdN 0) * amt (kdN 0) = Nx + Nx := by show 2 * Nx = _; omega
    rw [e]
    iapply (cred_split (cell c 0) 0 Nx Nx).2
    isplitl [Hc0]; · iexact Hc0
    iexact Hc1
  isplitl [Ht]; · iexact Ht
  iexact Hx

theorem fetched (s : Fin 4) (n : ℕ) :
    iprop(WL X wv c n 0 s.val ∗ bigSep (fe (s.val + 1)) (fun p => dutyTok ER (cell c 0) p.1.val (⟨p.2.val, by omega⟩ : D)) ∗ xRest X c s)
      ⊢ iprop(owesL c n ∗ xA X c s) := by
  have p0 : pay X wv c .x s.val (0 : D) = iprop(piece vM (vR 0) c (xv X c s 0) ∗ xPts X c s 0) := by
    show iprop(piece vM (vR 0) c (xv X c (Fin.ofNat 4 s.val) 0) ∗ xPts X c (Fin.ofNat 4 s.val) 0) = _
    rw [ofNat4]
  have p1 : pay X wv c .x s.val (1 : D) = iprop(piece vM (vR 1) c (xv X c s 1) ∗ xPts X c s 1) := by
    show iprop(piece vM (vR 1) c (xv X c (Fin.ofNat 4 s.val) 1) ∗ xPts X c (Fin.ofNat 4 s.val) 1) = _
    rw [ofNat4]
  have hp : bigSep (dset (nd (kdN 0))) (fun d => pay X wv c (kdN 0) s.val d)
      ⊢ iprop((piece vM (vR 0) c (xv X c s 0) ∗ xPts X c s 0) ∗ (piece vM (vR 1) c (xv X c s 1) ∗ xPts X c s 1)) := by
    rw [← p0, ← p1]; exact dset_two
  unfold WL xA xK
  iintro ⟨⟨HO, Hat, Hre, Hp⟩, Ht, Hx⟩
  icases hp $$ Hp with ⟨⟨Hv0, Hx0⟩, Hv1, Hx1⟩
  isplitl [HO]; · iexact HO
  isplitr [Hv0 Hv1]
  · isplitl [Hat]; · iexact Hat
    isplitl [Hre]; · iexact Hre
    isplitl [Ht]; · iexact Ht
    iapply (xF_split X c s).2
    isplitr [Hx]
    · isplitl [Hx0]; · iexact Hx0
      iexact Hx1
    iexact Hx
  isplitl [Hv0]; · iexact Hv0
  iexact Hv1

variable {α : Type}
/-- The two waits after the fetches. -/
theorem wp_fetched (s : Fin 4) (n : ℕ) {src0 src1 : Memref sig .tc .hbm S1024x1024 .bf16} {dst0 dst1 : Memref sig .tc .vmem S1024x1024 .bf16}
    (e0 : dst0.view.dmaCredit = Nx) (e1 : dst1.view.dmaCredit = Nx) {a0 : src0.view.WordExact} {b0 : dst0.view.WordExact} {a1 : src1.view.WordExact} {b1 : dst1.view.WordExact}
    {k : Prog (TpuEff nD τ sig (Elt F) Λ₀ .tc) α} {Q : α → sProp 𝕄} :
    iprop(recs X wv N ∗ owesL c n ∗ xGo X wv c s)
      ⊢ iprop(((owesL c n ∗ xA X c s) -∗ WP c k Q)
        -∗ WP c (Prog.lift (.waitDma2 xS src0 dst0 a0 b0) >>= fun _ => Prog.lift (.waitDma2 xS src1 dst1 a1 b1) >>= fun _ => k) Q) := by
  simp only [Prog.lift, Prog.bind_op, Prog.bind_ret]
  unfold xGo
  iintro ⟨#Hr, HO, HW, Ht, Hx⟩ Hk
  iapply (wp_dma_part X wv N c 0 0 s.val 0 n (dst := dst0) rfl e0 (by decide) (lv0 n)) $$ [HO HW]
  · unfold WW
    isplitr; · iexact Hr
    isplitl [HO]; · iexact HO
    iexact HW
  iintro H
  iapply (wp_dma_last X wv N c 0 0 s.val 1 n (dst := dst1) rfl e1 s.isLt rfl (lv0 n)) $$ H
  iintro H
  iapply Hk
  iapply (fetched X wv c s n)
  isplitl [H]; · iexact H
  isplitl [Ht]; · iexact Ht
  iexact Hx

end Cert.KernelIdeal.Ring

end
-- ==== Proof.KernelIdeal.Retire.lean ====
/-
  The start of a step: the sends of the step before are awaited, credits go to the senders, and the tiles come in.
-/
module

public import proofs.«01_k».proof.Proof.KernelIdeal.Fetch
public import proofs.«01_k».proof.Proof.KernelIdeal.Waits

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## The states without the blocks of `x` -/

def NoXL (c : Dev nD) (s : Fin 3) (t : ℕ) : sProp 𝕄 :=
  iprop(OT c (2 + 10 * s.val + t) ∗ RS c s.val t ∗ CD X wv c s 0 t ∗ CD X wv c s 1 t ∗ Cols X wv c s.castSucc t ∗ Fix c s.val ∗ mword X wv c 0)
def NoXR (c : Dev nD) (t : ℕ) : sProp 𝕄 :=
  iprop(OT c 30 ∗ atPos ER (cell c 1) 3 ∅ 0 ∗ (CrW X wv c 0 2 ∗ CrW X wv c 1 2)
    ∗ (bigSep Finset.univ (fun tt : Fin 8 => slotAny c 1 tt) ∗ bigSep (Finset.univ.filter fun tt : Fin 8 => tt.val < t) (fun tt => slotAny c 0 tt) ∗ Cols X wv c 3 t)
    ∗ Fix c 3 ∗ mword X wv c t)
theorem MidL_NoX (c : Dev nD) (s : Fin 3) (t : ℕ) : MidL X wv c s t ⊣⊢ iprop(NoXL X wv c s t ∗ xA X c s.castSucc) := by
  unfold MidL NoXL
  constructor
  · iintro ⟨H1, H2, H3, H4, H5, H6, H7, H8⟩
    isplitr [H7]
    · isplitl [H1]; · iexact H1
      isplitl [H2]; · iexact H2
      isplitl [H3]; · iexact H3
      isplitl [H4]; · iexact H4
      isplitl [H5]; · iexact H5
      isplitl [H6]; · iexact H6
      iexact H8
    iexact H7
  · iintro ⟨⟨H1, H2, H3, H4, H5, H6, H8⟩, H7⟩
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
theorem MidR_NoX (c : Dev nD) (t : ℕ) : iprop(NoXR X wv c t ∗ xA X c 3) ⊢ MidR X wv c t := by
  unfold MidR NoXR
  iintro ⟨⟨H1, H2, H3, H4, H5, H6⟩, H7⟩
  isplitl [H1]; · iexact H1
  isplitl [H2]; · iexact H2
  isplitl [H3]; · iexact H3
  isplitl [H4]; · iexact H4
  isplitl [H5]; · iexact H5
  isplitl [H7]; · iexact H7
  iexact H6

/-! ## All columns, by direction -/

theorem dset_all : dset 8 = Finset.univ := by decide
omit [FloatOps F] in
theorem cols_split {Φ : Fin 8 → sProp 𝕄} : bigSep Finset.univ Φ ⊢ iprop(bigSep (cols 0) Φ ∗ bigSep (cols 1) Φ) := by
  have h : Finset.univ \ cols 0 = cols 1 := by decide
  rw [← h]; exact Entails.of_eq (BI.bigSep_sdiff_split (Finset.subset_univ (cols 0)))
theorem sends_back (c : Dev nD) (st : Fin 3) (r : ℕ) (hr : r = st.val) :
    bigSep (dset (nd (kdN 1))) (fun d => pay X wv c (kdN 1) r d) ⊢ bigSep Finset.univ (fun t : Fin 8 => slotAny c (sOf st) t) := by
  subst hr
  show bigSep (dset 8) (fun d : Fin 8 => slotAny c (sOf (Fin.ofNat 3 st.val)) d) ⊢ _
  rw [ofNat3, dset_all]
theorem tiles_in (c : Dev nD) (st : Fin 3) :
    bigSep (dset (nd (kdN (rrI st)))) (fun d => pay X wv c (kdN (rrI st)) 0 d)
      ⊢ bigSep Finset.univ (fun t : Fin 8 => slot c (dOf st) t (acc X wv st (frm c t) t)) := by
  rw [kdN_rr]
  show bigSep (dset 8) _ ⊢ _
  rw [dset_all]
  exact .rfl
theorem Cols_start (c : Dev nD) (st : Fin 3) :
    bigSep Finset.univ (fun t : Fin 8 => slot c (dOf st) t (acc X wv st (frm c t) t)) ⊢ Cols X wv c st.succ 0 := by
  unfold Cols
  rw [ge_zero]
  fin_cases st <;> exact .rfl

/-! ## Sending a credit -/

variable {α : Type}

theorem wp_credit0 (c : Dev nD) (d : Fin 2) {c' : Dev nD} (hc : c' = side c d)
    {dst : Memref sig .tc .vmem S8x128 .f32} (hdst' : dst = kT (kslot 0 d))
    {sm : SemLoc sig} (hsm : sm = osem (crI d)) {hsc : dst.view.ref.isScScratch = false}
    {hsrc : (kT 0).view.WordExact} {hdst : dst.view.WordExact} {hsem : DmaTarget.Typed .vmem sm (.remote (Dev.tc c') dst (.dma csS) hsc)}
    {kk : PUnit → Prog (TpuEff nD τ sig (Elt F) Λ₀ .tc) α} {Q : α → sProp 𝕄} :
    iprop(recs X wv N ∗ owesL c (10 + 10 * (0 : Fin 2).val + d.val) ∗ near c ∗ freed c d 0 ∗ mark (side c d) d 0 ∗ kPts c d ∗ kAny (side c d) (kslot 0 d)
        ∗ dutyTok ER (cell c 7) 0 (⟨d.val, by omega⟩ : D) ∗ reached ER (cell c 7) 0)
      ⊢ iprop(((cred (tallyAt (cell c 7) 0 Nk) ∗ owesL c (10 + 10 * (0 : Fin 2).val + d.val + 1) ∗ mark (side c d) d 1) -∗ WP c (kk ⟨⟩) Q)
          -∗ WP c (.op (.enqueueDma (kT 0) (.remote (Dev.tc c') dst (.dma csS) hsc) sm hsrc hdst hsem) kk) Q) := by
  iintro ⟨#Hr, HO, #Hn, Hf, Hm, Hk0, Ha, Ht, Hre⟩ Hk
  have hcr := credit0 (F := F) (κj := N.KJ (side c d) d) (side c d) d
  rw [sdr_side] at hcr
  ihave H := hcr $$ [Hf Hm]
  · isplitr; · iapply (recs_J X wv N (side c d) d); iexact Hr
    isplitl [Hf]; · iexact Hf
    iexact Hm
  imod H with ⟨Hc, Hm⟩
  iapply (wp_send_credit X wv N c 0 d hc hdst' hsm) $$ [HO Hk0 Ha Ht Hre Hc]
  · isplitr; · iexact Hr
    isplitl [HO]; · iexact HO
    isplitl [Hk0]; · iexact Hk0
    isplitl [Ha]; · iexact Ha
    isplitl [Ht]; · iexact Ht
    isplitl [Hre]; · iexact Hre
    isplitl [Hc]; · iexact Hc
    iapply (near_cr c d); iexact Hn
  iintro ⟨H1, H2⟩
  iapply Hk
  isplitl [H1]; · iexact H1
  isplitl [H2]; · iexact H2
  iexact Hm

theorem wp_credit1 (c : Dev nD) (d : Fin 2) {c' : Dev nD} (hc : c' = side c d)
    {dst : Memref sig .tc .vmem S8x128 .f32} (hdst' : dst = kT (kslot 1 d))
    {sm : SemLoc sig} (hsm : sm = osem (crI d)) {hsc : dst.view.ref.isScScratch = false}
    {hsrc : (kT 0).view.WordExact} {hdst : dst.view.WordExact} {hsem : DmaTarget.Typed .vmem sm (.remote (Dev.tc c') dst (.dma csS) hsc)}
    {kk : PUnit → Prog (TpuEff nD τ sig (Elt F) Λ₀ .tc) α} {Q : α → sProp 𝕄} :
    iprop(recs X wv N ∗ owesL c (10 + 10 * (1 : Fin 2).val + d.val) ∗ near c ∗ freed c d 1 ∗ mark (side c d) d 1 ∗ kPts c d ∗ kAny (side c d) (kslot 1 d)
        ∗ dutyTok ER (cell c 7) 1 (⟨d.val, by omega⟩ : D) ∗ reached ER (cell c 7) 1)
      ⊢ iprop(((cred (tallyAt (cell c 7) 0 Nk) ∗ owesL c (10 + 10 * (1 : Fin 2).val + d.val + 1)) -∗ WP c (kk ⟨⟩) Q)
          -∗ WP c (.op (.enqueueDma (kT 0) (.remote (Dev.tc c') dst (.dma csS) hsc) sm hsrc hdst hsem) kk) Q) := by
  iintro ⟨#Hr, HO, #Hn, Hf, Hm, Hk0, Ha, Ht, Hre⟩ Hk
  have hcr := credit1 (F := F) (κj := N.KJ (side c d) d) (side c d) d
  rw [sdr_side] at hcr
  ihave H := hcr $$ [Hf Hm]
  · isplitr; · iapply (recs_J X wv N (side c d) d); iexact Hr
    isplitl [Hf]; · iexact Hf
    iexact Hm
  imod H with Hc
  iapply (wp_send_credit X wv N c 1 d hc hdst' hsm) $$ [HO Hk0 Ha Ht Hre Hc]
  · isplitr; · iexact Hr
    isplitl [HO]; · iexact HO
    isplitl [Hk0]; · iexact Hk0
    isplitl [Ha]; · iexact Ha
    isplitl [Ht]; · iexact Ht
    isplitl [Hre]; · iexact Hre
    isplitl [Hc]; · iexact Hc
    iapply (near_cr c d); iexact Hn
  iexact Hk

/-! ## The parts that send credits -/

theorem devs_cr0 : ∀ c : Dev nD, k0_dev3 c = (side c 0).val ∧ k0_dev4 c = (side c 1).val := by decide +kernel
theorem devs_cr1 : ∀ c : Dev nD, k0_dev5 c = (side c 0).val ∧ k0_dev6 c = (side c 1).val := by decide +kernel

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)
variable (v14 v25 : BitVec 32)

omit [FloatOps F] in
theorem cred_two (g : GSem nD τ sig) (n : ℕ) : iprop(cred (tallyAt g 0 n) ∗ cred (tallyAt g 0 n)) ⊢ (cred (tallyAt g 0 (2 * n)) : sProp 𝕄) := by
  rw [Nat.two_mul]; exact (cred_split g 0 n n).2

theorem part4_spec (h : k0_cond3 i = 1#1) {Q : PUnit → sProp 𝕄} :
    iprop(recs X wv N ∗ owesL c 10 ∗ near c ∗ KB c 0 ∗ (freed c 0 0 ∗ freed c 1 0) ∗ WS X wv c 2 0 0 0)
      ⊢ iprop(((WW X wv N c 12 2 0 0 1 ∗ KB c 1) -∗ Q ⟨⟩) -∗ WP c (k0_part4 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v14 v25 h) Q) := by
  rw [k0_part4_eq_skeleton]; unfold k0_part4_skel
  simp only [Prog.lift, Prog.bind_op, Prog.bind_ret, Prog.pure_eq_ret]
  simp only [KB]
  iintro ⟨#Hr, HO, #Hn, ⟨Hk0, Hk1, Hat, #Hre, ⟨Ht0, Ht1⟩, ⟨Hm0, Hm1⟩, ⟨Ha0, Ha1⟩, Hz⟩, ⟨Hf0, Hf1⟩, HW⟩ Hk
  iapply (wp_credit0 X wv N c 0 (Fin.ext (devs_cr0 c).1) (dst := kT (kslot 0 0)) rfl rfl) $$ [HO Hf0 Hm0 Hk0 Ha0 Ht0]
  · isplitr; · iexact Hr
    isplitl [HO]; · iexact HO
    isplitr; · iexact Hn
    isplitl [Hf0]; · iexact Hf0
    isplitl [Hm0]; · iexact Hm0
    isplitl [Hk0]; · iexact Hk0
    isplitl [Ha0]; · iexact Ha0
    isplitl [Ht0]; · iexact Ht0
    iexact Hre
  iintro ⟨Hc0, HO, Hm0⟩
  iapply (wp_credit0 X wv N c 1 (Fin.ext (devs_cr0 c).2) (dst := kT (kslot 0 1)) rfl rfl) $$ [HO Hf1 Hm1 Hk1 Ha1 Ht1]
  · isplitr; · iexact Hr
    isplitl [HO]; · iexact HO
    isplitr; · iexact Hn
    isplitl [Hf1]; · iexact Hf1
    isplitl [Hm1]; · iexact Hm1
    isplitl [Hk1]; · iexact Hk1
    isplitl [Ha1]; · iexact Ha1
    isplitl [Ht1]; · iexact Ht1
    iexact Hre
  iintro ⟨Hc1, HO, Hm1⟩
  iapply (wp_dma_part X wv N c 2 0 0 0 12 (dst := cT 0 0) rfl rfl (by decide) (lv_rr0 (by decide))) $$ [HO HW]
  · unfold WW
    isplitr; · iexact Hr
    isplitl [HO]; · iexact HO
    iexact HW
  iintro H
  iapply (WP_ret c); iapply Hk
  isplitl [H]; · iexact H
  icases Hz with ⟨Hz1, Hz2⟩
  isplitl [Hat Hc0 Hc1]
  · isplitl [Hat]; · iexact Hat
    iapply (cred_two (cell c 7) Nk)
    isplitl [Hc0]; · iexact Hc0
    iexact Hc1
  isplitl [Hm0 Hm1]
  · isplitl [Hm0]; · iexact Hm0
    iexact Hm1
  isplitl [Hz1]; · iexact Hz1
  iexact Hz2

/-- Between the second credits. -/
def KBmid (c : Dev nD) : sProp 𝕄 :=
  iprop((atPos ER (cell c 7) 1 ∅ 0 ∗ reached ER (cell c 7) 1 ∗ cred (tallyAt (cell c 7) 0 Nk)) ∗ mark (side c 1) 1 1
      ∗ dutyTok ER (cell c 7) 1 (1 : D) ∗ kAny (side c 1) (kslot 1 1) ∗ kPts c 1)

theorem credits_back (c : Dev nD) (r : ℕ) : bigSep (dset (nd (kdN 7))) (fun d => pay X wv c (kdN 7) r d) ⊢ iprop(kPts c 0 ∗ kPts c 1) := dset_two

theorem part9_spec (h : k0_cond4 i = 1#1) {Q : PUnit → sProp 𝕄} :
    iprop(recs X wv N ∗ owesL c 20 ∗ near c ∗ KB c 1 ∗ freed c 0 1)
      ⊢ iprop(((owesL c 21 ∗ KBmid c) -∗ Q ⟨⟩) -∗ WP c (k0_part9 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v14 v25 h) Q) := by
  rw [k0_part9_eq_skeleton]; unfold k0_part9_skel
  simp only [Prog.lift, Prog.bind_op, Prog.bind_ret, Prog.pure_eq_ret]
  simp only [KB]
  iintro ⟨#Hr, HO, #Hn, ⟨⟨Hat, Hc⟩, ⟨Hm0, Hm1⟩, ⟨Ht0, Ht1⟩, Ha0, Ha1⟩, Hf0⟩ Hk
  iapply (wp_dma_part X wv N c 7 0 0 0 20 (dst := kT 0) rfl rfl (by decide) (lv0 20)) $$ [HO Hat Hc]
  · unfold WW
    isplitr; · iexact Hr
    isplitl [HO]; · iexact HO
    iapply (WS_start X wv c 7 0 0)
    isplitl [Hat]; · iexact Hat
    iexact Hc
  iintro H
  iapply (wp_dma_last X wv N c 7 0 0 1 20 (dst := kT 0) rfl rfl (by decide) rfl (lv0 20)) $$ H
  unfold WL
  iintro ⟨HO, Hat, #Hre, Hp⟩
  icases (credits_back X wv c 0) $$ Hp with ⟨Hk0, Hk1⟩
  iapply (wp_credit1 X wv N c 0 (Fin.ext (devs_cr1 c).1) (dst := kT (kslot 1 0)) rfl rfl) $$ [HO Hf0 Hm0 Hk0 Ha0 Ht0]
  · isplitr; · iexact Hr
    isplitl [HO]; · iexact HO
    isplitr; · iexact Hn
    isplitl [Hf0]; · iexact Hf0
    isplitl [Hm0]; · iexact Hm0
    isplitl [Hk0]; · iexact Hk0
    isplitl [Ha0]; · iexact Ha0
    isplitl [Ht0]; · iexact Ht0
    iexact Hre
  iintro ⟨Hc0, HO⟩
  iapply (WP_ret c); iapply Hk
  isplitl [HO]; · iexact HO
  unfold KBmid
  isplitl [Hat Hc0]
  · isplitl [Hat]; · iexact Hat
    isplitr; · iexact Hre
    iexact Hc0
  isplitl [Hm1]; · iexact Hm1
  isplitl [Ht1]; · iexact Ht1
  isplitl [Ha1]; · iexact Ha1
  iexact Hk1

theorem part10_spec (h : k0_cond4 i = 1#1) {Q : PUnit → sProp 𝕄} :
    iprop(recs X wv N ∗ owesL c 21 ∗ near c ∗ KBmid c ∗ freed c 1 1 ∗ WS X wv c 3 0 0 0)
      ⊢ iprop(((WW X wv N c 22 3 0 0 2 ∗ KB c 2) -∗ Q ⟨⟩) -∗ WP c (k0_part10 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v25 h) Q) := by
  rw [k0_part10_eq_skeleton]; unfold k0_part10_skel
  simp only [Prog.lift, Prog.bind_op, Prog.bind_ret, Prog.pure_eq_ret]
  unfold KBmid
  iintro ⟨#Hr, HO, #Hn, ⟨⟨Hat, #Hre, Hc0⟩, Hm1, Ht1, Ha1, Hk1⟩, Hf1, HW⟩ Hk
  iapply (wp_credit1 X wv N c 1 (Fin.ext (devs_cr1 c).2) (dst := kT (kslot 1 1)) rfl rfl) $$ [HO Hf1 Hm1 Hk1 Ha1 Ht1]
  · isplitr; · iexact Hr
    isplitl [HO]; · iexact HO
    isplitr; · iexact Hn
    isplitl [Hf1]; · iexact Hf1
    isplitl [Hm1]; · iexact Hm1
    isplitl [Hk1]; · iexact Hk1
    isplitl [Ha1]; · iexact Ha1
    isplitl [Ht1]; · iexact Ht1
    iexact Hre
  iintro ⟨Hc1, HO⟩
  iapply (wp_dma_part X wv N c 3 0 0 0 22 (dst := cT 1 0) rfl rfl (by decide) (lv_rr1 (by decide))) $$ [HO HW]
  · unfold WW
    isplitr; · iexact Hr
    isplitl [HO]; · iexact HO
    iexact HW
  iintro H
  iapply (wp_dma_part X wv N c 3 0 0 1 22 (dst := cT 1 1) rfl rfl (by decide) (lv_rr1 (by decide))) $$ H
  iintro H
  iapply (WP_ret c); iapply Hk
  isplitl [H]; · iexact H
  simp only [KB]
  isplitl [Hat]; · iexact Hat
  iapply (cred_two (cell c 7) Nk)
  isplitl [Hc0]; · iexact Hc0
  iexact Hc1

/-! ## The retirements -/

theorem RR_done (c : Dev nD) (st : Fin 3) (s : ℕ) (h : st.val < s) : (atPos ER (cell c (rrI st)) 1 ∅ 0 : sProp 𝕄) ⊢ RR c st s := by
  unfold RR; rw [if_pos h]
theorem RR_wait (c : Dev nD) (st : Fin 3) (s : ℕ) (h : ¬ st.val < s) : (RR c st s : sProp 𝕄) ⊢ WS X wv c (rrI st) 0 0 0 := by
  unfold RR; rw [if_neg h]
  have e : nd (kdN (rrI st)) * amt (kdN (rrI st)) = 8 * Nt := by rw [kdN_rr]; rfl
  have := WS_start X wv c (rrI st) 0 0
  rw [e] at this; exact this
theorem RR_keep (c : Dev nD) (st : Fin 3) (s s' : ℕ) (h : st.val < s ↔ st.val < s') : (RR c st s : sProp 𝕄) ⊢ RR c st s' := by
  unfold RR; simp only [h]; exact .rfl
theorem RS_wait (c : Dev nD) (s : ℕ) : (RS c s 8 : sProp 𝕄) ⊢ WS X wv c 1 0 s 0 := by
  unfold RS
  iintro ⟨H1, -, H2⟩
  iapply (WS_start X wv c 1 0 s)
  isplitl [H1]; · iexact H1
  iexact H2

omit [FloatOps F] in
theorem GG_zero (c : Dev nD) {n : ℕ} (h : n = 0) : (GG c n : sProp 𝕄) ⊢ iprop(gAny (nxt c) 0 ∗ gAny (prv c) 2 ∗ gAny (nxt c) 1) := by unfold GG; rw [if_pos h]
omit [FloatOps F] in
theorem GG_one (c : Dev nD) : iprop(gAny (nxt c) 0 ∗ gAny (prv c) 2) ⊢ (GG c 1 : sProp 𝕄) := by
  unfold GG; rw [if_neg (by decide)]
  iintro ⟨H0, H2⟩
  isplitl [H0]; · iexact H0
  isplitl [H2]; · iexact H2
  iempintro

theorem retire1 (h : k0_cond3 i = 1#1) {s' : Shape} {e' : EltTy} {src0 : Memref sig .tc .vmem s' e'} {hsrc0 : src0.view.WordExact} {hdst0 : (cT 0 7).view.WordExact}
    {k : Prog (TpuEff nD τ sig (Elt F) Λ₀ .tc) α} {Q : α → sProp 𝕄} :
    iprop(recs X wv N ∗ NoXL X wv c 0 8)
      ⊢ iprop((NoXL X wv c 1 0 -∗ WP c k Q)
        -∗ WP c (k0_part2 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) >>= fun _ => k0_part3 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) >>= fun _ => k0_part4 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v14 v25 h >>= fun _ => k0_part5 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v25 >>= fun _ =>
          k0_part6 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v14 >>= fun _ => Prog.lift (.waitDma2 (rrS 0) src0 (cT 0 7) hsrc0 hdst0) >>= fun _ => k) Q) := by
  simp only [WP_bind, Prog.lift, Prog.bind_op, Prog.bind_ret]
  unfold NoXL OT Fix RRs
  iintro ⟨#Hr, ⟨HO, Ht⟩, HRS, HC0, HC1, -, ⟨#Hn, HKB, HG, HAM, HR0, HR1, HR2⟩, Hm⟩ Hk
  icases (GG_zero c (n := (0 : Fin 3).val) rfl) $$ HG with ⟨Hg0, Hg2, Hg1⟩
  iapply (part2_spec X wv N c i m3 h3 m4 h4 m5 h5) $$ [HO HRS]
  · unfold WW
    isplitr; · iexact Hr
    isplitl [HO]; · iexact HO
    iapply (RS_wait X wv c 0); iexact HRS
  iintro H
  iapply (part3_spec X wv N c i m3 h3 m4 h4 m5 h5) $$ H
  unfold WL
  iintro ⟨HO, Hat, Hre, Hp⟩
  icases (sends_back X wv c 0 0 rfl) $$ Hp with Hp
  icases cols_split $$ Hp with ⟨Hs0, Hs1⟩
  iapply (part4_spec X wv N c i m3 h3 m4 h4 m5 h5 v14 v25 h) $$ [HO HKB Hs0 Hs1 Hg1 HR0]
  · isplitr; · iexact Hr
    isplitl [HO]; · iexact HO
    isplitr; · iexact Hn
    isplitl [HKB]; · iexact HKB
    isplitr [HR0]
    · isplitl [Hs0 Hg1]
      · unfold freed slotsAny
        isplitl [Hs0]; · iexact Hs0
        isplitl [Hg1]; · iexact Hg1
        unfold near
        icases Hn with ⟨⟨-, -, #Ha⟩, -⟩
        iexact Ha
      unfold freed slotsAny
      iexact Hs1
    iapply (RR_wait X wv c 0 0 (by decide)); iexact HR0
  iintro ⟨H, HKB⟩
  iapply (part5_spec X wv N c i m3 h3 m4 h4 m5 h5 v25) $$ H
  iintro H
  iapply (part6_spec X wv N c i m3 h3 m4 h4 m5 h5 v14) $$ H
  iintro H
  iapply (wp_dma_last X wv N c 2 0 0 7 12 (dst := cT 0 7) rfl rfl (by decide) rfl (lv_rr0 (by decide))) $$ H
  unfold WL
  iintro ⟨HO, Hat0, -, Hp⟩
  iapply Hk
  isplitl [HO Ht]
  · isplitl [HO]; · iexact HO
    have e : tl 10 = tl 12 := by decide
    iapply (Entails.of_eq (congrArg (fun A => bigSep A (stok (F := F) c)) e)); iexact Ht
  isplitl [Hat Hre]
  · iapply (RS_start c 1)
    isplitl [Hat]; · iexact Hat
    iexact Hre
  isplitl [HC0]
  · iapply (CrW_CD X wv c 1 0 (by decide)); iapply (CD_end X wv c 0 0); iexact HC0
  isplitl [HC1]
  · iapply (CrW_CD X wv c 1 1 (by decide)); iapply (CD_end X wv c 0 1); iexact HC1
  isplitl [Hp]
  · iapply (Cols_start X wv c 0); iapply (tiles_in X wv c 0); iexact Hp
  isplitr [Hm]
  · isplitr; · iexact Hn
    isplitl [HKB]; · iexact HKB
    isplitl [Hg0 Hg2]
    · iapply (GG_one c)
      isplitl [Hg0]; · iexact Hg0
      iexact Hg2
    isplitl [HAM]; · iexact HAM
    isplitl [Hat0]; · iapply (RR_done c 0 1 (by decide)); iexact Hat0
    isplitl [HR1]; · iapply (RR_keep c 1 0 1 (by decide)); iexact HR1
    iapply (RR_keep c 2 0 1 (by decide)); iexact HR2
  iexact Hm

theorem retire2 (h : k0_cond4 i = 1#1) {s' : Shape} {e' : EltTy} {src5 src6 src7 : Memref sig .tc .vmem s' e'} {a5 : src5.view.WordExact} {b5 : (cT 1 5).view.WordExact}
    {a6 : src6.view.WordExact} {b6 : (cT 1 6).view.WordExact} {a7 : src7.view.WordExact} {b7 : (cT 1 7).view.WordExact}
    {k : Prog (TpuEff nD τ sig (Elt F) Λ₀ .tc) α} {Q : α → sProp 𝕄} :
    iprop(recs X wv N ∗ NoXL X wv c 1 8)
      ⊢ iprop((NoXL X wv c 2 0 -∗ WP c k Q)
        -∗ WP c (k0_part7 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) >>= fun _ => k0_part8 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) >>= fun _ => k0_part9 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v14 v25 h >>= fun _ => k0_part10 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v25 h >>= fun _ =>
          k0_part11 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v14 v25 >>= fun _ => Prog.lift (.waitDma2 (rrS 1) src5 (cT 1 5) a5 b5) >>= fun _ => Prog.lift (.waitDma2 (rrS 1) src6 (cT 1 6) a6 b6) >>= fun _ =>
          Prog.lift (.waitDma2 (rrS 1) src7 (cT 1 7) a7 b7) >>= fun _ => k) Q) := by
  simp only [WP_bind, Prog.lift, Prog.bind_op, Prog.bind_ret]
  unfold NoXL OT Fix RRs
  iintro ⟨#Hr, ⟨HO, Ht⟩, HRS, HC0, HC1, -, ⟨#Hn, HKB, HG, HAM, HR0, HR1, HR2⟩, Hm⟩ Hk
  iapply (part7_spec X wv N c i m3 h3 m4 h4 m5 h5) $$ [HO HRS]
  · unfold WW
    isplitr; · iexact Hr
    isplitl [HO]; · iexact HO
    iapply (RS_wait X wv c 1); iexact HRS
  iintro H
  iapply (part8_spec X wv N c i m3 h3 m4 h4 m5 h5) $$ H
  unfold WL
  iintro ⟨HO, Hat, Hre, Hp⟩
  icases (sends_back X wv c 1 1 rfl) $$ Hp with Hp
  icases cols_split $$ Hp with ⟨Hs0, Hs1⟩
  iapply (part9_spec X wv N c i m3 h3 m4 h4 m5 h5 v14 v25 h) $$ [HO HKB Hs0]
  · isplitr; · iexact Hr
    isplitl [HO]; · iexact HO
    isplitr; · iexact Hn
    isplitl [HKB]; · iexact HKB
    unfold freed slotsAny
    iexact Hs0
  iintro ⟨HO, HKB⟩
  iapply (part10_spec X wv N c i m3 h3 m4 h4 m5 h5 v25 h) $$ [HO HKB Hs1 HR1]
  · isplitr; · iexact Hr
    isplitl [HO]; · iexact HO
    isplitr; · iexact Hn
    isplitl [HKB]; · iexact HKB
    isplitl [Hs1]
    · unfold freed slotsAny; iexact Hs1
    iapply (RR_wait X wv c 1 1 (by decide)); iexact HR1
  iintro ⟨H, HKB⟩
  iapply (part11_spec X wv N c i m3 h3 m4 h4 m5 h5 v14 v25) $$ H
  iintro H
  iapply (wp_dma_part X wv N c 3 0 0 5 22 (dst := cT 1 5) rfl rfl (by decide) (lv_rr1 (by decide))) $$ H
  iintro H
  iapply (wp_dma_part X wv N c 3 0 0 6 22 (dst := cT 1 6) rfl rfl (by decide) (lv_rr1 (by decide))) $$ H
  iintro H
  iapply (wp_dma_last X wv N c 3 0 0 7 22 (dst := cT 1 7) rfl rfl (by decide) rfl (lv_rr1 (by decide))) $$ H
  unfold WL
  iintro ⟨HO, Hat0, -, Hp⟩
  iapply Hk
  isplitl [HO Ht]
  · isplitl [HO]; · iexact HO
    have e : tl 20 = tl 22 := by decide
    iapply (Entails.of_eq (congrArg (fun A => bigSep A (stok (F := F) c)) e)); iexact Ht
  isplitl [Hat Hre]
  · iapply (RS_start c 2)
    isplitl [Hat]; · iexact Hat
    iexact Hre
  isplitl [HC0]
  · iapply (CrW_CD X wv c 2 0 (by decide)); iapply (CD_end X wv c 1 0); iexact HC0
  isplitl [HC1]
  · iapply (CrW_CD X wv c 2 1 (by decide)); iapply (CD_end X wv c 1 1); iexact HC1
  isplitl [Hp]
  · iapply (Cols_start X wv c 1); iapply (tiles_in X wv c 1); iexact Hp
  isplitr [Hm]
  · isplitr; · iexact Hn
    isplitl [HKB]; · iexact HKB
    isplitl [HG]; · iexact HG
    isplitl [HAM]; · iexact HAM
    isplitl [HR0]; · iapply (RR_keep c 0 1 2 (by decide)); iexact HR0
    isplitl [Hat0]; · iapply (RR_done c 1 2 (by decide)); iexact Hat0
    iapply (RR_keep c 2 1 2 (by decide)); iexact HR2
  iexact Hm

theorem retire3 {s' : Shape} {e' : EltTy} {src6 src7 : Memref sig .tc .vmem s' e'}
    {a6 : src6.view.WordExact} {b6 : (cT 0 6).view.WordExact} {a7 : src7.view.WordExact} {b7 : (cT 0 7).view.WordExact}
    {k : Prog (TpuEff nD τ sig (Elt F) Λ₀ .tc) α} {Q : α → sProp 𝕄} :
    iprop(recs X wv N ∗ NoXL X wv c 2 8)
      ⊢ iprop((NoXR X wv c 0 -∗ WP c k Q)
        -∗ WP c (k0_part12 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) >>= fun _ => k0_part13 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) >>= fun _ => k0_part14 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v25 >>= fun _ => k0_part15 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v14 v25 >>= fun _ =>
          Prog.lift (.waitDma2 (rrS 2) src6 (cT 0 6) a6 b6) >>= fun _ => Prog.lift (.waitDma2 (rrS 2) src7 (cT 0 7) a7 b7) >>= fun _ => k) Q) := by
  simp only [WP_bind, Prog.lift, Prog.bind_op, Prog.bind_ret]
  unfold NoXL NoXR OT Fix RRs
  iintro ⟨#Hr, ⟨HO, Ht⟩, HRS, HC0, HC1, -, ⟨#Hn, HKB, HG, HAM, HR0, HR1, HR2⟩, Hm⟩ Hk
  iapply (part12_spec X wv N c i m3 h3 m4 h4 m5 h5) $$ [HO HRS]
  · unfold WW
    isplitr; · iexact Hr
    isplitl [HO]; · iexact HO
    iapply (RS_wait X wv c 2); iexact HRS
  iintro H
  iapply (part13_spec X wv N c i m3 h3 m4 h4 m5 h5) $$ H
  unfold WL
  iintro ⟨HO, Hat, -, Hp⟩
  icases (sends_back X wv c 2 2 rfl) $$ Hp with Hs
  iapply (part14_spec X wv N c i m3 h3 m4 h4 m5 h5 v25) $$ [HO HR2]
  · unfold WW
    isplitr; · iexact Hr
    isplitl [HO]; · iexact HO
    iapply (RR_wait X wv c 2 2 (by decide)); iexact HR2
  iintro H
  iapply (part15_spec X wv N c i m3 h3 m4 h4 m5 h5 v14 v25) $$ H
  iintro H
  iapply (wp_dma_part X wv N c 4 0 0 6 30 (dst := cT 0 6) rfl rfl (by decide) (lv_rr2 (by decide))) $$ H
  iintro H
  iapply (wp_dma_last X wv N c 4 0 0 7 30 (dst := cT 0 7) rfl rfl (by decide) rfl (lv_rr2 (by decide))) $$ H
  unfold WL
  iintro ⟨HO, Hat0, -, Hp⟩
  iapply Hk
  isplitl [HO Ht]
  · isplitl [HO]; · iexact HO
    iexact Ht
  isplitl [Hat]; · iexact Hat
  isplitl [HC0 HC1]
  · isplitl [HC0]
    · iapply (CD_end X wv c 2 0); iexact HC0
    iapply (CD_end X wv c 2 1); iexact HC1
  isplitl [Hs Hp]
  · isplitl [Hs]; · iexact Hs
    isplitr [Hp]
    · have e : (Finset.univ.filter fun tt : Fin 8 => tt.val < 0) = ∅ := by decide
      rw [e, bigSep_empty]; iempintro
    iapply (Cols_start X wv c 2); iapply (tiles_in X wv c 2); iexact Hp
  isplitr [Hm]
  · isplitr; · iexact Hn
    isplitl [HKB]; · iexact HKB
    isplitl [HG]; · iexact HG
    isplitl [HAM]; · iexact HAM
    isplitl [HR0]; · iapply (RR_keep c 0 2 3 (by decide)); iexact HR0
    isplitl [HR1]; · iapply (RR_keep c 1 2 3 (by decide)); iexact HR1
    iapply (RR_done c 2 3 (by decide)); iexact Hat0
  iexact Hm

end Cert.KernelIdeal.Ring

end
-- ==== Proof.KernelIdeal.Sends.lean ====
/-
  The sends of the tiles: each conditional of the program fires at one point of the grid and starts that point's
  transfer; the first send of a direction in steps 1 and 2 awaits a credit before.
-/
module

public import proofs.«01_k».proof.Proof.KernelIdeal.State

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

theorem fin2 (d : Fin 2) : d = 0 ∨ d = 1 := by revert d; decide
theorem half_or (t : Fin 8) : half t = 0 ∨ half t = 1 := by revert t; decide

/-- The state of one direction after a tile of the other was sent. -/
theorem CD_other (c : Dev nD) (s : Fin 3) (t : Fin 8) (d : Fin 2) (hd : d ≠ half t) : CD X wv c s d t.val ⊢ CD X wv c s d (t.val + 1) := by
  have h1 : (4 * d.val < t.val ↔ 4 * d.val < t.val + 1) := by
    have : ∀ (t : Fin 8) (d : Fin 2), d ≠ half t → (4 * d.val < t.val ↔ 4 * d.val < t.val + 1) := by decide
    exact this t d hd
  unfold CD Dst
  rw [geH_other t d hd]
  by_cases h : s = 0 ∨ 4 * d.val < t.val
  · rw [if_pos h, if_pos (h.imp_right h1.1)]
  · rw [if_neg h, if_neg (fun h' => h (h'.imp_right h1.2))]

/-- A tile's landing slot is taken, its direction's credits staying. -/
theorem CD_take (c : Dev nD) (s : Fin 3) (t : Fin 8) (h : s = 0 ∨ t.val % 4 ≠ 0) :
    CD X wv c s (half t) t.val ⊢ iprop(slotAny (tow c t) (dOf s) t ∗ CD X wv c s (half t) (t.val + 1)) := by
  have h1 : s = 0 ∨ 4 * (half t).val < t.val := h.imp_right fun h' => (by decide : ∀ t : Fin 8, t.val % 4 ≠ 0 → 4 * (half t).val < t.val) t h'
  unfold CD Dst
  rw [if_pos h1, if_pos (h1.imp_right fun h => by omega)]
  iintro ⟨HD, HC⟩
  icases (bigSep_take (geH_insert t)) $$ HD with ⟨H1, HD⟩
  isplitl [H1]; · iexact H1
  isplitl [HD]; · iexact HD
  iexact HC
theorem CD_take' (c : Dev nD) (s : Fin 3) (t : Fin 8) (h : t.val % 4 = 0) :
    iprop(slotsAny (sdr c (half t)) (dOf s) (half t) ∗ CrW X wv c (half t) s.val)
      ⊢ iprop(slotAny (tow c t) (dOf s) t ∗ CD X wv c s (half t) (t.val + 1)) := by
  have e0 : t.val = 4 * (half t).val := (by decide : ∀ t : Fin 8, t.val % 4 = 0 → t.val = 4 * (half t).val) t h
  have h1 : s = 0 ∨ 4 * (half t).val < t.val + 1 := .inr (by omega)
  have e1 : geH (half t) t.val = cols (half t) := by rw [e0]; exact geH_start _
  unfold CD Dst
  rw [if_pos h1]
  have e2 : (slotsAny (sdr c (half t)) (dOf s) (half t) : sProp 𝕄) = bigSep (geH (half t) t.val) fun tt => slotAny (tow c tt) (dOf s) tt := by
    rw [e1]; unfold slotsAny
    refine BI.bigSep_congr fun tt htt => ?_
    have : half tt = half t := (Finset.mem_filter.mp htt).2
    have : sdr c (half t) = tow c tt := by rw [← this]; unfold half tow; split <;> rfl
    rw [this]
  rw [e2]
  iintro ⟨HD, HC⟩
  icases (bigSep_take (geH_insert t)) $$ HD with ⟨H1, HD⟩
  isplitl [H1]; · iexact H1
  isplitl [HD]; · iexact HD
  iexact HC

variable {α : Type}

theorem kl_cr (k : Fin 2) (d : Fin 2) {n : ℕ} (h : 12 + 10 * k.val ≤ n) : ∀ y ∈ left n, kl (kdN (crI d)) k < dlv y := by
  rw [kdN_cr]
  fin_cases k
  · exact fun y hy => lv_cr0 h y hy
  · exact fun y hy => lv_cr1 h y hy

theorem pay_cr (c : Dev nD) (d : Fin 2) : bigSep (dset (nd (kdN (crI d)))) (fun e => pay X wv c (kdN (crI d)) 0 e)
    ⊢ iprop(kAny c (kslot 0 d) ∗ kAny c (kslot 1 d)) := by
  rw [kdN_cr]
  have e : dset (nd (Kd.cr d)) = insert (0 : D) {(1 : D)} := by revert d; decide
  rw [e, BI.bigSep_insert (by decide), BI.bigSep_singleton]
  exact .rfl

theorem CrW_one (c : Dev nD) (d : Fin 2) :
    iprop(WS0 X wv c (crI d) 0 1 ∗ cred (tallyAt (cell c (crI d)) 1 Nk) ∗ mark c d 3 ∗ extra c d) ⊢ CrW X wv c d 1 := .rfl
theorem CrW_two (c : Dev nD) (d : Fin 2) :
    iprop(atPos ER (cell c (crI d)) 1 ∅ 0 ∗ kAny c (kslot 0 d) ∗ kAny c (kslot 1 d) ∗ extra c d) ⊢ CrW X wv c d 2 := .rfl

/-- Awaiting the next credit of a direction: the slots it stands for are there. -/
theorem wp_credit_wait (c : Dev nD) (k d : Fin 2) (n : ℕ) (hn : 12 + 10 * k.val ≤ n) {sem : DmaSem sig} {sp sp' : Space} {s s' : Shape} {e e' : EltTy}
    {src : Memref sig .tc sp' s' e'} {dst : Memref sig .tc sp s e} {hsrc : src.view.WordExact} {hdst : dst.view.WordExact}
    (hs : osem (crI d) = .dma sem) (ha : dst.view.dmaCredit = Nk)
    {kk : PUnit → Prog (TpuEff nD τ sig (Elt F) Λ₀ .tc) α} {Q : α → sProp 𝕄} :
    iprop(recs X wv N ∗ owesL c n ∗ CrW X wv c d k.val)
      ⊢ iprop(((owesL c n ∗ CrW X wv c d (k.val + 1) ∗ slotsAny (sdr c d) (dOf k.succ) d) -∗ WP c (kk ⟨⟩) Q)
          -∗ WP c (.op (.waitDma2 sem src dst hsrc hdst) kk) Q) := by
  have ham : amt (kdN (crI d)) = Nk := by rw [kdN_cr]; rfl
  have hnd : nd (kdN (crI d)) = 2 := by rw [kdN_cr]; rfl
  have hw : ∀ Q : PUnit → sProp 𝕄, wpE (defs₀ (F := F)) 𝒱₀ (c : Thread nD τ) none Set.univ (.waitDma2 sem src dst hsrc hdst) Q
      = waitSpec (c : Thread nD τ) Set.univ (osem (crI d)) (amt (kdN (crI d))) Q := fun Q => by
    rw [hs, ham, ← ha]; exact wpE_waitDma2_eq 𝒱₀ (c : Thread nD τ) none Set.univ Q
  have hlv := kl_cr k d hn
  have hne := N.ne c d
  obtain rfl | rfl : k = 0 ∨ k = 1 := fin2 k
  · show iprop(recs X wv N ∗ owesL c n ∗ WS0 X wv c (crI d) 0 0 ∗ cred (tallyAt (cell c (crI d)) 0 Nk) ∗ cred (tallyAt (cell c (crI d)) 1 Nk) ∗ mark c d 2 ∗ mark c d 3) ⊢ _
    iintro ⟨#Hr, HO, HW, Hc0, Hc1, Hm2, Hm3⟩ Hk
    iapply (wp_wait_part0 X wv N c (crI d) 0 0 0 n hw (by rw [hnd]; decide) hlv) $$ [HO HW Hc0]
    · isplitr; · iexact Hr
      isplitl [HO]; · iexact HO
      isplitl [HW]; · iexact HW
      rw [ham]; iexact Hc0
    unfold WS0
    iintro ⟨HO, ⟨%T, %hT, Hat, Hp⟩⟩
    have hcl := claim0 X wv c d hne (T := T) (m := (0 + 1) * amt (kdN (crI d))) (by rw [ham, Nat.zero_add, Nat.one_mul]; exact Nk_pos)
    ihave Hcl := hcl $$ [Hat Hm2]
    · isplitr; · iapply (recs_cell X wv N c (crI d)); iexact Hr
      isplitr; · iapply (recs_J X wv N c d); iexact Hr
      isplitl [Hat] <;> iassumption
    imod Hcl with ⟨Hat, Hf⟩
    iapply Hk
    isplitl [HO]; · iexact HO
    have hf : freed (F := F) (sdr c d) d 0 ⊢ iprop(slotsAny (sdr c d) 1 d ∗ extra c d) := by
      obtain rfl | rfl : d = 0 ∨ d = 1 := fin2 d
      · have e : opp c = nxt (sdr c 0) := (nxt_nxt c).symm
        unfold freed extra
        dsimp only
        rw [e]
      · unfold freed extra
        iintro H; isplitl [H]; · iexact H
        iempintro
    icases hf $$ Hf with ⟨Hs, He⟩
    isplitr [Hs]
    · iapply (CrW_one X wv c d)
      unfold WS0
      isplitl [Hat Hp]
      · iexists T
        isplitr; · ipureintro; exact hT
        isplitl [Hat]; · iexact Hat
        iexact Hp
      isplitl [Hc1]; · iexact Hc1
      isplitl [Hm3]; · iexact Hm3
      iexact He
    iexact Hs
  · show iprop(recs X wv N ∗ owesL c n ∗ WS0 X wv c (crI d) 0 1 ∗ cred (tallyAt (cell c (crI d)) 1 Nk) ∗ mark c d 3 ∗ extra c d) ⊢ _
    iintro ⟨#Hr, HO, HW, Hc1, Hm3, He⟩ Hk
    iapply (wp_wait_last0 X wv N c (crI d) 1 0 1 n hw (by rw [kdN_cr]; exact Nat.one_pos) (by rw [hnd]) hlv) $$ [HO HW Hc1]
    · isplitr; · iexact Hr
      isplitl [HO]; · iexact HO
      isplitl [HW]; · iexact HW
      rw [ham]; iexact Hc1
    iintro ⟨HO, Hat, -, Hp⟩
    have hcl := claim1 X wv c d hne
    ihave Hcl := hcl $$ [Hat Hm3]
    · isplitr; · iapply (recs_cell X wv N c (crI d)); iexact Hr
      isplitr; · iapply (recs_J X wv N c d); iexact Hr
      isplitl [Hat] <;> iassumption
    imod Hcl with ⟨Hat, Hf⟩
    iapply Hk
    isplitl [HO]; · iexact HO
    icases (pay_cr X wv c d) $$ Hp with ⟨Hp0, Hp1⟩
    isplitr [Hf]
    · iapply (CrW_two X wv c d)
      isplitl [Hat]; · iexact Hat
      isplitl [Hp0]; · iexact Hp0
      isplitl [Hp1]; · iexact Hp1
      iexact He
    · have hf : freed (F := F) (sdr c d) d 1 ⊢ slotsAny (sdr c d) 0 d := by
        obtain rfl | rfl : d = 0 ∨ d = 1 := fin2 d
        · exact .rfl
        · exact .rfl
      iapply hf; iexact Hf

/-! ## One conditional -/

/-- A conditional whose body is dealt with when it fires, and does nothing otherwise. -/
theorem wp_cond (c : Dev nD) {cnd : Prop} [Decidable cnd] {A : cnd → Prog (TpuEff nD τ sig (Elt F) Λ₀ .tc) α}
    {k : Prog (TpuEff nD τ sig (Elt F) Λ₀ .tc) α} {P P' : sProp 𝕄} {Q : α → sProp 𝕄}
    (hF : ¬ cnd → P ⊢ P') (hk : P' ⊢ WP c k Q) (hT : (P' ⊢ WP c k Q) → ∀ h, P ⊢ WP c (A h) Q) :
    P ⊢ WP c (if h : cnd then A h else k) Q := by
  by_cases h : cnd
  · rw [dif_pos h]; exact hT hk h
  · rw [dif_neg h]; exact (hF h).trans hk

theorem Snd_skip (c : Dev nD) (s : Fin 4) (t : Fin 8) (st : Fin 3) (tt : Fin 8) (h : ¬ (s.val = st.val ∧ t = tt)) :
    Snd X wv c s t (8 * st.val + tt.val) ⊢ Snd X wv c s t (8 * st.val + tt.val + 1) := by
  have : (8 * s.val + t.val < 8 * st.val + tt.val ↔ 8 * s.val + t.val < 8 * st.val + tt.val + 1) := by
    have h1 := t.isLt; have h2 := tt.isLt
    constructor
    · omega
    · intro h3
      by_contra h4
      have h5 : 8 * s.val + t.val = 8 * st.val + tt.val := by omega
      exact h ⟨by omega, Fin.ext (by omega)⟩
  unfold Snd
  by_cases h3 : 8 * s.val + t.val < 8 * st.val + tt.val
  · rw [if_pos h3, if_pos (this.1 h3)]
  · rw [if_neg h3, if_neg (fun h' => h3 (this.2 h'))]

theorem Snd_none (c : Dev nD) (s : Fin 4) (t : Fin 8) (st : Fin 3) (tt : Fin 8) {cnd : Prop} (hcnd : cnd ↔ s.val = st.val ∧ t.val = tt.val)
    {n n' : ℕ} (hn : n = 8 * st.val + tt.val) (hn' : n' = n + 1) (h : ¬ cnd) :
    iprop(recs X wv N ∗ Snd X wv c s t n) ⊢ iprop(recs X wv N ∗ Snd X wv c s t n') := by
  subst hn' hn
  exact sep_mono .rfl (Snd_skip X wv c s t st tt (fun h' => h (hcnd.2 ⟨h'.1, congrArg Fin.val h'.2⟩)))

theorem Snd_at (c : Dev nD) (st : Fin 3) (tt : Fin 8) : Snd X wv c st.castSucc tt (8 * st.val + tt.val) = MidC X wv c st tt := by
  unfold Snd Cmp
  rw [if_neg (by show ¬ (8 * st.val + tt.val < _); omega), dif_pos (show st.castSucc.val < 3 from st.isLt)]
  rfl
theorem Snd_after (c : Dev nD) (st : Fin 3) (tt : Fin 8) : Snd X wv c st.castSucc tt (8 * st.val + tt.val + 1) = MidL X wv c st (tt.val + 1) := by
  unfold Snd Mid
  rw [if_pos (by show 8 * st.val + tt.val < _; omega), dif_pos (show st.castSucc.val < 3 from st.isLt)]
  rfl

/-- From the state with the column computed and its landing slot at hand, the send. -/
theorem wp_send_core (c : Dev nD) (st : Fin 3) (t : Fin 8) {c' : Dev nD} (hc : c' = tow c t)
    {src dst : Memref sig .tc .vmem S1024x1024 .bf16} (hsrc' : src = cT (sOf st) t) (hdst' : dst = cT (dOf st) t)
    {sm : SemLoc sig} (hsm : sm = osem (rrI st)) {hsc : dst.view.ref.isScScratch = false}
    {hsrc : src.view.WordExact} {hdst : dst.view.WordExact} {hsem : DmaTarget.Typed .vmem sm (.remote (Dev.tc c') dst (.dma rsS) hsc)}
    {kk : PUnit → Prog (TpuEff nD τ sig (Elt F) Λ₀ .tc) α} {Q : α → sProp 𝕄} :
    iprop(recs X wv N ∗ OT c (2 + 10 * st.val + t.val) ∗ RS c st.val t.val ∗ slot c (sOf st) t (acc X wv st c t) ∗ slotAny (tow c t) (dOf st) t ∗ near c)
      ⊢ iprop(((OT c (2 + 10 * st.val + t.val + 1) ∗ RS c st.val (t.val + 1)) -∗ WP c (kk ⟨⟩) Q)
          -∗ WP c (.op (.enqueueDma src (.remote (Dev.tc c') dst (.dma rsS) hsc) sm hsrc hdst hsem) kk) Q) := by
  unfold OT RS
  iintro ⟨#Hr, ⟨HO, HT⟩, ⟨Hat, #Hre, Hc⟩, Hs, Hd, #Hn⟩ Hk
  icases (bigSep_take (tl_insert st t)) $$ HT with ⟨Htk, HT⟩
  unfold stok
  icases Htk with ⟨Ht1, Ht2⟩
  iapply (wp_send_tile X wv N c st t hc hsrc' hdst' hsm) $$ [HO Hs Hd Ht1 Ht2]
  · isplitr; · iexact Hr
    isplitl [HO]; · iexact HO
    isplitl [Hs]; · iexact Hs
    isplitl [Hd]; · iexact Hd
    isplitl [Ht1]; · iexact Ht1
    isplitr; · iexact Hre
    isplitl [Ht2]; · iexact Ht2
    iapply (near_rr c st t); iexact Hn
  iintro ⟨Hc1, HO⟩
  iapply Hk
  isplitl [HO HT]
  · isplitl [HO] <;> iassumption
  isplitl [Hat]; · iexact Hat
  isplitr; · iexact Hre
  rw [Nat.add_mul, Nat.one_mul]
  iapply (cred_split (cell c 1) 0 _ _).2
  isplitl [Hc] <;> iassumption

/-- The conditional of a tile whose landing slot is at hand. -/
theorem wp_send_cond (c : Dev nD) (s : Fin 4) (t : Fin 8) (st : Fin 3) (tt : Fin 8) (hns : st = 0 ∨ tt.val % 4 ≠ 0)
    (hst' : s.val = st.val ∧ t.val = tt.val) {c' : Dev nD} (hc : c' = tow c tt)
    {src dst : Memref sig .tc .vmem S1024x1024 .bf16} (hsrc' : src = cT (sOf st) tt) (hdst' : dst = cT (dOf st) tt)
    {sm : SemLoc sig} (hsm : sm = osem (rrI st)) {hsc : dst.view.ref.isScScratch = false}
    {hsrc : src.view.WordExact} {hdst : dst.view.WordExact} {hsem : DmaTarget.Typed .vmem sm (.remote (Dev.tc c') dst (.dma rsS) hsc)}
    {n n' : ℕ} (hn : n = 8 * st.val + tt.val) (hn' : n' = n + 1)
    {k : Prog (TpuEff nD τ sig (Elt F) Λ₀ .tc) α} {Q : α → sProp 𝕄} (hk : iprop(recs X wv N ∗ Snd X wv c s t n') ⊢ WP c k Q) :
    iprop(recs X wv N ∗ Snd X wv c s t n)
      ⊢ WP c (Prog.lift (.enqueueDma src (.remote (Dev.tc c') dst (.dma rsS) hsc) sm hsrc hdst hsem) >>= fun _ => k) Q := by
  subst hn' hn
  simp only [Prog.lift, Prog.bind_op, Prog.bind_ret]
  obtain ⟨h1, h2⟩ := hst'
  obtain rfl : t = tt := Fin.ext h2
  obtain rfl : s = st.castSucc := Fin.ext h1
  rw [Snd_after] at hk
  rw [Snd_at]
  unfold MidC
  unfold MidL at hk
  unfold Fix at *
  iintro ⟨#Hr, HOT, HRS, HC0, HC1, ⟨Hs, HCo⟩, ⟨#Hn, HF⟩, HX⟩
  have key : iprop(CD X wv c st 0 t.val ∗ CD X wv c st 1 t.val)
      ⊢ iprop(slotAny (tow c t) (dOf st) t ∗ CD X wv c st 0 (t.val + 1) ∗ CD X wv c st 1 (t.val + 1)) := by
    have hT := CD_take X wv c st t hns
    rcases half_or t with h | h
    · have hO := CD_other X wv c st t 1 (by rw [h]; decide)
      rw [h] at hT
      iintro ⟨H0, H1⟩
      icases hT $$ H0 with ⟨Hd, H0⟩
      isplitl [Hd]; · iexact Hd
      isplitl [H0]; · iexact H0
      iapply hO; iexact H1
    · have hO := CD_other X wv c st t 0 (by rw [h]; decide)
      rw [h] at hT
      iintro ⟨H0, H1⟩
      icases hT $$ H1 with ⟨Hd, H1⟩
      isplitl [Hd]; · iexact Hd
      isplitl [H0]; · iapply hO; iexact H0
      iexact H1
  icases key $$ [HC0 HC1] with ⟨Hd, HC0, HC1⟩
  · isplitl [HC0] <;> iassumption
  iapply (wp_send_core X wv N c st t hc hsrc' hdst' hsm) $$ [HOT HRS Hs Hd]
  · isplitr; · iexact Hr
    isplitl [HOT]; · iexact HOT
    isplitl [HRS]; · iexact HRS
    isplitl [Hs]; · iexact Hs
    isplitl [Hd]; · iexact Hd
    iexact Hn
  iintro ⟨HOT, HRS⟩
  iapply hk
  isplitr; · iexact Hr
  isplitl [HOT]; · iexact HOT
  isplitl [HRS]; · iexact HRS
  isplitl [HC0]; · iexact HC0
  isplitl [HC1]; · iexact HC1
  isplitl [HCo]; · iexact HCo
  isplitr [HX]; · isplitr; · iexact Hn
                  iexact HF
  iexact HX

/-- The conditional of a tile that awaits the credit first. -/
theorem wp_send_cond' (c : Dev nD) (s : Fin 4) (t : Fin 8) (k : Fin 2) (d : Fin 2) {st : Fin 3} (hst : st = k.succ) {tt : Fin 8} (htt : tt.val = 4 * d.val)
    (hst' : s.val = st.val ∧ t.val = tt.val) {c' : Dev nD} (hc : c' = tow c tt)
    {sem : DmaSem sig} {sp sp' : Space} {s0 s0' : Shape} {e0 e0' : EltTy}
    {src0 : Memref sig .tc sp' s0' e0'} {dst0 : Memref sig .tc sp s0 e0} {hsrc0 : src0.view.WordExact} {hdst0 : dst0.view.WordExact}
    (hs : osem (crI d) = .dma sem) (ha : dst0.view.dmaCredit = Nk)
    {src dst : Memref sig .tc .vmem S1024x1024 .bf16} (hsrc' : src = cT (sOf st) tt) (hdst' : dst = cT (dOf st) tt)
    {sm : SemLoc sig} (hsm : sm = osem (rrI st)) {hsc : dst.view.ref.isScScratch = false}
    {hsrc : src.view.WordExact} {hdst : dst.view.WordExact} {hsem : DmaTarget.Typed .vmem sm (.remote (Dev.tc c') dst (.dma rsS) hsc)}
    {n n' : ℕ} (hn : n = 8 * st.val + tt.val) (hn' : n' = n + 1)
    {kk : Prog (TpuEff nD τ sig (Elt F) Λ₀ .tc) α} {Q : α → sProp 𝕄} (hkk : iprop(recs X wv N ∗ Snd X wv c s t n') ⊢ WP c kk Q) :
    iprop(recs X wv N ∗ Snd X wv c s t n)
      ⊢ WP c (Prog.lift (.waitDma2 sem src0 dst0 hsrc0 hdst0) >>= fun _ =>
              Prog.lift (.enqueueDma src (.remote (Dev.tc c') dst (.dma rsS) hsc) sm hsrc hdst hsem) >>= fun _ => kk) Q := by
  subst hn' hn
  simp only [Prog.lift, Prog.bind_op, Prog.bind_ret]
  obtain ⟨h1, h2⟩ := hst'
  obtain rfl : t = tt := Fin.ext h2
  obtain rfl : s = st.castSucc := Fin.ext h1
  have hd : half t = d := by
    apply Fin.ext
    have : ∀ (t : Fin 8) (d : Fin 2), t.val = 4 * d.val → (half t).val = d.val := by decide
    exact this t d htt
  have hm : t.val % 4 = 0 := by omega
  subst hd
  have hv : st.val = k.val + 1 := by rw [hst]; rfl
  rw [Snd_after] at hkk
  rw [Snd_at]
  unfold MidC
  unfold MidL at hkk
  unfold Fix at *
  iintro ⟨#Hr, HOT, HRS, HC0, HC1, ⟨Hs, HCo⟩, ⟨#Hn, HF⟩, HX⟩
  unfold OT
  icases HOT with ⟨HO, HT⟩
  have hw := CD_take' X wv c st t hm
  have hin : CD X wv c st (half t) t.val ⊢ CrW X wv c (half t) k.val := by
    unfold CD
    rw [if_neg (by rintro (h | h); · rw [hst] at h; exact absurd h (Fin.succ_ne_zero k)
                   omega), hv]
    exact .rfl
  have key : iprop(CD X wv c st 0 t.val ∗ CD X wv c st 1 t.val)
      ⊢ iprop(CrW X wv c (half t) k.val ∗ (CD X wv c st (half t) (t.val + 1) -∗ (CD X wv c st 0 (t.val + 1) ∗ CD X wv c st 1 (t.val + 1)))) := by
    rcases half_or t with h | h
    · have hO := CD_other X wv c st t 1 (by rw [h]; decide)
      rw [h] at hin ⊢
      iintro ⟨H0, H1⟩
      isplitl [H0]; · iapply hin; iexact H0
      iintro H0
      isplitl [H0]; · iexact H0
      iapply hO; iexact H1
    · have hO := CD_other X wv c st t 0 (by rw [h]; decide)
      rw [h] at hin ⊢
      iintro ⟨H0, H1⟩
      isplitl [H1]; · iapply hin; iexact H1
      iintro H1
      isplitl [H0]; · iapply hO; iexact H0
      iexact H1
  icases key $$ [HC0 HC1] with ⟨HW, HC⟩
  · isplitl [HC0] <;> iassumption
  iapply (wp_credit_wait X wv N c k (half t) (2 + 10 * st.val + t.val) (by omega) hs ha) $$ [HO HW]
  · isplitr; · iexact Hr
    isplitl [HO] <;> iassumption
  iintro ⟨HO, HW, Hsl⟩
  rw [← hv, ← hst]
  icases hw $$ [HW Hsl] with ⟨Hd, HW⟩
  · isplitl [Hsl] <;> iassumption
  ihave HC := HC $$ HW
  icases HC with ⟨HC0, HC1⟩
  iapply (wp_send_core X wv N c st t hc hsrc' hdst' hsm) $$ [HO HT HRS Hs Hd]
  · isplitr; · iexact Hr
    isplitl [HO HT]
    · unfold OT; isplitl [HO] <;> iassumption
    isplitl [HRS]; · iexact HRS
    isplitl [Hs]; · iexact Hs
    isplitl [Hd]; · iexact Hd
    iexact Hn
  iintro ⟨HOT, HRS⟩
  iapply hkk
  isplitr; · iexact Hr
  isplitl [HOT]; · unfold OT; iexact HOT
  isplitl [HRS]; · iexact HRS
  isplitl [HC0]; · iexact HC0
  isplitl [HC1]; · iexact HC1
  isplitl [HCo]; · iexact HCo
  isplitr [HX]; · isplitr; · iexact Hn
                  iexact HF
  iexact HX

end Cert.KernelIdeal.Ring

end
-- ==== Proof.KernelIdeal.Head.lean ====
/-
  The head of a point: the step's fetch, the retirement of the step before, and the loads of the operands.
-/
module

public import proofs.«01_k».proof.Proof.KernelIdeal.Retire
public import proofs.«01_k».proof.Proof.KernelIdeal.Sends

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## The states at the head of a point -/

/-- A step's beginning, the tiles of the step before not awaited. -/
def Bef (c : Dev nD) (s : Fin 4) : sProp 𝕄 :=
  match s with | 0 => NoXL X wv c 0 0 | 1 => NoXL X wv c 0 8 | 2 => NoXL X wv c 1 8 | 3 => NoXL X wv c 2 8
def Pre21 (c : Dev nD) (s : Fin 4) (t : Fin 8) : sProp 𝕄 := if t.val = 0 then iprop(Bef X wv c s ∗ xB X c s.val) else Mid X wv c s t.val
/-- Fetched; the retirements before the `j`-th done. -/
def Ret (c : Dev nD) (s : Fin 4) (t : Fin 8) (j : ℕ) : sProp 𝕄 :=
  if t.val = 0 ∧ j ≤ s.val then iprop(Bef X wv c s ∗ xA X c s) else Mid X wv c s t.val

theorem Mid_lt (c : Dev nD) (s : Fin 3) (t : ℕ) : Mid X wv c s.castSucc t = MidL X wv c s t := by
  unfold Mid; rw [dif_pos (show s.castSucc.val < 3 from s.isLt)]; rfl
theorem Mid_three (c : Dev nD) (t : ℕ) : Mid X wv c 3 t = MidR X wv c t := by
  unfold Mid; rw [dif_neg (by decide)]
theorem Mid_mk (c : Dev nD) (s : Fin 3) (t : ℕ) : iprop(NoXL X wv c s t ∗ xA X c s.castSucc) ⊢ Mid X wv c s.castSucc t := by
  rw [Mid_lt]; exact (MidL_NoX X wv c s t).2
theorem Mid_mk3 (c : Dev nD) (t : ℕ) : iprop(NoXR X wv c t ∗ xA X c 3) ⊢ Mid X wv c 3 t := by
  rw [Mid_three]; exact MidR_NoX X wv c t

theorem NoXL_owes (c : Dev nD) (s : Fin 3) (t : ℕ) : NoXL X wv c s t ⊢ iprop(owesL c (2 + 10 * s.val + t) ∗ (owesL c (2 + 10 * s.val + t) -∗ NoXL X wv c s t)) := by
  unfold NoXL OT
  iintro ⟨⟨HO, Ht⟩, H⟩
  isplitl [HO]; · iexact HO
  iintro HO
  isplitr [H]
  · isplitl [HO]; · iexact HO
    iexact Ht
  iexact H
theorem Bef_owes (c : Dev nD) (s : Fin 4) : ∃ n, Bef X wv c s ⊢ iprop(owesL c n ∗ (owesL c n -∗ Bef X wv c s)) := by
  fin_cases s
  · exact ⟨_, NoXL_owes X wv c 0 0⟩
  · exact ⟨_, NoXL_owes X wv c 0 8⟩
  · exact ⟨_, NoXL_owes X wv c 1 8⟩
  · exact ⟨_, NoXL_owes X wv c 2 8⟩

theorem Ret_end (c : Dev nD) (s : Fin 4) (t : Fin 8) : Ret X wv c s t 4 ⊢ Mid X wv c s t.val := by
  unfold Ret; rw [if_neg (by omega)]
theorem Ret_skip (c : Dev nD) (s : Fin 4) (t : Fin 8) (j : ℕ) (h : ¬ (s.val = j ∧ t.val = 0)) : Ret X wv c s t j ⊢ Ret X wv c s t (j + 1) := by
  unfold Ret
  have : (t.val = 0 ∧ j ≤ s.val) ↔ (t.val = 0 ∧ j + 1 ≤ s.val) := by
    constructor
    · rintro ⟨h1, h2⟩; exact ⟨h1, by omega⟩
    · rintro ⟨h1, h2⟩; exact ⟨h1, by omega⟩
  simp only [this]; exact .rfl
theorem Ret_at (c : Dev nD) (s : Fin 4) (t : Fin 8) (j : Fin 4) {n : ℕ} (hn : n = j.val) (h : s.val = j.val ∧ t.val = 0) : Ret X wv c s t n ⊢ iprop(Bef X wv c j ∗ xA X c j) := by
  subst hn
  obtain rfl : s = j := Fin.ext h.1
  unfold Ret; rw [if_pos ⟨h.2, le_rfl⟩]
theorem Ret_after (c : Dev nD) (s : Fin 4) (t : Fin 8) (j : Fin 4) {n : ℕ} (hn : n = j.val + 1) (h : s.val = j.val ∧ t.val = 0) : Mid X wv c j 0 ⊢ Ret X wv c s t n := by
  subst hn
  obtain rfl : s = j := Fin.ext h.1
  unfold Ret; rw [if_neg (by omega), h.2]
/-- After the fetch. -/
theorem Ret_first (c : Dev nD) (s : Fin 4) (t : Fin 8) (h : t.val = 0) : iprop(Bef X wv c s ∗ xA X c s) ⊢ Ret X wv c s t 1 := by
  unfold Ret
  by_cases h1 : 1 ≤ s.val
  · rw [if_pos ⟨h, h1⟩]
  · obtain rfl : s = 0 := Fin.ext (by show s.val = 0; omega)
    rw [if_neg (by rintro ⟨_, h2⟩; exact h1 h2), h]
    exact Mid_mk X wv c 0 0

/-! ## When the head's conditionals fire -/

theorem cond2_iff : ∀ i : grid0.Coords, k0_cond2 i = 1#1 ↔ (i 1).val = 0 := by decide +kernel
theorem cond3_iff : ∀ i : grid0.Coords, k0_cond3 i = 1#1 ↔ (i 0).val = 1 ∧ (i 1).val = 0 := by decide +kernel
theorem cond4_iff : ∀ i : grid0.Coords, k0_cond4 i = 1#1 ↔ (i 0).val = 2 ∧ (i 1).val = 0 := by decide +kernel
theorem cond5_iff : ∀ i : grid0.Coords, (Scalar.cmpi .ne (Scalar.extui (Scalar.andi (Scalar.cmpi .eq (BitVec.ofNat 32 (i 0).val) 3#32) (Scalar.cmpi .eq (BitVec.ofNat 32 (i 1).val) 0#32)) : BitVec 32) 0#32) = 1#1
    ↔ (i 0).val = 3 ∧ (i 1).val = 0 := by decide +kernel
theorem off3 : ∀ i : grid0.Coords, k0_off3 i = ![(half (i 1)).val, 0, 0] := by decide +kernel

/-- A load of a rectangle at offsets that are another's. -/
theorem wp_load_at {cs : CoreSpace} {s : Shape} {e : EltTy} {m : Memref sig .tc cs s e} {α : Type} (c : Dev nD) {size off off' : Fin s.rank → ℕ} (ho : off = off')
    {hi : ∀ a, off a + size a ≤ s.size a} (hi' : ∀ a, off' a + size a ≤ s.size a)
    {hl : m.view.LoadsAt (Rect.unit off size hi).toLoadRect} {v : (Rect.unit off' size hi').shape.Idx → Elt F e}
    {k : ((Rect.unit off size hi).shape.Idx → Elt F e) → Prog (TpuEff nD τ sig (Elt F) Λ₀ .tc) α} {Q : α → sProp 𝕄} :
    (piece m (Rect.unit off' size hi') c v : sProp 𝕄) ⊢ iprop((piece m (Rect.unit off' size hi') c v -∗ WP c (k v) Q) -∗ WP c (.op (.load m (Rect.unit off size hi).toLoadRect hl) k) Q) := by
  subst ho; exact wp_load_piece c

theorem wp_store_at {cs : CoreSpace} {s : Shape} {e : EltTy} {m : Memref sig .tc cs s e} {α : Type} (c : Dev nD) {size off off' : Fin s.rank → ℕ} (ho : off = off')
    {hi : ∀ a, off a + size a ≤ s.size a} (hi' : ∀ a, off' a + size a ≤ s.size a)
    {w : (Rect.unit off size hi).shape.Idx → Elt F e} {hx : (m.access (Rect.unit off size hi)).Stores Finset.univ} {hm : (Finset.univ : Finset (Rect.unit off size hi).shape.Idx) = Finset.univ ∨ ∀ a, (Rect.unit off size hi).stride a = 1}
    {k : PUnit → Prog (TpuEff nD τ sig (Elt F) Λ₀ .tc) α} {Q : α → sProp 𝕄} :
    (pieceAny m (Rect.unit off' size hi') c : sProp 𝕄) ⊢ iprop((piece m (Rect.unit off' size hi') c w -∗ WP c (k ⟨⟩) Q) -∗ WP c (.op (.store m (Rect.unit off size hi) w Finset.univ hx hm) k) Q) := by
  subst ho; exact wp_store_piece c

/-- The window's whole rectangle. -/
abbrev wR : Rect S1024x1024 := Rect.unit (s := S1024x1024) ![0, 0] S1024x1024.size inb_S1024x1024_S1024x1024_0_0

theorem Mid_take (c : Dev nD) (s : Fin 4) (t : ℕ) (h : Fin 2) : Mid X wv c s t ⊢ iprop(piece vM (vR h) c (xv X c s h) ∗ (piece vM (vR h) c (xv X c s h) -∗ Mid X wv c s t)) := by
  have key : ∀ (A B : sProp 𝕄), (A ⊢ iprop(B ∗ xA X c s)) → (iprop(B ∗ xA X c s) ⊢ A) → (A ⊢ iprop(piece vM (vR h) c (xv X c s h) ∗ (piece vM (vR h) c (xv X c s h) -∗ A))) := by
    intro A B h1 h2
    iintro H
    icases h1 $$ H with ⟨HB, HA⟩
    unfold xA
    icases HA with ⟨HK, H0, H1⟩
    obtain rfl | rfl : h = 0 ∨ h = 1 := fin2 h
    · isplitl [H0]; · iexact H0
      iintro H0
      iapply h2
      isplitl [HB]; · iexact HB
      unfold xA
      isplitl [HK]; · iexact HK
      isplitl [H0]; · iexact H0
      iexact H1
    · isplitl [H1]; · iexact H1
      iintro H1
      iapply h2
      isplitl [HB]; · iexact HB
      unfold xA
      isplitl [HK]; · iexact HK
      isplitl [H0]; · iexact H0
      iexact H1
  have h3 : ∀ s' : Fin 3, s = s'.castSucc → (Mid X wv c s t ⊢ iprop(piece vM (vR h) c (xv X c s h) ∗ (piece vM (vR h) c (xv X c s h) -∗ Mid X wv c s t))) := by
    rintro s' rfl
    refine key _ (NoXL X wv c s' t) ?_ (Mid_mk X wv c s' t)
    rw [Mid_lt]; exact (MidL_NoX X wv c s' t).1
  by_cases hs : s.val < 3
  · exact h3 ⟨s.val, hs⟩ rfl
  · obtain rfl : s = 3 := Fin.ext (by show s.val = 3; omega)
    refine key _ (NoXR X wv c t) ?_ (Mid_mk3 X wv c t)
    rw [Mid_three]
    unfold MidR NoXR
    iintro ⟨H1, H2, H3, H4, H5, H7, H6⟩
    isplitr [H7]
    · isplitl [H1]; · iexact H1
      isplitl [H2]; · iexact H2
      isplitl [H3]; · iexact H3
      isplitl [H4]; · iexact H4
      isplitl [H5]; · iexact H5
      iexact H6
    iexact H7

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)
variable (v2 v14 v25 : BitVec 32)

theorem part21_spec :
    iprop(recs X wv N ∗ Pre21 X wv c (i 0) (i 1) ∗ piece m3 wR c (wv c (i 1)))
      ⊢ WP c (k0_part21 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) (BitVec.ofNat 32 (i 0).val) (BitVec.ofNat 32 (i 1).val) c v2 v14 v25)
        fun x => iprop(⌜x = ⟨xs X c (i 0) (i 1), wv c (i 1)⟩⌝ ∗ recs X wv N ∗ Mid X wv c (i 0) (i 1).val ∗ piece m3 wR c (wv c (i 1))) := by
  rw [k0_part21_eq_skeleton]; unfold k0_part21_skel
  extract_lets
  refine wp_cond c (P' := iprop(recs X wv N ∗ Ret X wv c (i 0) (i 1) 1 ∗ piece m3 wR c (wv c (i 1)))) ?_ ?_ ?_
  · intro h
    refine sep_mono .rfl (sep_mono ?_ .rfl)
    have h' : ¬ (i 1).val = 0 := fun e => h ((cond2_iff i).2 e)
    unfold Pre21 Ret
    rw [if_neg h', if_neg (fun e => h' e.1)]
  rotate_left
  · intro hk h
    obtain ⟨n, hn⟩ := Bef_owes X wv c (i 0)
    have h' := (cond2_iff i).1 h
    unfold Pre21
    rw [if_pos h', WP_bind]
    iintro ⟨#Hr, ⟨HB, HX⟩, HW⟩
    icases hn $$ HB with ⟨HO, HB⟩
    iapply (part1_spec X wv N c i m3 h3 m4 h4 m5 h5 _ _ h) $$ [HX]
    · isplitr; · iexact Hr
      iexact HX
    iintro HX
    iapply (wp_fetched X wv N c (i 0) n (dst0 := vT 0) (dst1 := vT 1) rfl rfl) $$ [HO HX]
    · isplitr; · iexact Hr
      isplitl [HO]; · iexact HO
      iexact HX
    iintro ⟨HO, HX⟩
    iapply hk
    isplitr; · iexact Hr
    isplitr [HW]
    · iapply (Ret_first X wv c (i 0) (i 1) h')
      isplitr [HX]
      · iapply HB; iexact HO
      iexact HX
    iexact HW
  refine wp_cond c (P' := iprop(recs X wv N ∗ Ret X wv c (i 0) (i 1) 2 ∗ piece m3 wR c (wv c (i 1)))) ?_ ?_ ?_
  · exact fun h => sep_mono .rfl (sep_mono (Ret_skip X wv c (i 0) (i 1) 1 fun e => h ((cond3_iff i).2 e)) .rfl)
  rotate_left
  · intro hk h
    have h' := (cond3_iff i).1 h
    iintro ⟨#Hr, HR, HW⟩
    icases (Ret_at X wv c (i 0) (i 1) 1 (n := 1) rfl h') $$ HR with ⟨HB, HX⟩
    iapply (retire1 X wv N c i m3 h3 m4 h4 m5 h5 v14 v25 h) $$ [HB]
    · isplitr; · iexact Hr
      iapply (show Bef X wv c 1 ⊢ NoXL X wv c 0 8 from .rfl); iexact HB
    iintro HB
    iapply hk
    isplitr; · iexact Hr
    isplitr [HW]
    · iapply (Ret_after X wv c (i 0) (i 1) 1 (n := 2) rfl h'); iapply (Mid_mk X wv c 1 0)
      isplitl [HB]; · iexact HB
      iexact HX
    iexact HW
  refine wp_cond c (P' := iprop(recs X wv N ∗ Ret X wv c (i 0) (i 1) 3 ∗ piece m3 wR c (wv c (i 1)))) ?_ ?_ ?_
  · exact fun h => sep_mono .rfl (sep_mono (Ret_skip X wv c (i 0) (i 1) 2 fun e => h ((cond4_iff i).2 e)) .rfl)
  rotate_left
  · intro hk h
    have h' := (cond4_iff i).1 h
    iintro ⟨#Hr, HR, HW⟩
    icases (Ret_at X wv c (i 0) (i 1) 2 (n := 2) rfl h') $$ HR with ⟨HB, HX⟩
    iapply (retire2 X wv N c i m3 h3 m4 h4 m5 h5 v14 v25 h) $$ [HB]
    · isplitr; · iexact Hr
      iapply (show Bef X wv c 2 ⊢ NoXL X wv c 1 8 from .rfl); iexact HB
    iintro HB
    iapply hk
    isplitr; · iexact Hr
    isplitr [HW]
    · iapply (Ret_after X wv c (i 0) (i 1) 2 (n := 3) rfl h'); iapply (Mid_mk X wv c 2 0)
      isplitl [HB]; · iexact HB
      iexact HX
    iexact HW
  refine wp_cond c (P' := iprop(recs X wv N ∗ Ret X wv c (i 0) (i 1) 4 ∗ piece m3 wR c (wv c (i 1)))) ?_ ?_ ?_
  · exact fun h => sep_mono .rfl (sep_mono (Ret_skip X wv c (i 0) (i 1) 3 fun e => h ((cond5_iff i).2 e)) .rfl)
  rotate_left
  · intro hk h
    have h' := (cond5_iff i).1 h
    iintro ⟨#Hr, HR, HW⟩
    icases (Ret_at X wv c (i 0) (i 1) 3 (n := 3) rfl h') $$ HR with ⟨HB, HX⟩
    iapply (retire3 X wv N c i m3 h3 m4 h4 m5 h5 v14 v25) $$ [HB]
    · isplitr; · iexact Hr
      iapply (show Bef X wv c 3 ⊢ NoXL X wv c 2 8 from .rfl); iexact HB
    iintro HB
    iapply hk
    isplitr; · iexact Hr
    isplitr [HW]
    · iapply (Ret_after X wv c (i 0) (i 1) 3 (n := 4) rfl h'); iapply (Mid_mk3 X wv c 0)
      isplitl [HB]; · iexact HB
      iexact HX
    iexact HW
  show _ ⊢ WP c (.op _ fun v67 => .op _ fun v69 => .ret _) _
  iintro ⟨#Hr, HR, HW⟩
  icases (Ret_end X wv c (i 0) (i 1)) $$ HR with HR
  icases (Mid_take X wv c (i 0) (i 1).val (half (i 1))) $$ HR with ⟨HV, HR⟩
  iapply (wp_load_at c (off3 i) (vR_inb (half (i 1)))) $$ HV
  iintro HV
  iapply (wp_load_piece c (m := m3) (r := wR)) $$ HW
  iintro HW
  iapply (WP_ret c)
  isplitr; · ipureintro; rfl
  isplitr; · iexact Hr
  isplitr [HW]
  · iapply HR; iexact HV
  iexact HW

end Cert.KernelIdeal.Ring

end
-- ==== Proof.KernelIdeal.Chain.lean ====
/-
  The parts of the body that hold the sends, one conditional after another.
-/
module

public import proofs.«01_k».proof.Proof.KernelIdeal.Sends

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## Which point a conditional fires at, and the device its transfer goes to -/

theorem conds_0 : ∀ i : grid0.Coords, (k0_cond10 i = 1#1 ↔ (i 0).val = 0 ∧ (i 1).val = 0) ∧ (k0_cond11 i = 1#1 ↔ (i 0).val = 0 ∧ (i 1).val = 1) ∧ (k0_cond12 i = 1#1 ↔ (i 0).val = 0 ∧ (i 1).val = 2) ∧ (k0_cond13 i = 1#1 ↔ (i 0).val = 0 ∧ (i 1).val = 3) ∧ (k0_cond14 i = 1#1 ↔ (i 0).val = 0 ∧ (i 1).val = 4) ∧ (k0_cond15 i = 1#1 ↔ (i 0).val = 0 ∧ (i 1).val = 5) ∧ (k0_cond16 i = 1#1 ↔ (i 0).val = 0 ∧ (i 1).val = 6) ∧ (k0_cond17 i = 1#1 ↔ (i 0).val = 0 ∧ (i 1).val = 7) := by decide +kernel
theorem conds_1 : ∀ i : grid0.Coords, (k0_cond18 i = 1#1 ↔ (i 0).val = 1 ∧ (i 1).val = 0) ∧ (k0_cond19 i = 1#1 ↔ (i 0).val = 1 ∧ (i 1).val = 1) ∧ (k0_cond20 i = 1#1 ↔ (i 0).val = 1 ∧ (i 1).val = 2) ∧ (k0_cond21 i = 1#1 ↔ (i 0).val = 1 ∧ (i 1).val = 3) ∧ (k0_cond22 i = 1#1 ↔ (i 0).val = 1 ∧ (i 1).val = 4) ∧ (k0_cond23 i = 1#1 ↔ (i 0).val = 1 ∧ (i 1).val = 5) ∧ (k0_cond24 i = 1#1 ↔ (i 0).val = 1 ∧ (i 1).val = 6) ∧ (k0_cond25 i = 1#1 ↔ (i 0).val = 1 ∧ (i 1).val = 7) := by decide +kernel
theorem conds_2 : ∀ i : grid0.Coords, (k0_cond26 i = 1#1 ↔ (i 0).val = 2 ∧ (i 1).val = 0) ∧ (k0_cond27 i = 1#1 ↔ (i 0).val = 2 ∧ (i 1).val = 1) ∧ (k0_cond28 i = 1#1 ↔ (i 0).val = 2 ∧ (i 1).val = 2) ∧ (k0_cond29 i = 1#1 ↔ (i 0).val = 2 ∧ (i 1).val = 3) ∧ (k0_cond30 i = 1#1 ↔ (i 0).val = 2 ∧ (i 1).val = 4) ∧ (k0_cond31 i = 1#1 ↔ (i 0).val = 2 ∧ (i 1).val = 5) ∧ (k0_cond32 i = 1#1 ↔ (i 0).val = 2 ∧ (i 1).val = 6) ∧ (k0_cond33 i = 1#1 ↔ (i 0).val = 2 ∧ (i 1).val = 7) := by decide +kernel
theorem devs_0 : ∀ c : Dev nD, k0_dev7 c = (tow c 0).val ∧ k0_dev8 c = (tow c 1).val ∧ k0_dev9 c = (tow c 2).val ∧ k0_dev10 c = (tow c 3).val ∧ k0_dev11 c = (tow c 4).val ∧ k0_dev12 c = (tow c 5).val ∧ k0_dev13 c = (tow c 6).val ∧ k0_dev14 c = (tow c 7).val := by decide +kernel
theorem devs_1 : ∀ c : Dev nD, k0_dev15 c = (tow c 0).val ∧ k0_dev16 c = (tow c 1).val ∧ k0_dev17 c = (tow c 2).val ∧ k0_dev18 c = (tow c 3).val ∧ k0_dev19 c = (tow c 4).val ∧ k0_dev20 c = (tow c 5).val ∧ k0_dev21 c = (tow c 6).val ∧ k0_dev22 c = (tow c 7).val := by decide +kernel
theorem devs_2 : ∀ c : Dev nD, k0_dev23 c = (tow c 0).val ∧ k0_dev24 c = (tow c 1).val ∧ k0_dev25 c = (tow c 2).val ∧ k0_dev26 c = (tow c 3).val ∧ k0_dev27 c = (tow c 4).val ∧ k0_dev28 c = (tow c 5).val ∧ k0_dev29 c = (tow c 6).val ∧ k0_dev30 c = (tow c 7).val := by decide +kernel

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)
variable (arg0 arg1 v14 v25 v102 c2 : BitVec 32) (v134 : BitVec 1)

theorem part23_spec :
    iprop(recs X wv N ∗ Snd X wv c (i 0) (i 1) 3) ⊢ WP c (k0_part23 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) arg0 arg1 c v14 v25 v102) fun _ => iprop(recs X wv N ∗ Snd X wv c (i 0) (i 1) 10) := by
  rw [k0_part23_eq_skeleton]; unfold k0_part23_skel
  extract_lets
  refine wp_cond c (Snd_none X wv N c _ _ 0 3 (conds_0 i).2.2.2.1 rfl rfl) ?_ ?_
  rotate_left
  · exact fun hk h => wp_send_cond X wv N c _ _ 0 3 (.inl rfl) ((conds_0 i).2.2.2.1.1 h) (Fin.ext (devs_0 c).2.2.2.1) (by rfl) (by rfl) (by rfl) (by rfl) (by rfl) hk
  refine wp_cond c (Snd_none X wv N c _ _ 0 4 (conds_0 i).2.2.2.2.1 rfl rfl) ?_ ?_
  rotate_left
  · exact fun hk h => wp_send_cond X wv N c _ _ 0 4 (.inl rfl) ((conds_0 i).2.2.2.2.1.1 h) (Fin.ext (devs_0 c).2.2.2.2.1) (by rfl) (by rfl) (by rfl) (by rfl) (by rfl) hk
  refine wp_cond c (Snd_none X wv N c _ _ 0 5 (conds_0 i).2.2.2.2.2.1 rfl rfl) ?_ ?_
  rotate_left
  · exact fun hk h => wp_send_cond X wv N c _ _ 0 5 (.inl rfl) ((conds_0 i).2.2.2.2.2.1.1 h) (Fin.ext (devs_0 c).2.2.2.2.2.1) (by rfl) (by rfl) (by rfl) (by rfl) (by rfl) hk
  refine wp_cond c (Snd_none X wv N c _ _ 0 6 (conds_0 i).2.2.2.2.2.2.1 rfl rfl) ?_ ?_
  rotate_left
  · exact fun hk h => wp_send_cond X wv N c _ _ 0 6 (.inl rfl) ((conds_0 i).2.2.2.2.2.2.1.1 h) (Fin.ext (devs_0 c).2.2.2.2.2.2.1) (by rfl) (by rfl) (by rfl) (by rfl) (by rfl) hk
  refine wp_cond c (Snd_none X wv N c _ _ 0 7 (conds_0 i).2.2.2.2.2.2.2 rfl rfl) ?_ ?_
  rotate_left
  · exact fun hk h => wp_send_cond X wv N c _ _ 0 7 (.inl rfl) ((conds_0 i).2.2.2.2.2.2.2.1 h) (Fin.ext (devs_0 c).2.2.2.2.2.2.2) (by rfl) (by rfl) (by rfl) (by rfl) (by rfl) hk
  refine wp_cond c (Snd_none X wv N c _ _ 1 0 (conds_1 i).1 rfl rfl) ?_ ?_
  rotate_left
  · exact fun hk h => wp_send_cond' X wv N c _ _ 0 0 (st := 1) rfl (tt := 0) rfl ((conds_1 i).1.1 h) (Fin.ext (devs_1 c).1) (by rfl) (by rfl) (by rfl) (by rfl) (by rfl) (by rfl) (by rfl) hk
  refine wp_cond c (Snd_none X wv N c _ _ 1 1 (conds_1 i).2.1 rfl rfl) ?_ ?_
  rotate_left
  · exact fun hk h => wp_send_cond X wv N c _ _ 1 1 (.inr (by decide)) ((conds_1 i).2.1.1 h) (Fin.ext (devs_1 c).2.1) (by rfl) (by rfl) (by rfl) (by rfl) (by rfl) hk
  exact WP_ret c _

theorem part24_spec :
    iprop(recs X wv N ∗ Snd X wv c (i 0) (i 1) 10) ⊢ WP c (k0_part24 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) arg0 arg1 c v14 v25 v134 c2) fun _ => iprop(recs X wv N ∗ Snd X wv c (i 0) (i 1) 17) := by
  rw [k0_part24_eq_skeleton]; unfold k0_part24_skel
  extract_lets
  refine wp_cond c (Snd_none X wv N c _ _ 1 2 (conds_1 i).2.2.1 rfl rfl) ?_ ?_
  rotate_left
  · exact fun hk h => wp_send_cond X wv N c _ _ 1 2 (.inr (by decide)) ((conds_1 i).2.2.1.1 h) (Fin.ext (devs_1 c).2.2.1) (by rfl) (by rfl) (by rfl) (by rfl) (by rfl) hk
  refine wp_cond c (Snd_none X wv N c _ _ 1 3 (conds_1 i).2.2.2.1 rfl rfl) ?_ ?_
  rotate_left
  · exact fun hk h => wp_send_cond X wv N c _ _ 1 3 (.inr (by decide)) ((conds_1 i).2.2.2.1.1 h) (Fin.ext (devs_1 c).2.2.2.1) (by rfl) (by rfl) (by rfl) (by rfl) (by rfl) hk
  refine wp_cond c (Snd_none X wv N c _ _ 1 4 (conds_1 i).2.2.2.2.1 rfl rfl) ?_ ?_
  rotate_left
  · exact fun hk h => wp_send_cond' X wv N c _ _ 0 1 (st := 1) rfl (tt := 4) rfl ((conds_1 i).2.2.2.2.1.1 h) (Fin.ext (devs_1 c).2.2.2.2.1) (by rfl) (by rfl) (by rfl) (by rfl) (by rfl) (by rfl) (by rfl) hk
  refine wp_cond c (Snd_none X wv N c _ _ 1 5 (conds_1 i).2.2.2.2.2.1 rfl rfl) ?_ ?_
  rotate_left
  · exact fun hk h => wp_send_cond X wv N c _ _ 1 5 (.inr (by decide)) ((conds_1 i).2.2.2.2.2.1.1 h) (Fin.ext (devs_1 c).2.2.2.2.2.1) (by rfl) (by rfl) (by rfl) (by rfl) (by rfl) hk
  refine wp_cond c (Snd_none X wv N c _ _ 1 6 (conds_1 i).2.2.2.2.2.2.1 rfl rfl) ?_ ?_
  rotate_left
  · exact fun hk h => wp_send_cond X wv N c _ _ 1 6 (.inr (by decide)) ((conds_1 i).2.2.2.2.2.2.1.1 h) (Fin.ext (devs_1 c).2.2.2.2.2.2.1) (by rfl) (by rfl) (by rfl) (by rfl) (by rfl) hk
  refine wp_cond c (Snd_none X wv N c _ _ 1 7 (conds_1 i).2.2.2.2.2.2.2 rfl rfl) ?_ ?_
  rotate_left
  · exact fun hk h => wp_send_cond X wv N c _ _ 1 7 (.inr (by decide)) ((conds_1 i).2.2.2.2.2.2.2.1 h) (Fin.ext (devs_1 c).2.2.2.2.2.2.2) (by rfl) (by rfl) (by rfl) (by rfl) (by rfl) hk
  refine wp_cond c (Snd_none X wv N c _ _ 2 0 (conds_2 i).1 rfl rfl) ?_ ?_
  rotate_left
  · exact fun hk h => wp_send_cond' X wv N c _ _ 1 0 (st := 2) rfl (tt := 0) rfl ((conds_2 i).1.1 h) (Fin.ext (devs_2 c).1) (by rfl) (by rfl) (by rfl) (by rfl) (by rfl) (by rfl) (by rfl) hk
  exact WP_ret c _

theorem part25_spec :
    iprop(recs X wv N ∗ Snd X wv c (i 0) (i 1) 17) ⊢ WP c (k0_part25 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) arg0 arg1 c v14 v25) fun _ => iprop(recs X wv N ∗ Snd X wv c (i 0) (i 1) 23) := by
  rw [k0_part25_eq_skeleton]; unfold k0_part25_skel
  extract_lets
  refine wp_cond c (Snd_none X wv N c _ _ 2 1 (conds_2 i).2.1 rfl rfl) ?_ ?_
  rotate_left
  · exact fun hk h => wp_send_cond X wv N c _ _ 2 1 (.inr (by decide)) ((conds_2 i).2.1.1 h) (Fin.ext (devs_2 c).2.1) (by rfl) (by rfl) (by rfl) (by rfl) (by rfl) hk
  refine wp_cond c (Snd_none X wv N c _ _ 2 2 (conds_2 i).2.2.1 rfl rfl) ?_ ?_
  rotate_left
  · exact fun hk h => wp_send_cond X wv N c _ _ 2 2 (.inr (by decide)) ((conds_2 i).2.2.1.1 h) (Fin.ext (devs_2 c).2.2.1) (by rfl) (by rfl) (by rfl) (by rfl) (by rfl) hk
  refine wp_cond c (Snd_none X wv N c _ _ 2 3 (conds_2 i).2.2.2.1 rfl rfl) ?_ ?_
  rotate_left
  · exact fun hk h => wp_send_cond X wv N c _ _ 2 3 (.inr (by decide)) ((conds_2 i).2.2.2.1.1 h) (Fin.ext (devs_2 c).2.2.2.1) (by rfl) (by rfl) (by rfl) (by rfl) (by rfl) hk
  refine wp_cond c (Snd_none X wv N c _ _ 2 4 (conds_2 i).2.2.2.2.1 rfl rfl) ?_ ?_
  rotate_left
  · exact fun hk h => wp_send_cond' X wv N c _ _ 1 1 (st := 2) rfl (tt := 4) rfl ((conds_2 i).2.2.2.2.1.1 h) (Fin.ext (devs_2 c).2.2.2.2.1) (by rfl) (by rfl) (by rfl) (by rfl) (by rfl) (by rfl) (by rfl) hk
  refine wp_cond c (Snd_none X wv N c _ _ 2 5 (conds_2 i).2.2.2.2.2.1 rfl rfl) ?_ ?_
  rotate_left
  · exact fun hk h => wp_send_cond X wv N c _ _ 2 5 (.inr (by decide)) ((conds_2 i).2.2.2.2.2.1.1 h) (Fin.ext (devs_2 c).2.2.2.2.2.1) (by rfl) (by rfl) (by rfl) (by rfl) (by rfl) hk
  refine wp_cond c (Snd_none X wv N c _ _ 2 6 (conds_2 i).2.2.2.2.2.2.1 rfl rfl) ?_ ?_
  rotate_left
  · exact fun hk h => wp_send_cond X wv N c _ _ 2 6 (.inr (by decide)) ((conds_2 i).2.2.2.2.2.2.1.1 h) (Fin.ext (devs_2 c).2.2.2.2.2.2.1) (by rfl) (by rfl) (by rfl) (by rfl) (by rfl) hk
  exact WP_ret c _

end Cert.KernelIdeal.Ring

end
-- ==== Proof.KernelIdeal.Compute.lean ====
/-
  The computation of a point: a column's partial sum, or its finished tile and the running maximum.
-/
module

public import proofs.«01_k».proof.Proof.KernelIdeal.Head
public import proofs.«01_k».proof.Proof.KernelIdeal.Chain

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-- The window of finished tiles after column `t` of step `s`. -/
def Yw (m4 : Memref sig .tc .vmem S1024x1024 .f32) (c : Dev nD) (s : Fin 4) (t : Fin 8) : sProp 𝕄 :=
  if s.val = 3 then piece m4 wR c (yv X wv c t) else pieceAny m4 wR c
/-- The computation of steps before the `j`-th tried. -/
def Cp (m4 : Memref sig .tc .vmem S1024x1024 .f32) (c : Dev nD) (s : Fin 4) (t : Fin 8) (j : ℕ) : sProp 𝕄 :=
  if s.val < j then iprop(Cmp X wv c s t ∗ Yw X wv m4 c s t) else iprop(Mid X wv c s t.val ∗ pieceAny m4 wR c)

theorem Cp_skip (m4 : Memref sig .tc .vmem S1024x1024 .f32) (c : Dev nD) (s : Fin 4) (t : Fin 8) {j j' : ℕ} (hj : j' = j + 1) (h : s.val ≠ j) :
    Cp X wv m4 c s t j ⊢ Cp X wv m4 c s t j' := by
  subst hj
  unfold Cp
  have : s.val < j ↔ s.val < j + 1 := by omega
  simp only [this]; exact .rfl
theorem Cp_end (m4 : Memref sig .tc .vmem S1024x1024 .f32) (c : Dev nD) (s : Fin 4) (t : Fin 8) :
    Cp X wv m4 c s t 4 ⊢ iprop(Snd X wv c s t 0 ∗ Yw X wv m4 c s t) := by
  unfold Cp Snd; rw [if_pos s.isLt, if_neg (Nat.not_lt_zero _)]

/-- A column of a step below 3: its slot as it is found, and the state with the sum in it. -/
theorem Cp_low (m4 : Memref sig .tc .vmem S1024x1024 .f32) (c : Dev nD) (s : Fin 4) (t : Fin 8) (st : Fin 3) (h : s.val = st.val) {j j' : ℕ} (hj : j = st.val) (hj' : j' = j + 1) :
    Cp X wv m4 c s t j ⊢ iprop(colF X wv c st.castSucc t ∗ (slot c (sOf st) t (acc X wv st c t) -∗ Cp X wv m4 c s t j')) := by
  obtain rfl : s = st.castSucc := Fin.ext h
  subst hj' hj
  have h3 : ¬ st.castSucc.val = 3 := by show ¬ st.val = 3; omega
  have hc : Cmp X wv c st.castSucc t = MidC X wv c st t := by
    unfold Cmp; rw [dif_pos (show st.castSucc.val < 3 from st.isLt)]; rfl
  unfold Cp Yw
  rw [if_neg (by show ¬ st.val < st.val; omega), if_pos (by show st.val < st.val + 1; omega), if_neg h3, Mid_lt, hc]
  unfold MidL MidC Cols
  iintro ⟨⟨H1, H2, H3, H4, H5, H6⟩, HY⟩
  icases (bigSep_take (ge_insert t)) $$ H5 with ⟨H5, H5'⟩
  isplitl [H5]; · iexact H5
  iintro H5
  isplitr [HY]
  · isplitl [H1]; · iexact H1
    isplitl [H2]; · iexact H2
    isplitl [H3]; · iexact H3
    isplitl [H4]; · iexact H4
    isplitl [H5 H5']
    · isplitl [H5]; · iexact H5
      iexact H5'
    iexact H6
  iexact HY

theorem lt_insert : ∀ t : Fin 8, (Finset.univ.filter fun tt : Fin 8 => tt.val < t.val + 1) = insert t (Finset.univ.filter fun tt : Fin 8 => tt.val < t.val)
    ∧ t ∉ (Finset.univ.filter fun tt : Fin 8 => tt.val < t.val) := by decide
theorem amx_succ (c : Dev nD) (t : Fin 8) :
    amx X wv c (t.val + 1) = k0_pay11 (xs X c 3 t) (wv c t) (acc2 X wv (frm c t) t) (amx X wv c t.val) := by
  show k0_pay11 (xs X c 3 (Fin.ofNat 8 t.val)) (wv c (Fin.ofNat 8 t.val)) (acc2 X wv (frm c (Fin.ofNat 8 t.val)) (Fin.ofNat 8 t.val)) (amx X wv c t.val) = _
  rw [ofNat8]

/-- A column of step 3: the sum that came in, the tiles' window, the running maximum, and the state after it. -/
theorem Cp_top (m4 : Memref sig .tc .vmem S1024x1024 .f32) (c : Dev nD) (s : Fin 4) (t : Fin 8) (h : s.val = 3) :
    Cp X wv m4 c s t 3 ⊢ iprop(slot c 0 t (acc2 X wv (frm c t) t) ∗ pieceAny m4 wR c ∗ mword X wv c t.val
      ∗ (slotAny c 0 t -∗ piece m4 wR c (yv X wv c t) -∗ mword X wv c (t.val + 1) -∗ Cp X wv m4 c s t 4)) := by
  obtain rfl : s = 3 := Fin.ext h
  have hc : Cmp X wv c 3 t = MidR X wv c (t.val + 1) := by
    unfold Cmp; rw [dif_neg (by decide)]
  unfold Cp Yw
  rw [if_neg (by decide), if_pos (by decide), if_pos (by decide), Mid_three, hc]
  unfold MidR Cols
  iintro ⟨⟨H1, H2, H3, ⟨H4a, H4b, H4⟩, H5, H6, H7⟩, HY⟩
  icases (bigSep_take (ge_insert t)) $$ H4 with ⟨HS, H4⟩
  isplitl [HS]
  · iapply (show colF X wv c 3 t ⊢ slot c 0 t (acc2 X wv (frm c t) t) from .rfl); iexact HS
  isplitl [HY]; · iexact HY
  isplitl [H7]; · iexact H7
  iintro HS HY H7
  isplitr [HY]
  · isplitl [H1]; · iexact H1
    isplitl [H2]; · iexact H2
    isplitl [H3]; · iexact H3
    isplitl [HS H4a H4b H4]
    · isplitl [H4a]; · iexact H4a
      isplitl [HS H4b]
      · iapply (bigSep_put (lt_insert t))
        isplitl [HS]; · iexact HS
        iexact H4b
      iexact H4
    isplitl [H5]; · iexact H5
    isplitl [H6]; · iexact H6
    iexact H7
  iexact HY

omit [FloatOps F] in
theorem xs_step (c : Dev nD) {s : Fin 4} (s' : Fin 4) (t : Fin 8) (h : s.val = s'.val) : xs X c s t = xs X c s' t := by
  obtain rfl : s = s' := Fin.ext h
  rfl

theorem cond6_iff : ∀ i : grid0.Coords, k0_cond6 i = 1#1 ↔ (i 0).val = 0 := by decide +kernel
theorem cond7_iff : ∀ i : grid0.Coords, k0_cond7 i = 1#1 ↔ (i 0).val = 1 := by decide +kernel
theorem cond8_iff : ∀ i : grid0.Coords, k0_cond8 i = 1#1 ↔ (i 0).val = 2 := by decide +kernel
theorem cond9_iff : ∀ i : grid0.Coords, k0_cond9 i = 1#1 ↔ (i 0).val = 3 := by decide +kernel

theorem wp_word {α : Type} (c : Dev nD) {s : Shape} {e : EltTy} {m : Memref sig .tc .smem s e} {r : Rect s} {h1 : r.shape.numel = 1} {hp : e.packing = 1} {w : Elt F e}
    {k : Elt F e → Prog (TpuEff nD τ sig (Elt F) Λ₀ .tc) α} {Q : α → sProp 𝕄} :
    (piece m r c (fun _ => w) : sProp 𝕄) ⊢ iprop((piece m r c (fun _ => w) -∗ WP c (k w) Q) -∗ WP c ((smemLoad m r h1 hp : Prog (TpuEff nD τ sig (Elt F) Λ₀ .tc) (Elt F e)) >>= k) Q) :=
  wp_load_piece (m := m) (r := r) (v := fun _ => w) (k := fun f => k (f (Shape.Idx.first (h1.symm ▸ Nat.one_pos)))) (Q := Q) c

theorem WP_frame {α : Type} {c : Dev nD} {p : Prog (TpuEff nD τ sig (Elt F) Λ₀ .tc) α} {Q : α → sProp 𝕄} {P R : sProp 𝕄} (h : P ⊢ WP c p Q) :
    iprop(P ∗ R) ⊢ WP c p (fun a => iprop(Q a ∗ R)) :=
  (sep_mono h .rfl).trans (wp_frame_r _ _ _)

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)
variable (arg0 arg1 v25 : BitVec 32)

theorem part22_spec :
    iprop(recs X wv N ∗ Mid X wv c (i 0) (i 1).val ∗ pieceAny m4 wR c)
      ⊢ WP c (k0_part22 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) arg0 arg1 c v25 (xs X c (i 0) (i 1)) (wv c (i 1)))
        fun _ => iprop((recs X wv N ∗ Snd X wv c (i 0) (i 1) 3) ∗ Yw X wv m4 c (i 0) (i 1)) := by
  have start : iprop(Mid X wv c (i 0) (i 1).val ∗ pieceAny m4 wR c) ⊢ Cp X wv m4 c (i 0) (i 1) 0 := by
    unfold Cp; rw [if_neg (Nat.not_lt_zero _)]
  refine (sep_mono .rfl start).trans ?_
  rw [k0_part22_eq_skeleton]; unfold k0_part22_skel
  extract_lets
  refine wp_cond c (P' := iprop(recs X wv N ∗ Cp X wv m4 c (i 0) (i 1) 1)) (fun h => sep_mono .rfl (Cp_skip X wv m4 c _ _ rfl fun e => h ((cond6_iff i).2 e))) ?_ ?_
  rotate_left
  · intro hk h
    have h' := (cond6_iff i).1 h
    have e := h'
    show _ ⊢ WP c (.op _ fun _ => .op _ fun _ => _) _
    iintro ⟨#Hr, HC⟩
    icases (Cp_low X wv m4 c (i 0) (i 1) 0 h' (j := 0) (j' := 1) rfl rfl) $$ HC with ⟨HS, HC⟩
    icases (show colF X wv c (0 : Fin 3).castSucc (i 1) ⊢ slotAny c 1 (i 1) from .rfl) $$ HS with HS
    icases (any_piece c) $$ HS with ⟨%v, HS⟩
    iapply (wp_load_at c (k0_off4_eq i) (cR_inb 1 (i 1))) $$ HS
    iintro HS
    icases (piece_any _ _ _ _) $$ HS with HS
    iapply (wp_store_at c (k0_off4_eq i) (cR_inb 1 (i 1))) $$ HS
    iintro HS
    iapply hk
    isplitr; · iexact Hr
    iapply HC
    have ex : xs X c (i 0) (i 1) = xs X c 0 (i 1) := xs_step X c 0 (i 1) h'
    iapply (Entails.of_eq (congrArg (fun z => slot c 1 (i 1) (k0_pay7 z (wv c (i 1)))) ex)); iexact HS
  refine wp_cond c (P' := iprop(recs X wv N ∗ Cp X wv m4 c (i 0) (i 1) 2)) (fun h => sep_mono .rfl (Cp_skip X wv m4 c _ _ rfl fun e => h ((cond7_iff i).2 e))) ?_ ?_
  rotate_left
  · intro hk h
    have h' := (cond7_iff i).1 h
    show _ ⊢ WP c (.op _ fun _ => .op _ fun _ => .op _ fun _ => _) _
    iintro ⟨#Hr, HC⟩
    icases (Cp_low X wv m4 c (i 0) (i 1) 1 h' (j := 1) (j' := 2) rfl rfl) $$ HC with ⟨HS, HC⟩
    icases (show colF X wv c (1 : Fin 3).castSucc (i 1) ⊢ slot c 0 (i 1) (acc0 X wv (frm c (i 1)) (i 1)) from .rfl) $$ HS with HS
    iapply (wp_load_at c (k0_off5_eq i) (cR_inb 0 (i 1))) $$ HS
    iintro HS
    iapply (wp_load_at c (k0_off5_eq i) (cR_inb 0 (i 1))) $$ HS
    iintro HS
    icases (piece_any _ _ _ _) $$ HS with HS
    iapply (wp_store_at c (k0_off5_eq i) (cR_inb 0 (i 1))) $$ HS
    iintro HS
    iapply hk
    isplitr; · iexact Hr
    iapply HC
    have ex : xs X c (i 0) (i 1) = xs X c 1 (i 1) := xs_step X c 1 (i 1) h'
    iapply (Entails.of_eq (congrArg (fun z => slot c 0 (i 1) (k0_pay8 z (wv c (i 1)) (acc0 X wv (frm c (i 1)) (i 1)))) ex)); iexact HS
  refine wp_cond c (P' := iprop(recs X wv N ∗ Cp X wv m4 c (i 0) (i 1) 3)) (fun h => sep_mono .rfl (Cp_skip X wv m4 c _ _ rfl fun e => h ((cond8_iff i).2 e))) ?_ ?_
  rotate_left
  · intro hk h
    have h' := (cond8_iff i).1 h
    show _ ⊢ WP c (.op _ fun _ => .op _ fun _ => .op _ fun _ => _) _
    iintro ⟨#Hr, HC⟩
    icases (Cp_low X wv m4 c (i 0) (i 1) 2 h' (j := 2) (j' := 3) rfl rfl) $$ HC with ⟨HS, HC⟩
    icases (show colF X wv c (2 : Fin 3).castSucc (i 1) ⊢ slot c 1 (i 1) (acc1 X wv (frm c (i 1)) (i 1)) from .rfl) $$ HS with HS
    iapply (wp_load_at c (k0_off6_eq i) (cR_inb 1 (i 1))) $$ HS
    iintro HS
    iapply (wp_load_at c (k0_off6_eq i) (cR_inb 1 (i 1))) $$ HS
    iintro HS
    icases (piece_any _ _ _ _) $$ HS with HS
    iapply (wp_store_at c (k0_off6_eq i) (cR_inb 1 (i 1))) $$ HS
    iintro HS
    iapply hk
    isplitr; · iexact Hr
    iapply HC
    have ex : xs X c (i 0) (i 1) = xs X c 2 (i 1) := xs_step X c 2 (i 1) h'
    iapply (Entails.of_eq (congrArg (fun z => slot c 1 (i 1) (k0_pay9 z (wv c (i 1)) (acc1 X wv (frm c (i 1)) (i 1)))) ex)); iexact HS
  refine wp_cond c (P' := iprop(recs X wv N ∗ Cp X wv m4 c (i 0) (i 1) 4)) (fun h => sep_mono .rfl (Cp_skip X wv m4 c _ _ rfl fun e => h ((cond9_iff i).2 e))) ?_ ?_
  rotate_left
  · intro hk h
    have h' := (cond9_iff i).1 h
    show _ ⊢ WP c (.op _ fun _ => .op _ fun _ => .op _ fun _ => (smemLoad mM mR numel1_S1 rfl >>= fun _ => smemLoad mM mR numel1_S1 rfl >>= fun _ => .op _ fun _ => _)) _
    iintro ⟨#Hr, HC⟩
    icases (Cp_top X wv m4 c (i 0) (i 1) h') $$ HC with ⟨HS, HY, Hm, HC⟩
    iapply (wp_load_at c (k0_off7_eq i) (cR_inb 0 (i 1))) $$ HS
    iintro HS
    icases (any_piece c) $$ HY with ⟨%v, HY⟩
    iapply (wp_load_piece c) $$ HY
    iintro HY
    icases (piece_any _ _ _ _) $$ HY with HY
    iapply (wp_store_piece c) $$ HY
    iintro HY
    unfold mword
    iapply (wp_word c) $$ Hm
    iintro Hm
    iapply (wp_word c) $$ Hm
    iintro Hm
    icases (piece_any _ _ _ _) $$ Hm with Hm
    iapply (wp_store_piece c) $$ Hm
    iintro Hm
    iapply hk
    isplitr; · iexact Hr
    have ex : xs X c (i 0) (i 1) = xs X c 3 (i 1) := xs_step X c 3 (i 1) h'
    icases (piece_any _ _ _ _) $$ HS with HS
    iapply HC $$ HS [HY] [Hm]
    · iapply (Entails.of_eq (congrArg (fun z => piece m4 wR c (k0_pay10 z (wv c (i 1)) (acc2 X wv (frm c (i 1)) (i 1)))) ex)); iexact HY
    · iapply (Entails.of_eq ((congrArg (fun z => piece mM mR c (fun _ => k0_pay11 z (wv c (i 1)) (acc2 X wv (frm c (i 1)) (i 1)) (amx X wv c (i 1).val))) ex).trans
        (congrArg (fun z => (piece mM mR c (fun _ => z) : sProp 𝕄)) (amx_succ X wv c (i 1)).symm))); iexact Hm
  have e0 : iprop(recs X wv N ∗ Cp X wv m4 c (i 0) (i 1) 4) ⊢ iprop((recs X wv N ∗ Snd X wv c (i 0) (i 1) 0) ∗ Yw X wv m4 c (i 0) (i 1)) := by
    iintro ⟨H1, H2⟩
    icases (Cp_end X wv m4 c (i 0) (i 1)) $$ H2 with ⟨H2, H3⟩
    isplitr [H3]
    · isplitl [H1]; · iexact H1
      iexact H2
    iexact H3
  refine e0.trans ?_
  refine WP_frame (Q := fun _ => iprop(recs X wv N ∗ Snd X wv c (i 0) (i 1) 3)) ?_
  refine wp_cond c (Snd_none X wv N c _ _ 0 0 (conds_0 i).1 rfl rfl) ?_ ?_
  rotate_left
  · exact fun hk h => wp_send_cond X wv N c _ _ 0 0 (.inl rfl) ((conds_0 i).1.1 h) (Fin.ext (devs_0 c).1) (by rfl) (by rfl) (by rfl) (by rfl) (by rfl) hk
  refine wp_cond c (Snd_none X wv N c _ _ 0 1 (conds_0 i).2.1 rfl rfl) ?_ ?_
  rotate_left
  · exact fun hk h => wp_send_cond X wv N c _ _ 0 1 (.inl rfl) ((conds_0 i).2.1.1 h) (Fin.ext (devs_0 c).2.1) (by rfl) (by rfl) (by rfl) (by rfl) (by rfl) hk
  refine wp_cond c (Snd_none X wv N c _ _ 0 2 (conds_0 i).2.2.1 rfl rfl) ?_ ?_
  rotate_left
  · exact fun hk h => wp_send_cond X wv N c _ _ 0 2 (.inl rfl) ((conds_0 i).2.2.1.1 h) (Fin.ext (devs_0 c).2.2.1) (by rfl) (by rfl) (by rfl) (by rfl) (by rfl) hk
  exact WP_ret c _

end Cert.KernelIdeal.Ring

end
-- ==== Proof.KernelIdeal.Whole.lean ====
/-
  Pieces that are whole buffers.
-/
module

public import proofs.«01_k».proof.Proof.KernelIdeal.Moves

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable {sp : Space} {s : Shape} {e : EltTy} (m : Memref sig .tc sp s e)

omit [FloatOps F] in
/-- The piece under the whole rectangle is the memref. -/
theorem piece_owns {off : Fin s.rank → ℕ} (h0 : off = fun _ => 0) (hi : ∀ a, off a + s.size a ≤ s.size a) (c : Dev nD) (v : s.Idx → Elt F e) :
    (piece m (Rect.unit (s := s) off s.size hi) c v : sProp 𝕄) ⊣⊢ owns (c : Thread nD τ) m fullShare v := by
  subst h0
  have hset : (m.access (Rect.unit (s := s) (fun _ => 0) s.size hi)).set = m.view.set := by
    show (m.view.slice (Rect.whole s)).set = _
    rw [View.set_slice, Rect.set_whole]; rfl
  have hread : ∀ f : Buf (Elt F) (m.view.loc (c : Thread nD τ)), (m.access (Rect.unit (s := s) (fun _ => 0) s.size hi)).read (Elt F) f = m.view.read (Elt F) f := by
    intro f; funext x
    show m.view.read (Elt F) f ((Rect.whole s).emb x) = _
    rw [Rect.emb_whole_apply]
  constructor
  · unfold piece owns
    iintro ⟨%f, %h, H⟩
    iexists f
    isplitr; · ipureintro; rw [← h]; exact (hread f).symm
    iapply (Entails.of_eq (congrArg (fun S => (m.view.loc (c : Thread nD τ) ↦[S]{fullShare} f : sProp 𝕄)) hset)); iexact H
  · unfold piece owns
    iintro ⟨%f, %h, H⟩
    iexists f
    isplitr; · ipureintro; rw [← h]; exact hread f
    iapply (Entails.of_eq (congrArg (fun S => (m.view.loc (c : Thread nD τ) ↦[S]{fullShare} f : sProp 𝕄)) hset.symm)); iexact H

omit [FloatOps F] in
theorem pieceAny_owns {off : Fin s.rank → ℕ} (h0 : off = fun _ => 0) (hi : ∀ a, off a + s.size a ≤ s.size a) (c : Dev nD) :
    (pieceAny m (Rect.unit (s := s) off s.size hi) c : sProp 𝕄) ⊣⊢ iprop(∃ v, owns (c : Thread nD τ) m fullShare v) := by
  constructor
  · have h : (pieceAny m (Rect.unit (s := s) off s.size hi) c : sProp 𝕄) ⊢ iprop(∃ v, piece m (Rect.unit (s := s) off s.size hi) c v) := by
      unfold pieceAny piece
      iintro ⟨%f, H⟩
      iexists ((m.access (Rect.unit (s := s) off s.size hi)).read (Elt F) f); iexists f
      isplitr; · ipureintro; rfl
      iexact H
    refine h.trans ?_
    iintro ⟨%v, H⟩
    iexists v; iapply (piece_owns m h0 hi c v).1; iexact H
  · iintro ⟨%v, H⟩
    iapply (piece_any m _ c v); iapply (piece_owns m h0 hi c v).2; iexact H

theorem off2_zero : (![0, 0] : Fin 2 → ℕ) = fun _ => 0 := by decide
theorem off1_zero : (![0] : Fin 1 → ℕ) = fun _ => 0 := by decide

omit [FloatOps F] in
/-- A whole buffer at full share, in three shares. -/
theorem owns_thirds (c : Dev nD) (b : Ref sig .tc) (f : b.ty.Contents (Elt F)) :
    (owns (c : Thread nD τ) (Memref.whole b) fullShare f : sProp 𝕄)
      ⊣⊢ iprop((((c : Thread nD τ).loc b) ↦[(Memref.whole b).view.set]{third 0} f) ∗ (((c : Thread nD τ).loc b) ↦[(Memref.whole b).view.set]{third 1} f)
        ∗ (((c : Thread nD τ).loc b) ↦[(Memref.whole b).view.set]{third 2} f)) := by
  rw [owns_whole]
  have hs : (Memref.whole b : Memref sig .tc _ _ _).view.set = Finset.univ := View.set_whole _
  rw [hs]
  have e1 : ((((c : Thread nD τ).loc b) ↦{fullShare} f) : sProp 𝕄) ⊣⊢ iprop((((c : Thread nD τ).loc b) ↦{fullShare.left} f) ∗ (((c : Thread nD τ).loc b) ↦{fullShare.right} f)) :=
    pointsTo_share (PosShare.mem_left_op_right fullShare)
  have e2 : ((((c : Thread nD τ).loc b) ↦{fullShare.right} f) : sProp 𝕄) ⊣⊢ iprop((((c : Thread nD τ).loc b) ↦{fullShare.right.left} f) ∗ (((c : Thread nD τ).loc b) ↦{fullShare.right.right} f)) :=
    pointsTo_share (PosShare.mem_left_op_right fullShare.right)
  constructor
  · iintro H
    icases e1.1 $$ H with ⟨H0, H⟩
    icases e2.1 $$ H with ⟨H1, H2⟩
    isplitl [H0]; · iexact H0
    isplitl [H1]; · iexact H1
    iexact H2
  · iintro ⟨H0, H1, H2⟩
    iapply e1.2
    isplitl [H0]; · iexact H0
    iapply e2.2
    isplitl [H1]; · iexact H1
    iexact H2

end Cert.KernelIdeal.Ring

end
-- ==== Proof.KernelIdeal.Final.lean ====
/-
  The end of the first call: the exchange of the maxima and the scale.
-/
module

public import proofs.«01_k».proof.Proof.KernelIdeal.Compute
public import proofs.«01_k».proof.Proof.KernelIdeal.Whole

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## The maximum's block -/

theorem block_split (c : Dev nD) {v : Vec F S8x128 .f32} (hv : v = av X wv c) : piece aM aR c v ⊢ iprop(aPts X wv c 0 ∗ aPts X wv c 1 ∗ aPts X wv c 2) := by
  subst hv
  exact (piece_owns aM off2_zero _ c _).1.trans (owns_thirds c cc0_scratch2 _).1

/-- Both exchange cells, some of their transfers awaited. -/
def WG (c : Dev nD) (n j5 j6 : ℕ) : sProp 𝕄 := iprop(recs X wv N ∗ owesL c n ∗ WS X wv c 5 0 0 j5 ∗ WS X wv c 6 0 0 j6)

theorem WG_5 (c : Dev nD) (n j5 j6 : ℕ) : WG X wv N c n j5 j6 ⊢ iprop(WW X wv N c n 5 0 0 j5 ∗ (WW X wv N c n 5 0 0 (j5 + 1) -∗ WG X wv N c n (j5 + 1) j6)) := by
  unfold WG WW
  iintro ⟨#Hr, HO, H5, H6⟩
  isplitl [HO H5]
  · isplitr; · iexact Hr
    isplitl [HO]; · iexact HO
    iexact H5
  iintro ⟨-, HO, H5⟩
  isplitr; · iexact Hr
  isplitl [HO]; · iexact HO
  isplitl [H5]; · iexact H5
  iexact H6
theorem WG_6 (c : Dev nD) (n j5 j6 : ℕ) : WG X wv N c n j5 j6 ⊢ iprop(WW X wv N c n 6 0 0 j6 ∗ (WW X wv N c n 6 0 0 (j6 + 1) -∗ WG X wv N c n j5 (j6 + 1))) := by
  unfold WG WW
  iintro ⟨#Hr, HO, H5, H6⟩
  isplitl [HO H6]
  · isplitr; · iexact Hr
    isplitl [HO]; · iexact HO
    iexact H6
  iintro ⟨-, HO, H6⟩
  isplitr; · iexact Hr
  isplitl [HO]; · iexact HO
  isplitl [H5]; · iexact H5
  iexact H6

omit [FloatOps F] in
theorem dset_three {Φ : D → sProp 𝕄} : bigSep (dset 3) Φ ⊢ iprop(Φ 0 ∗ Φ 1 ∗ Φ 2) := by
  have h : (dset 3) = insert (0 : D) {1, 2} ∧ (0 : D) ∉ ({1, 2} : Finset D) := by decide
  have h' : ({1, 2} : Finset D) = insert (1 : D) {2} ∧ (1 : D) ∉ ({2} : Finset D) := by decide
  iintro H
  icases (bigSep_take h) $$ H with ⟨H0, H⟩
  icases (bigSep_take h') $$ H with ⟨H1, H⟩
  isplitl [H0]; · iexact H0
  isplitl [H1]; · iexact H1
  iapply (Entails.of_eq bigSep_singleton); iexact H
theorem blocks_back (c : Dev nD) : bigSep (dset (nd (kdN 5))) (fun d => pay X wv c (kdN 5) 0 d) ⊢ iprop(aPts X wv c 0 ∗ aPts X wv c 1 ∗ aPts X wv c 2) := dset_three
theorem maxima_in (c : Dev nD) : bigSep (dset (nd (kdN 6))) (fun d => pay X wv c (kdN 6) 0 d)
    ⊢ iprop(piece gM (gR 0) c (gv X wv c 0) ∗ piece gM (gR 1) c (gv X wv c 1) ∗ piece gM (gR 2) c (gv X wv c 2)) := dset_three

theorem three_insert : (Finset.univ : Finset (Fin 3)) = insert 0 {1, 2} ∧ (0 : Fin 3) ∉ ({1, 2} : Finset (Fin 3)) := by decide
theorem three_insert' : ({1, 2} : Finset (Fin 3)) = insert 1 {2} ∧ (1 : Fin 3) ∉ ({2} : Finset (Fin 3)) := by decide
omit [FloatOps F] in
theorem bigSep_three {Φ : Fin 3 → sProp 𝕄} : bigSep Finset.univ Φ ⊣⊢ iprop(Φ 0 ∗ Φ 1 ∗ Φ 2) := by
  constructor
  · iintro H
    icases (bigSep_take three_insert) $$ H with ⟨H0, H⟩
    icases (bigSep_take three_insert') $$ H with ⟨H1, H⟩
    isplitl [H0]; · iexact H0
    isplitl [H1]; · iexact H1
    iapply (Entails.of_eq bigSep_singleton); iexact H
  · iintro ⟨H0, H1, H2⟩
    iapply (bigSep_put three_insert)
    isplitl [H0]; · iexact H0
    iapply (bigSep_put three_insert')
    isplitl [H1]; · iexact H1
    iapply (Entails.of_eq bigSep_singleton.symm); iexact H2

theorem devs_max : ∀ c : Dev nD, k0_dev31 c = (gtow c 0).val ∧ k0_dev32 c = (gtow c 1).val ∧ k0_dev33 c = (gtow c 2).val := by decide +kernel

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)
variable (v2 : BitVec 32)

/-- What part 17 starts from. -/
def Send3 (c : Dev nD) : sProp 𝕄 :=
  iprop((aPts X wv c 0 ∗ aPts X wv c 1 ∗ aPts X wv c 2) ∗ (gAny (gtow c 0) 0 ∗ gAny (gtow c 1) 1 ∗ gAny (gtow c 2) 2)
    ∗ (atPos ER (cell c 5) 0 ∅ 0 ∗ reached ER (cell c 5) 0 ∗ atPos ER (cell c 6) 0 ∅ 0 ∗ cred (tallyAt (cell c 6) 0 (3 * Ng))
      ∗ bigSep Finset.univ (fun o : Fin 3 => iprop(dutyTok ER (cell c 5) 0 (⟨o.val, by omega⟩ : D) ∗ dutyTok ER (cell (gtow c o) 6) 0 (⟨o.val, by omega⟩ : D))))
    ∗ (reached ER (cell (gtow c 0) 6) 0 ∗ reached ER (cell (gtow c 1) 6) 0 ∗ reached ER (cell (gtow c 2) 6) 0))

theorem part16_spec {Q : Elt F .f32 → sProp 𝕄} :
    iprop(recs X wv N ∗ owesL c 30 ∗ KB c 3 ∗ mword X wv c 8 ∗ pieceAny aM aR c)
      ⊢ iprop((∀ w, ⌜w = amx X wv c 8⌝ -∗ (owesL c 30 ∗ atPos ER (cell c 7) 2 ∅ 0 ∗ kPts c 0 ∗ kPts c 1 ∗ mword X wv c 8 ∗ piece aM aR c (av X wv c)) -∗ Q w)
        -∗ WP c (k0_part16 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v2) Q) := by
  rw [k0_part16_eq_skeleton]; unfold k0_part16_skel
  simp only [Prog.lift, Prog.bind_op, Prog.bind_ret, Prog.pure_eq_ret]
  simp only [KB]
  unfold mword
  iintro ⟨#Hr, HO, ⟨Hat, Hc⟩, Hm, Ha⟩ Hk
  iapply (wp_dma_part X wv N c 7 0 1 0 30 (dst := kT 0) rfl rfl (by decide) (lv0 30)) $$ [HO Hat Hc]
  · unfold WW
    isplitr; · iexact Hr
    isplitl [HO]; · iexact HO
    iapply (WS_start X wv c 7 0 1)
    isplitl [Hat]; · iexact Hat
    iexact Hc
  iintro H
  iapply (wp_dma_last X wv N c 7 0 1 1 30 (dst := kT 0) rfl rfl (by decide) rfl (lv0 30)) $$ H
  unfold WL
  iintro ⟨HO, Hat, -, Hp⟩
  icases (credits_back X wv c 1) $$ Hp with ⟨Hk0, Hk1⟩
  iapply (wp_word c) $$ Hm
  iintro Hm
  icases (any_piece c) $$ Ha with ⟨%v, Ha⟩
  iapply (wp_load_piece c) $$ Ha
  iintro Ha
  icases (piece_any _ _ _ _) $$ Ha with Ha
  iapply (wp_store_piece c) $$ Ha
  iintro Ha
  iapply (WP_ret c)
  iapply Hk $$ []
  · ipureintro; rfl
  isplitl [HO]; · iexact HO
  isplitl [Hat]; · iexact Hat
  isplitl [Hk0]; · iexact Hk0
  isplitl [Hk1]; · iexact Hk1
  isplitl [Hm]; · iexact Hm
  unfold av
  iexact Ha

theorem part17_spec (h : k0_cond34 i = 1#1) {Q : BitVec 32 → sProp 𝕄} :
    iprop(recs X wv N ∗ owesL c 30 ∗ Send3 X wv c) ⊢ iprop((∀ a, WG X wv N c 33 0 0 -∗ Q a) -∗ WP c (k0_part17 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v2 h) Q) := by
  rw [k0_part17_eq_skeleton]; unfold k0_part17_skel
  simp only [Prog.lift, Prog.bind_op, Prog.bind_ret, Prog.pure_eq_ret]
  unfold Send3
  iintro ⟨#Hr, HO, ⟨Ha0, Ha1, Ha2⟩, ⟨Hg0, Hg1, Hg2⟩, ⟨H5, #H5r, H6, H6c, Ht⟩, #Hr0, #Hr1, #Hr2⟩ Hk
  icases bigSep_three.1 $$ Ht with ⟨⟨Ht0, Hu0⟩, ⟨Ht1, Hu1⟩, Ht2, Hu2⟩
  iapply (wp_send_max X wv N c 0 (Fin.ext (devs_max c).1) (dst := gT 0) rfl) $$ [HO Ha0 Hg0 Ht0 Hu0]
  · isplitr; · iexact Hr
    isplitl [HO]; · iexact HO
    isplitl [Ha0]; · iexact Ha0
    isplitl [Hg0]; · iexact Hg0
    isplitl [Ht0]; · iexact Ht0
    isplitr; · iexact H5r
    isplitl [Hu0]; · iexact Hu0
    iexact Hr0
  iintro ⟨Hc0, HO⟩
  iapply (wp_send_max X wv N c 1 (Fin.ext (devs_max c).2.1) (dst := gT 1) rfl) $$ [HO Ha1 Hg1 Ht1 Hu1]
  · isplitr; · iexact Hr
    isplitl [HO]; · iexact HO
    isplitl [Ha1]; · iexact Ha1
    isplitl [Hg1]; · iexact Hg1
    isplitl [Ht1]; · iexact Ht1
    isplitr; · iexact H5r
    isplitl [Hu1]; · iexact Hu1
    iexact Hr1
  iintro ⟨Hc1, HO⟩
  iapply (wp_send_max X wv N c 2 (Fin.ext (devs_max c).2.2) (dst := gT 2) rfl) $$ [HO Ha2 Hg2 Ht2 Hu2]
  · isplitr; · iexact Hr
    isplitl [HO]; · iexact HO
    isplitl [Ha2]; · iexact Ha2
    isplitl [Hg2]; · iexact Hg2
    isplitl [Ht2]; · iexact Ht2
    isplitr; · iexact H5r
    isplitl [Hu2]; · iexact Hu2
    iexact Hr2
  iintro ⟨Hc2, HO⟩
  iapply (WP_ret c); iapply Hk
  unfold WG
  isplitr; · iexact Hr
  isplitl [HO]; · iexact HO
  isplitl [H5 Hc0 Hc1 Hc2]
  · iapply (WS_start X wv c 5 0 0)
    isplitl [H5]; · iexact H5
    have e : nd (kdN 5) * amt (kdN 5) = Ng + (Ng + Ng) := by show 3 * Ng = _; omega
    rw [e]
    iapply (cred_split (cell c 5) 0 Ng (Ng + Ng)).2
    isplitl [Hc0]; · iexact Hc0
    iapply (cred_split (cell c 5) 0 Ng Ng).2
    isplitl [Hc1]; · iexact Hc1
    iexact Hc2
  iapply (WS_start X wv c 6 0 0)
  isplitl [H6]; · iexact H6
  iexact H6c

theorem part18_spec (a : BitVec 32) {Q : BitVec 32 → sProp 𝕄} :
    WG X wv N c 33 0 0 ⊢ iprop((∀ b, WG X wv N c 33 2 1 -∗ Q b) -∗ WP c (k0_part18 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v2 a) Q) := by
  rw [k0_part18_eq_skeleton]; unfold k0_part18_skel
  simp only [Prog.lift, Prog.bind_op, Prog.bind_ret, Prog.pure_eq_ret]
  iintro H Hk
  icases (WG_5 X wv N c 33 0 0) $$ H with ⟨H, HB⟩
  iapply (wp_dma_part X wv N c 5 0 0 0 33 (dst := aM) rfl aM_credit (by decide) (lv_end (by decide))) $$ H
  iintro H
  ihave H := HB $$ H
  icases (WG_6 X wv N c 33 1 0) $$ H with ⟨H, HB⟩
  iapply (wp_dma_part X wv N c 6 0 0 0 33 (dst := gT 0) rfl rfl (by decide) (lv_end (by decide))) $$ H
  iintro H
  ihave H := HB $$ H
  icases (WG_5 X wv N c 33 1 1) $$ H with ⟨H, HB⟩
  iapply (wp_dma_part X wv N c 5 0 0 1 33 (dst := aM) rfl aM_credit (by decide) (lv_end (by decide))) $$ H
  iintro H
  ihave H := HB $$ H
  iapply (WP_ret c); iapply Hk; iexact H

theorem part19_spec (w : Elt F .f32) (b : BitVec 32) {Q : (Σ' (v324 : F .f32), FVec F S8x128 .f32) → sProp 𝕄} :
    WG X wv N c 33 2 1 ⊢ iprop((∀ z, ⌜z = ⟨k0_pay3 w (gv X wv c 0), k0_pay4 (gv X wv c 1)⟩⌝ -∗ (owesL c 33 ∗ (atPos ER (cell c 5) 1 ∅ 0 ∗ atPos ER (cell c 6) 1 ∅ 0)
        ∗ (aPts X wv c 0 ∗ aPts X wv c 1 ∗ aPts X wv c 2)
        ∗ piece gM (gR 0) c (gv X wv c 0) ∗ piece gM (gR 1) c (gv X wv c 1) ∗ piece gM (gR 2) c (gv X wv c 2)) -∗ Q z)
      -∗ WP c (k0_part19 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v2 w b) Q) := by
  rw [k0_part19_eq_skeleton]; unfold k0_part19_skel
  simp only [Prog.lift, Prog.bind_op, Prog.bind_ret, Prog.pure_eq_ret]
  iintro H Hk
  icases (WG_6 X wv N c 33 2 1) $$ H with ⟨H, HB⟩
  iapply (wp_dma_part X wv N c 6 0 0 1 33 (dst := gT 1) rfl rfl (by decide) (lv_end (by decide))) $$ H
  iintro H
  ihave H := HB $$ H
  unfold WG
  icases H with ⟨#Hr, HO, H5, H6⟩
  iapply (wp_dma_last X wv N c 5 0 0 2 33 (dst := aM) rfl aM_credit (by decide) rfl (lv_end (by decide))) $$ [HO H5]
  · unfold WW
    isplitr; · iexact Hr
    isplitl [HO]; · iexact HO
    iexact H5
  unfold WL
  iintro ⟨HO, H5, -, Hp5⟩
  iapply (wp_dma_last X wv N c 6 0 0 2 33 (dst := gT 2) rfl rfl (by decide) rfl (lv_end (by decide))) $$ [HO H6]
  · unfold WW
    isplitr; · iexact Hr
    isplitl [HO]; · iexact HO
    iexact H6
  unfold WL
  iintro ⟨HO, H6, -, Hp6⟩
  icases (blocks_back X wv c) $$ Hp5 with Hp5
  icases (maxima_in X wv c) $$ Hp6 with ⟨Hg0, Hg1, Hg2⟩
  iapply (wp_load_piece c) $$ Hg0
  iintro Hg0
  iapply (wp_load_piece c) $$ Hg1
  iintro Hg1
  iapply (WP_ret c)
  iapply Hk $$ []
  · ipureintro; rfl
  isplitl [HO]; · iexact HO
  isplitl [H5 H6]
  · isplitl [H5]; · iexact H5
    iexact H6
  isplitl [Hp5]; · iexact Hp5
  isplitl [Hg0]; · iexact Hg0
  isplitl [Hg1]; · iexact Hg1
  iexact Hg2

end Cert.KernelIdeal.Ring

end
-- ==== Proof.KernelIdeal.Start.lean ====
/-
  The start of the first call: the barrier.
-/
module

public import proofs.«01_k».proof.Proof.KernelIdeal.Final

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

/-! ## The start -/

/-- What a device holds at its first point besides the barrier's means. -/
def Own (c : Dev nD) : sProp 𝕄 :=
  iprop((atPos ER (cell c 1) 0 ∅ 0 ∗ reached ER (cell c 1) 0) ∗ bigSep (tl 2) (stok c) ∗ (CrW X wv c 0 0 ∗ CrW X wv c 1 0)
    ∗ bigSep Finset.univ (fun t : Fin 8 => slotAny c 1 t)
    ∗ (kPts c 0 ∗ kPts c 1 ∗ atPos ER (cell c 7) 0 ∅ 0 ∗ reached ER (cell c 7) 0
      ∗ (dutyTok ER (cell c 7) 0 (0 : D) ∗ dutyTok ER (cell c 7) 0 (1 : D)) ∗ (mark (side c 0) 0 0 ∗ mark (side c 1) 1 0)
      ∗ (dutyTok ER (cell c 7) 1 (0 : D) ∗ dutyTok ER (cell c 7) 1 (1 : D)))
    ∗ AM c ∗ RRs c 0 ∗ xB X c 0)
/-- The barrier's means: what it hands over to each side. -/
def BarS (c : Dev nD) (d : Fin 2) : sProp 𝕄 :=
  iprop(dutyTok ER (cell (side c d) 10) 0 (⟨d.val, by omega⟩ : D) ∗ barPay (side c d) d ∗ reached ER (cell (side c d) 10) 0)
def Init (c : Dev nD) : sProp 𝕄 :=
  iprop(owesL c 0 ∗ (BarS c 0 ∗ BarS c 1) ∗ (atPos ER (cell c 10) 0 ∅ 0 ∗ cred (tallyAt (cell c 10) 0 2)) ∗ pieceAny mM mR c ∗ Own X wv c)

omit [FloatOps F] in
theorem Dst_start (c : Dev nD) (d : Fin 2) : (slotsAny (sdr c d) 0 d : sProp 𝕄) ⊢ Dst c 0 d 0 := by
  unfold slotsAny Dst
  rw [geH_zero]
  refine BI.bigSep_mono fun tt htt => ?_
  have e : tow c tt = sdr c d := by
    have : ∀ (c : Dev nD) (d : Fin 2), ∀ tt ∈ cols d, tow c tt = sdr c d := by decide
    exact this c d tt htt
  show slotAny (sdr c d) 0 tt ⊢ slotAny (tow c tt) (dOf 0) tt
  rw [e]; exact .rfl

omit [FloatOps F] in
theorem GG_mk (c : Dev nD) {n : ℕ} (h : n = 0) : iprop(gAny (nxt c) 0 ∗ gAny (prv c) 2 ∗ gAny (nxt c) 1) ⊢ (GG c n : sProp 𝕄) := by
  unfold GG; rw [if_pos h]

omit [FloatOps F] in
theorem KB_at (c : Dev nD) {m n : ℕ} (h : n = m) : (KB c m : sProp 𝕄) ⊢ KB c n := by rw [h]

theorem wp_dev {α : Type} (c : Dev nD) {P : sProp 𝕄} {k : Dev nD → Prog (TpuEff nD τ sig (Elt F) Λ₀ .tc) α} {Q : α → sProp 𝕄} (h : P ⊢ WP c (k c) Q) :
    P ⊢ WP c ((Prog.lift .deviceId : Prog (TpuEff nD τ sig (Elt F) Λ₀ .tc) (Dev nD)) >>= k) Q := by
  show P ⊢ WP c (.op .deviceId k) Q
  exact h.trans (Entails.of_eq (wp_deviceId 𝒱₀ (c : Thread nD τ) none Set.univ (k := k) (Q := Q)).symm)

theorem begin (c : Dev nD) : iprop(owesL c 2 ∗ barPay c 0 ∗ barPay c 1 ∗ mword X wv c 0 ∗ Own X wv c) ⊢ iprop(Bef X wv c 0 ∗ xB X c 0) := by
  show _ ⊢ iprop(NoXL X wv c 0 0 ∗ xB X c 0)
  unfold Own NoXL OT Fix barPay
  iintro ⟨HO, ⟨Hs0, Hk2, Hk4, Hg0, Hg1, #Ha, #Hb, #Hc⟩, ⟨Hs1, Hk1, Hk3, Hg2, #Hd, #He, #Hf⟩, Hm, HR, Ht, ⟨HC0, HC1⟩, HS, ⟨Hp0, Hp1, Hat, Hre, Ht0, Hmk, Ht1⟩, HA, HRR, HX⟩
  isplitr [HX]
  · isplitl [HO Ht]
    · isplitl [HO]; · iexact HO
      iexact Ht
    isplitl [HR]; · iapply (RS_start c 0); iexact HR
    isplitl [HC0 Hs0]
    · unfold CD; rw [if_pos (.inl rfl)]
      isplitl [Hs0]
      · iapply (Dst_start c 0); iexact Hs0
      iexact HC0
    isplitl [HC1 Hs1]
    · unfold CD; rw [if_pos (.inl rfl)]
      isplitl [Hs1]
      · iapply (Dst_start c 1); iexact Hs1
      iexact HC1
    isplitl [HS]
    · unfold Cols; rw [ge_zero]; iexact HS
    isplitr [Hm]
    · isplitr
      · unfold near
        isplitr
        · isplitr; · iexact Ha
          isplitr; · iexact Hb
          iexact Hc
        isplitr; · iexact Hd
        isplitr; · iexact He
        iexact Hf
      isplitr [Hg0 Hg1 Hg2 HA HRR]
      · iapply (KB_at c (m := 0) rfl)
        simp only [KB]
        isplitl [Hp0]; · iexact Hp0
        isplitl [Hp1]; · iexact Hp1
        isplitl [Hat]; · iexact Hat
        isplitl [Hre]; · iexact Hre
        isplitl [Ht0]; · iexact Ht0
        isplitl [Hmk]; · iexact Hmk
        isplitl [Hk1 Hk2]
        · isplitl [Hk1]; · iexact Hk1
          iexact Hk2
        isplitl [Ht1]; · iexact Ht1
        isplitl [Hk3]; · iexact Hk3
        iexact Hk4
      isplitl [Hg0 Hg1 Hg2]
      · iapply (GG_mk c rfl)
        isplitl [Hg0]; · iexact Hg0
        isplitl [Hg2]; · iexact Hg2
        iexact Hg1
      isplitl [HA]; · iexact HA
      iexact HRR
    iexact Hm
  iexact HX

/-! ## Before a point, after a point -/

def BefP (c : Dev nD) (s : Fin 4) (t : Fin 8) : sProp 𝕄 :=
  if s.val = 0 ∧ t.val = 0 then Init X wv c else if t.val = 0 then Mid X wv c ⟨s.val - 1, by omega⟩ 8 else Mid X wv c s t.val

theorem head_step (c : Dev nD) (s : Fin 4) (hs : s.val ≠ 0) : Mid X wv c ⟨s.val - 1, by omega⟩ 8 ⊢ iprop(Bef X wv c s ∗ xB X c s.val) := by
  have key : ∀ s : Fin 3, MidL X wv c s 8 ⊢ iprop(NoXL X wv c s 8 ∗ xB X c (s.val + 1)) := fun s => by
    refine (MidL_NoX X wv c s 8).1.trans (sep_mono .rfl ?_)
    exact xA_B X c s.castSucc
  fin_cases s
  · exact absurd rfl hs
  · exact (Entails.of_eq (Mid_lt X wv c 0 8)).trans (key 0)
  · exact (Entails.of_eq (Mid_lt X wv c 1 8)).trans (key 1)
  · exact (Entails.of_eq (Mid_lt X wv c 2 8)).trans (key 2)

theorem BefP_Pre (c : Dev nD) (s : Fin 4) (t : Fin 8) (h : ¬ (s.val = 0 ∧ t.val = 0)) : BefP X wv c s t ⊢ Pre21 X wv c s t := by
  unfold BefP Pre21
  rw [if_neg h]
  by_cases ht : t.val = 0
  · rw [if_pos ht, if_pos ht]; exact head_step X wv c s fun hs => h ⟨hs, ht⟩
  · rw [if_neg ht, if_neg ht]

/-- The barrier's cell, awaited: what the first point adds. -/
def Bz (c : Dev nD) (s : Fin 4) (t : Fin 8) : sProp 𝕄 := if s.val = 0 ∧ t.val = 0 then atPos ER (cell c 10) 1 ∅ 0 else iprop(emp)

theorem BefP_Pre' (c : Dev nD) (s : Fin 4) (t : Fin 8) (h : ¬ (s.val = 0 ∧ t.val = 0)) : BefP X wv c s t ⊢ iprop(Pre21 X wv c s t ∗ Bz c s t) := by
  refine (BefP_Pre X wv c s t h).trans ?_
  unfold Bz
  rw [if_neg h]
  iintro H
  isplitl [H]; · iexact H
  iempintro

theorem cond1_iff : ∀ i : grid0.Coords, k0_cond1 i = 1#1 ↔ ((i 0).val = 0 ∧ (i 1).val = 0) := by decide +kernel
theorem devs_bar : ∀ c : Dev nD, k0_dev1 c = (side c 0).val ∧ k0_dev2 c = (side c 1).val := by decide +kernel

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)

theorem part20_spec :
    iprop(recs X wv N ∗ BefP X wv c (i 0) (i 1))
      ⊢ WP c (k0_part20 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _))
        fun x => iprop(∃ v2 v14 v25, ⌜x = ⟨BitVec.ofNat 32 (i 0).val, BitVec.ofNat 32 (i 1).val, c, v2, v14, v25⟩⌝ ∗ recs X wv N ∗ Pre21 X wv c (i 0) (i 1) ∗ Bz c (i 0) (i 1)) := by
  rw [k0_part20_eq_skeleton]; unfold k0_part20_skel
  extract_lets
  refine wp_dev c ?_
  extract_lets
  refine wp_cond c (P' := iprop(recs X wv N ∗ Pre21 X wv c (i 0) (i 1) ∗ Bz c (i 0) (i 1))) (fun h => sep_mono .rfl (BefP_Pre' X wv c _ _ fun e => h ((cond1_iff i).2 e))) ?_ ?_
  rotate_left
  · intro hk h
    have h' := (cond1_iff i).1 h
    have e0 : BefP X wv c (i 0) (i 1) ⊢ Init X wv c := by unfold BefP; rw [if_pos h']
    have e1 : iprop(Bef X wv c 0 ∗ xB X c 0) ⊢ Pre21 X wv c (i 0) (i 1) := by
      have : ∀ (s : Fin 4) (t : Fin 8), s.val = 0 ∧ t.val = 0 → (iprop(Bef X wv c 0 ∗ xB X c 0) ⊢ Pre21 X wv c s t) := fun s t h => by
        obtain rfl : s = 0 := Fin.ext h.1
        unfold Pre21; rw [if_pos h.2]; exact .rfl
      exact this (i 0) (i 1) h'
    have e2 : (atPos ER (cell c 10) 1 ∅ 0 : sProp 𝕄) ⊢ Bz c (i 0) (i 1) := by unfold Bz; rw [if_pos h']
    refine (sep_mono .rfl e0).trans ?_
    simp only [semSignalWord, semWaitWord, Prog.lift, Prog.bind_op, Prog.bind_ret]
    unfold Init BarS
    iintro ⟨#Hr, HO, ⟨⟨Ht0, Hp0, Hr0⟩, Ht1, Hp1, Hr1⟩, ⟨Hat, Hc⟩, Hm, HOwn⟩
    iapply (wp_bar_signal X wv N c 0 (Fin.ext (devs_bar c).1)) $$ [HO Ht0 Hp0 Hr0]
    · isplitr; · iexact Hr
      isplitl [HO]; · iexact HO
      isplitl [Ht0]; · iexact Ht0
      isplitl [Hp0]; · iexact Hp0
      iexact Hr0
    iintro HO
    iapply (wp_bar_signal X wv N c 1 (Fin.ext (devs_bar c).2)) $$ [HO Ht1 Hp1 Hr1]
    · isplitr; · iexact Hr
      isplitl [HO]; · iexact HO
      isplitl [Ht1]; · iexact Ht1
      isplitl [Hp1]; · iexact Hp1
      iexact Hr1
    iintro HO
    iapply (wp_bar_wait X wv N c) $$ [HO Hat Hc]
    · isplitr; · iexact Hr
      isplitl [HO]; · iexact HO
      isplitl [Hat]; · iexact Hat
      iexact Hc
    iintro ⟨HO, Ha, Hb0, Hb1⟩
    icases (any_piece c) $$ Hm with ⟨%v, Hm⟩
    iapply (wp_load_piece c) $$ Hm
    iintro Hm
    icases (piece_any _ _ _ _) $$ Hm with Hm
    iapply (wp_store_piece c) $$ Hm
    iintro Hm
    iapply hk
    isplitr; · iexact Hr
    isplitr [Ha]
    rotate_left
    · iapply e2; iexact Ha
    iapply e1
    iapply (begin X wv c)
    isplitl [HO]; · iexact HO
    isplitl [Hb0]; · iexact Hb0
    isplitl [Hb1]; · iexact Hb1
    isplitr [HOwn]
    · unfold mword; iexact Hm
    iexact HOwn
  refine .trans ?_ (WP_ret c _)
  iintro ⟨Hr, H⟩
  iexists _; iexists _; iexists _
  isplitr; · ipureintro; rfl
  isplitl [Hr]; · iexact Hr
  iexact H

end Cert.KernelIdeal.Ring

end
-- ==== Proof.KernelIdeal.Body.lean ====
/-
  One point of the first call, from what is held before it to what is held after it.
-/
module

public import proofs.«01_k».proof.Proof.KernelIdeal.Start

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16) (N : Names)

abbrev R5 : Rect S1x1 := Rect.unit (s := S1x1) ![0, 0] S1x1.size inb_S1x1_S1x1_0_0

/-- After a point. -/
def AftP (c : Dev nD) (s : Fin 4) (t : Fin 8) : sProp 𝕄 := if s.val = 3 ∧ t.val = 7 then Done X wv c else Mid X wv c s (t.val + 1)
/-- The window of the scale after a point. -/
def Zw (m5 : Memref sig .tc .vmem S1x1 .f32) (c : Dev nD) (s : Fin 4) (t : Fin 8) : sProp 𝕄 :=
  if s.val = 3 ∧ t.val = 7 then piece m5 R5 c (scl X wv c) else pieceAny m5 R5 c

theorem Snd_end (c : Dev nD) (s : Fin 4) (t : Fin 8) : Snd X wv c s t 24 ⊢ Mid X wv c s (t.val + 1) := by
  unfold Snd
  by_cases h : 8 * s.val + t.val < 24
  · rw [if_pos h]
  · rw [if_neg h]
    obtain rfl : s = 3 := Fin.ext (by show s.val = 3; omega)
    unfold Cmp; rw [dif_neg (by decide), Mid_three]

omit [FloatOps F] in
theorem RR_done' (c : Dev nD) (st : Fin 3) (s : ℕ) (h : st.val < s) : (RR c st s : sProp 𝕄) ⊢ atPos ER (cell c (rrI st)) 1 ∅ 0 := by
  unfold RR; rw [if_pos h]

/-- What the last point ends from. -/
theorem fin_split (c : Dev nD) : MidR X wv c 8 ⊢ iprop(owesL c 30 ∗ KB c 3 ∗ mword X wv c 8 ∗ pieceAny aM aR c
    ∗ ((aPts X wv c 0 ∗ aPts X wv c 1 ∗ aPts X wv c 2) -∗ Send3 X wv c)
    ∗ ((owesL c 33 ∗ (atPos ER (cell c 5) 1 ∅ 0 ∗ atPos ER (cell c 6) 1 ∅ 0) ∗ (aPts X wv c 0 ∗ aPts X wv c 1 ∗ aPts X wv c 2)
        ∗ (gAny c 0 ∗ gAny c 1 ∗ gAny c 2) ∗ (atPos ER (cell c 7) 2 ∅ 0 ∗ kPts c 0 ∗ kPts c 1 ∗ mword X wv c 8)) -∗ Done X wv c)) := by
  unfold MidR OT Fix GG AM RRs xA xK Send3 Done near
  simp only [CrW, extra]
  rw [if_neg (by decide)]
  iintro ⟨⟨HO, -⟩, H1, ⟨⟨Hc8, Hk1, Hk3, Hg1, #Hop⟩, Hc9, Hk2, Hk4, -⟩, ⟨Hs1, Hs0, -⟩, ⟨⟨⟨-, -, #Hn⟩, -, -, #Hp⟩, HKB, ⟨Hg0, Hg2, -⟩, ⟨HA, H5, H5r, H6, H6c, Ht⟩, R0, R1, R2⟩, ⟨⟨H0, -, -, HxF⟩, Hv0, Hv1⟩, Hm⟩
  isplitl [HO]; · iexact HO
  isplitl [HKB]; · iexact HKB
  isplitl [Hm]; · iexact Hm
  isplitl [HA]; · iexact HA
  isplitl [Hg0 Hg1 Hg2 H5 H5r H6 H6c Ht]
  · iintro Ha
    isplitl [Ha]; · iexact Ha
    isplitl [Hg0 Hg1 Hg2]
    · isplitl [Hg0]; · iexact Hg0
      isplitl [Hg1]; · iexact Hg1
      iexact Hg2
    isplitl [H5 H5r H6 H6c Ht]
    · isplitl [H5]; · iexact H5
      isplitl [H5r]; · iexact H5r
      isplitl [H6]; · iexact H6
      isplitl [H6c]; · iexact H6c
      iexact Ht
    isplitr; · iexact Hn
    isplitr; · iexact Hop
    iexact Hp
  iintro ⟨HO, ⟨H5, H6⟩, Ha, Hg, H7, Hp0, Hp1, Hm⟩
  isplitl [HO]; · iexact HO
  isplitl [H0 H1 R0 R1 R2 H5 H6 H7 Hc8 Hc9]
  · isplitl [H0]; · iexact H0
    isplitl [H1]; · iexact H1
    isplitl [R0 R1 R2]
    · isplitl [R0]; · iapply (RR_done' c 0 3 (by decide)); iexact R0
      isplitl [R1]; · iapply (RR_done' c 1 3 (by decide)); iexact R1
      iapply (RR_done' c 2 3 (by decide)); iexact R2
    isplitl [H5]; · iexact H5
    isplitl [H6]; · iexact H6
    isplitl [H7]; · iexact H7
    isplitl [Hc8]; · iexact Hc8
    iexact Hc9
  isplitl [Hs0 Hs1]
  · isplitl [Hs0]
    · have e : (Finset.univ.filter fun tt : Fin 8 => tt.val < 8) = Finset.univ := by decide
      rw [← e]; iexact Hs0
    iexact Hs1
  isplitl [Hv0 Hv1]
  · isplitl [Hv0]
    · iapply (piece_any vM (vR 0) c _); iexact Hv0
    iapply (piece_any vM (vR 1) c _); iexact Hv1
  isplitl [Ha]; · iexact Ha
  isplitl [Hg]; · iexact Hg
  isplitl [Hp0 Hp1 Hk1 Hk2 Hk3 Hk4]
  · isplitl [Hp0]; · iexact Hp0
    isplitl [Hp1]; · iexact Hp1
    isplitl [Hk1]; · iexact Hk1
    isplitl [Hk2]; · iexact Hk2
    isplitl [Hk3]; · iexact Hk3
    iexact Hk4
  isplitl [Hm]
  · unfold mword; iapply (piece_any mM mR c _); iexact Hm
  iexact HxF

theorem cond34_iff : ∀ i : grid0.Coords, k0_cond34 i = 1#1 ↔ ((i 0).val = 3 ∧ (i 1).val = 7) := by decide +kernel
theorem conds_33 : ∀ i : grid0.Coords, k0_cond33 i = 1#1 ↔ ((i 0).val = 2 ∧ (i 1).val = 7) := by decide +kernel
theorem devs_33 : ∀ c : Dev nD, k0_dev30 c = (tow c 7).val := by decide +kernel

variable (c : Dev nD) (i : grid0.Coords)
variable (m3 : Memref sig .tc .vmem S1024x1024 .bf16) (h3 : m3.IsWhole) (m4 : Memref sig .tc .vmem S1024x1024 .f32) (h4 : m4.IsWhole) (m5 : Memref sig .tc .vmem S1x1 .f32) (h5 : m5.IsWhole)

theorem last_spec (v2 : BitVec 32) (h : k0_cond34 i = 1#1) {hl1 : gM.view.LoadsAt (gR 2).toLoadRect} {hl2 : m5.view.LoadsAt R5.toLoadRect}
    {hx : (m5.access R5).Stores Finset.univ} {hm : (Finset.univ : Finset R5.shape.Idx) = Finset.univ ∨ ∀ a, R5.stride a = 1}
    {K : (Σ' (v324 : F .f32), FVec F S8x128 .f32) → Prog (TpuEff nD τ sig (Elt F) Λ₀ .tc) PUnit}
    (hK : ∀ a b, K ⟨a, b⟩ = Prog.op (.load gM (gR 2).toLoadRect hl1) fun v332 => Prog.op (.load m5 R5.toLoadRect hl2) fun _ =>
            Prog.op (.store m5 R5 (k0_pay1 a b v332) Finset.univ hx hm) fun _ => Prog.ret ⟨⟩) {Q : PUnit → sProp 𝕄} :
    iprop(recs X wv N ∗ MidR X wv c 8 ∗ pieceAny m5 R5 c)
      ⊢ iprop(((Done X wv c ∗ piece m5 R5 c (scl X wv c)) -∗ Q ⟨⟩)
        -∗ WP c (k0_part16 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v2 >>= fun v217 => k0_part17 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) c v2 h >>= fun a => k0_part18 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v2 a >>= fun b => k0_part19 i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _) v2 v217 b >>= K) Q) := by
  simp only [WP_bind]
  iintro ⟨#Hr, HM, H5⟩ Hk
  icases (fin_split X wv c) $$ HM with ⟨HO, HKB, Hm, HA, HS, HD⟩
  iapply (part16_spec X wv N c i m3 h3 m4 h4 m5 h5 v2) $$ [HO HKB Hm HA]
  · isplitr; · iexact Hr
    isplitl [HO]; · iexact HO
    isplitl [HKB]; · iexact HKB
    isplitl [Hm]; · iexact Hm
    iexact HA
  iintro %w %hw ⟨HO, H7, Hp0, Hp1, Hm, HA⟩
  subst hw
  icases (block_split X wv c rfl) $$ HA with HA
  ihave HS := HS $$ HA
  iapply (part17_spec X wv N c i m3 h3 m4 h4 m5 h5 v2 h) $$ [HO HS]
  · isplitr; · iexact Hr
    isplitl [HO]; · iexact HO
    iexact HS
  iintro %a HW
  iapply (part18_spec X wv N c i m3 h3 m4 h4 m5 h5 v2 a) $$ HW
  iintro %b HW
  iapply (part19_spec X wv N c i m3 h3 m4 h4 m5 h5 v2 _ b) $$ HW
  iintro %z %hz ⟨HO, H56, HA, Hg0, Hg1, Hg2⟩
  subst hz
  rw [hK]
  iapply (wp_load_piece c) $$ Hg2
  iintro Hg2
  icases (any_piece c) $$ H5 with ⟨%v, H5⟩
  iapply (wp_load_piece c) $$ H5
  iintro H5
  icases (piece_any _ _ _ _) $$ H5 with H5
  iapply (wp_store_piece c) $$ H5
  iintro H5
  iapply (WP_ret c); iapply Hk
  isplitr [H5]
  · iapply HD
    isplitl [HO]; · iexact HO
    isplitl [H56]; · iexact H56
    isplitl [HA]; · iexact HA
    isplitl [Hg0 Hg1 Hg2]
    · isplitl [Hg0]; · iapply (piece_any gM (gR 0) c _); iexact Hg0
      isplitl [Hg1]; · iapply (piece_any gM (gR 1) c _); iexact Hg1
      iapply (piece_any gM (gR 2) c _); iexact Hg2
    isplitl [H7]; · iexact H7
    isplitl [Hp0]; · iexact Hp0
    isplitl [Hp1]; · iexact Hp1
    iexact Hm
  unfold scl; iexact H5

theorem WP_seq {α β : Type} {c : Dev nD} {p : Prog (TpuEff nD τ sig (Elt F) Λ₀ .tc) α} {k : α → Prog (TpuEff nD τ sig (Elt F) Λ₀ .tc) β}
    {P R : sProp 𝕄} (Q : α → sProp 𝕄) {Q' : β → sProp 𝕄} (h1 : P ⊢ WP c p Q) (h2 : ∀ a, iprop(Q a ∗ R) ⊢ WP c (k a) Q') : iprop(P ∗ R) ⊢ WP c (p >>= k) Q' := by
  rw [WP_bind]
  exact (WP_frame h1).trans (wp_mono _ _ _ h2)

theorem send_framed {α : Type} (c : Dev nD) (s : Fin 4) (t : Fin 8) (st : Fin 3) (tt : Fin 8) (hns : st = 0 ∨ tt.val % 4 ≠ 0)
    (hst' : s.val = st.val ∧ t.val = tt.val) {c' : Dev nD} (hc : c' = tow c tt)
    {src dst : Memref sig .tc .vmem S1024x1024 .bf16} (hsrc' : src = cT (sOf st) tt) (hdst' : dst = cT (dOf st) tt)
    {sm : SemLoc sig} (hsm : sm = osem (rrI st)) {hsc : dst.view.ref.isScScratch = false}
    {hsrc : src.view.WordExact} {hdst : dst.view.WordExact} {hsem : DmaTarget.Typed .vmem sm (.remote (Dev.tc c') dst (.dma rsS) hsc)}
    {n n' : ℕ} (hn : n = 8 * st.val + tt.val) (hn' : n' = n + 1)
    {k : Prog (TpuEff nD τ sig (Elt F) Λ₀ .tc) α} {R : sProp 𝕄} {Q : α → sProp 𝕄} (hk : iprop((recs X wv N ∗ Snd X wv c s t n') ∗ R) ⊢ WP c k Q) :
    iprop((recs X wv N ∗ Snd X wv c s t n) ∗ R)
      ⊢ WP c (Prog.lift (.enqueueDma src (.remote (Dev.tc c') dst (.dma rsS) hsc) sm hsrc hdst hsem) >>= fun _ => k) Q := by
  have key := wp_send_cond X wv N c s t st tt hns hst' hc hsrc' hdst' hsm (hsc := hsc) (hsrc := hsrc) (hdst := hdst) (hsem := hsem) hn hn'
    (k := Prog.ret PUnit.unit) (Q := fun _ => iprop(recs X wv N ∗ Snd X wv c s t n')) (WP_ret c _)
  exact WP_seq _ key fun _ => hk

omit [FloatOps F] in
theorem pure_sep {φ : Prop} {P Q : sProp 𝕄} (h : φ → (P ⊢ Q)) : iprop(⌜φ⌝ ∗ P) ⊢ Q := by
  iintro ⟨%hp, H⟩; iapply (h hp); iexact H

theorem body_spec :
    iprop((recs X wv N ∗ BefP X wv c (i 0) (i 1)) ∗ piece m3 wR c (wv c (i 1)) ∗ pieceAny m4 wR c ∗ pieceAny m5 R5 c)
      ⊢ WP c (cc0_body i xM (Memref.isWhole_whole _) m3 h3 m4 h4 m5 h5 cM (Memref.isWhole_whole _) vM (Memref.isWhole_whole _) aM (Memref.isWhole_whole _) gM (Memref.isWhole_whole _) kM (Memref.isWhole_whole _) cc0_scratch5 cc0_scratch6 cc0_scratch7 cc0_scratch8 cc0_scratch9 cc0_scratch10 cc0_scratch11 mM (Memref.isWhole_whole _)) fun _ => iprop(recs X wv N ∗ AftP X wv c (i 0) (i 1) ∗ piece m3 wR c (wv c (i 1)) ∗ Yw X wv m4 c (i 0) (i 1) ∗ Zw X wv m5 c (i 0) (i 1) ∗ Bz c (i 0) (i 1)) := by
  rw [cc0_body_eq_skeleton]; unfold cc0_body_skel
  refine WP_seq _ (part20_spec X wv N c i m3 h3 m4 h4 m5 h5) fun x => ?_
  refine BIBase.Entails.trans (Q := iprop(∃ v2 v14 v25, ⌜x = ⟨BitVec.ofNat 32 (i 0).val, BitVec.ofNat 32 (i 1).val, c, v2, v14, v25⟩⌝
      ∗ ((recs X wv N ∗ Pre21 X wv c (i 0) (i 1) ∗ piece m3 wR c (wv c (i 1))) ∗ pieceAny m4 wR c ∗ pieceAny m5 R5 c) ∗ Bz c (i 0) (i 1))) ?_ ?_
  · iintro ⟨⟨%v2, %v14, %v25, %hx, Hr, HP, HB⟩, H3, H4, H5⟩
    iexists v2; iexists v14; iexists v25
    isplitr; · ipureintro; exact hx
    isplitr [HB]
    rotate_left
    · iexact HB
    isplitl [Hr HP H3]
    · isplitl [Hr]; · iexact Hr
      isplitl [HP]; · iexact HP
      iexact H3
    isplitl [H4]; · iexact H4
    iexact H5
  refine sProp.exists_elim fun v2 => sProp.exists_elim fun v14 => sProp.exists_elim fun v25 => pure_sep fun hx => ?_
  subst hx
  have e11 : iprop((recs X wv N ∗ AftP X wv c (i 0) (i 1) ∗ piece m3 wR c (wv c (i 1)) ∗ Yw X wv m4 c (i 0) (i 1) ∗ Zw X wv m5 c (i 0) (i 1)) ∗ Bz c (i 0) (i 1))
      ⊢ iprop(recs X wv N ∗ AftP X wv c (i 0) (i 1) ∗ piece m3 wR c (wv c (i 1)) ∗ Yw X wv m4 c (i 0) (i 1) ∗ Zw X wv m5 c (i 0) (i 1) ∗ Bz c (i 0) (i 1)) := by
    iintro ⟨⟨H1, H2, H3, H4, H5⟩, HB⟩
    isplitl [H1]; · iexact H1
    isplitl [H2]; · iexact H2
    isplitl [H3]; · iexact H3
    isplitl [H4]; · iexact H4
    isplitl [H5] <;> iassumption
  refine BIBase.Entails.trans (WP_frame (Q := fun _ => iprop(recs X wv N ∗ AftP X wv c (i 0) (i 1) ∗ piece m3 wR c (wv c (i 1)) ∗ Yw X wv m4 c (i 0) (i 1) ∗ Zw X wv m5 c (i 0) (i 1))) ?_)
    (wp_mono _ _ _ fun _ => e11)
  refine WP_seq _ (part21_spec X wv N c i m3 h3 m4 h4 m5 h5 v2 v14 v25) fun x => ?_
  refine BIBase.Entails.trans (Q := iprop(⌜x = ⟨xs X c (i 0) (i 1), wv c (i 1)⟩⌝
      ∗ (recs X wv N ∗ Mid X wv c (i 0) (i 1).val ∗ pieceAny m4 wR c) ∗ piece m3 wR c (wv c (i 1)) ∗ pieceAny m5 R5 c)) ?_ ?_
  · iintro ⟨⟨%hx, Hr, HP, H3⟩, H4, H5⟩
    isplitr; · ipureintro; exact hx
    isplitl [Hr HP H4]
    · isplitl [Hr]; · iexact Hr
      isplitl [HP]; · iexact HP
      iexact H4
    isplitl [H3]; · iexact H3
    iexact H5
  refine pure_sep fun hx => ?_
  subst hx
  refine WP_seq _ (part22_spec X wv N c i m3 h3 m4 h4 m5 h5 _ _ v25) fun v102 => ?_
  refine BI.sep_assoc.trans ?_
  refine WP_seq _ (part23_spec X wv N c i m3 h3 m4 h4 m5 h5 _ _ v14 v25 v102) fun x => ?_
  obtain ⟨v134, c2⟩ := x
  refine WP_seq _ (part24_spec X wv N c i m3 h3 m4 h4 m5 h5 _ _ v14 v25 c2 v134) fun x => ?_
  refine WP_seq _ (part25_spec X wv N c i m3 h3 m4 h4 m5 h5 _ _ v14 v25) fun v202 => ?_
  extract_lets
  have e9 : iprop((recs X wv N ∗ Snd X wv c (i 0) (i 1) 24) ∗ Yw X wv m4 c (i 0) (i 1) ∗ piece m3 wR c (wv c (i 1)) ∗ pieceAny m5 R5 c)
      ⊢ iprop((recs X wv N ∗ Mid X wv c (i 0) ((i 1).val + 1) ∗ pieceAny m5 R5 c) ∗ piece m3 wR c (wv c (i 1)) ∗ Yw X wv m4 c (i 0) (i 1)) := by
    iintro ⟨⟨Hr, HS⟩, HY, H3, H5⟩
    isplitl [Hr HS H5]
    · isplitl [Hr]; · iexact Hr
      isplitl [HS]; · iapply (Snd_end X wv c (i 0) (i 1)); iexact HS
      iexact H5
    isplitl [H3]; · iexact H3
    iexact HY
  have e10 : iprop((recs X wv N ∗ AftP X wv c (i 0) (i 1) ∗ Zw X wv m5 c (i 0) (i 1)) ∗ piece m3 wR c (wv c (i 1)) ∗ Yw X wv m4 c (i 0) (i 1))
      ⊢ iprop(recs X wv N ∗ AftP X wv c (i 0) (i 1) ∗ piece m3 wR c (wv c (i 1)) ∗ Yw X wv m4 c (i 0) (i 1) ∗ Zw X wv m5 c (i 0) (i 1)) := by
    iintro ⟨⟨Hr, HS, H5⟩, H3, HY⟩
    isplitl [Hr]; · iexact Hr
    isplitl [HS]; · iexact HS
    isplitl [H3]; · iexact H3
    isplitl [HY]; · iexact HY
    iexact H5
  refine wp_cond c (P' := iprop((recs X wv N ∗ Snd X wv c (i 0) (i 1) 24) ∗ Yw X wv m4 c (i 0) (i 1) ∗ piece m3 wR c (wv c (i 1)) ∗ pieceAny m5 R5 c))
    (fun h => sep_mono (Snd_none X wv N c _ _ 2 7 (conds_33 i) rfl rfl h) .rfl) ?_ ?_
  rotate_left
  · exact fun hk h => send_framed X wv N c _ _ 2 7 (.inr (by decide)) ((conds_33 i).1 h) (Fin.ext (devs_33 c)) (by rfl) (by rfl) (by rfl) (by rfl) (by rfl) hk
  refine e9.trans ?_
  refine BIBase.Entails.trans (WP_frame (Q := fun _ => iprop(recs X wv N ∗ AftP X wv c (i 0) (i 1) ∗ Zw X wv m5 c (i 0) (i 1))) ?_) (wp_mono _ _ _ fun _ => e10)
  have eN : ∀ h : ¬ ((i 0).val = 3 ∧ (i 1).val = 7), iprop(Mid X wv c (i 0) ((i 1).val + 1) ∗ pieceAny m5 R5 c) ⊢ iprop(AftP X wv c (i 0) (i 1) ∗ Zw X wv m5 c (i 0) (i 1)) := fun h => by
    unfold AftP Zw; rw [if_neg h, if_neg h]
  refine wp_cond c (fun h => sep_mono .rfl (eN fun e => h ((cond34_iff i).2 e))) ?_ ?_
  · exact WP_ret c _
  · intro hk h
    obtain ⟨h1, h2⟩ := (cond34_iff i).1 h
    have e1 : iprop(Mid X wv c (i 0) ((i 1).val + 1)) ⊢ MidR X wv c 8 := by
      rw [show i 0 = (3 : Fin 4) from Fin.ext h1, Mid_three, h2]
    have e2 : iprop(Done X wv c ∗ piece m5 R5 c (scl X wv c)) ⊢ iprop(AftP X wv c (i 0) (i 1) ∗ Zw X wv m5 c (i 0) (i 1)) := by
      unfold AftP Zw; rw [if_pos ⟨h1, h2⟩, if_pos ⟨h1, h2⟩]
    iintro ⟨#Hr, HM, H5⟩
    iapply (last_spec X wv N c i m3 h3 m4 h4 m5 h5 v2 h (fun a b => rfl)) $$ [HM H5]
    · isplitr; · iexact Hr
      isplitl [HM]; · iapply e1; iexact HM
      iexact H5
    iintro HD
    isplitr; · iexact Hr
    iapply e2; iexact HD

end Cert.KernelIdeal.Ring

end
-- ==== Proof.KernelIdeal.Split.lean ====
/-
  The scratch buffers, whole and by slot.
-/
module

public import proofs.«01_k».proof.Proof.KernelIdeal.Body

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16)

/-- A buffer of the core, whole at some contents. -/
abbrev wholeAny (c : Dev nD) (b : Ref sig .tc) : sProp 𝕄 :=
  iprop(∃ f : Buf (Elt F) ((c : Thread nD τ).loc b), ((c : Thread nD τ).loc b) ↦{fullShare} f)

section
variable (c : Dev nD) (b : Ref sig .tc) {B : Type} [Fintype B] [DecidableEq B] (R : B → Rect b.ty.shape)

omit [FloatOps F] in
/-- A buffer whole is its rectangles one by one, where these are disjoint and cover it. -/
theorem whole_split (hd : ∀ i j, i ≠ j → Disjoint (R i).set (R j).set) (hc : Finset.univ.biUnion (fun i => (R i).set) = Finset.univ) :
    (wholeAny (F := F) c b : sProp 𝕄) ⊢ bigSep Finset.univ (fun i => pieceAny (Memref.whole b) (R i) c) := by
  have hs : ∀ f i, ((((c : Thread nD τ).loc b) ↦[(R i).set]{fullShare} f) : sProp 𝕄) ⊢ iprop(∃ f : Buf (Elt F) ((c : Thread nD τ).loc b), ((c : Thread nD τ).loc b) ↦[(R i).set]{fullShare} f) := fun f i => by
    iintro H; iexists f; iexact H
  have hs' : ∀ i, iprop(∃ f : Buf (Elt F) ((c : Thread nD τ).loc b), ((c : Thread nD τ).loc b) ↦[(R i).set]{fullShare} f) ⊢ (pieceAny (Memref.whole b) (R i) c : sProp 𝕄) := fun i => by
    unfold pieceAny
    rw [show ((Memref.whole b).access (R i)).set = (R i).set from View.set_slice_whole b (R i)]
  refine sProp.exists_elim fun f => ?_
  exact (Entails.of_eq (Idealize.ShloMosaic.Ring.pointsTo_blocks (ℓ := (c : Thread nD τ).loc b) (q := fullShare) (fun i => (R i).set) hd hc f)).trans (bigSep_mono fun i _ => (hs f i).trans (hs' i))

omit [FloatOps F] in
theorem whole_join [∀ e, Nonempty (Elt F e)] (hd : ∀ i j, i ≠ j → Disjoint (R i).set (R j).set) (hc : Finset.univ.biUnion (fun i => (R i).set) = Finset.univ) :
    bigSep Finset.univ (fun i => pieceAny (Memref.whole b) (R i) c) ⊢ (wholeAny (F := F) c b : sProp 𝕄) := by
  have hs : ∀ i, (pieceAny (Memref.whole b) (R i) c : sProp 𝕄) ⊢ iprop(∃ f : Buf (Elt F) ((c : Thread nD τ).loc b), ((c : Thread nD τ).loc b) ↦[(R i).set]{fullShare} f) := fun i => by
    unfold pieceAny
    rw [show ((Memref.whole b).access (R i)).set = (R i).set from View.set_slice_whole b (R i)]
  refine (bigSep_mono fun i _ => hs i).trans ?_
  exact Idealize.ShloMosaic.Ring.pointsTo_blocks_join_exists (ℓ := (c : Thread nD τ).loc b) (fun i => (R i).set) hd hc (fun _ => Classical.arbitrary _)
end

/-! ## The travelling buffer -/

theorem cR_disjoint : ∀ i j : Fin 2 × Fin 8, i ≠ j → Disjoint (cR i.1 i.2).set (cR j.1 j.2).set := by
  intro i j h
  rw [Finset.disjoint_left]
  intro k hi hj
  have h0 := Rect.mem_set_unit.mp hi; have h0' := Rect.mem_set_unit.mp hj
  apply h
  have a0 := h0 0; have a1 := h0 1; have b0 := h0' 0; have b1 := h0' 1
  simp only [Matrix.cons_val_zero, Matrix.cons_val_one, S1x1x1024x1024] at a0 a1 b0 b1
  have e1 : i.1 = j.1 := by
    apply Fin.ext
    have : i.1.val ≤ (k 0).val ∧ (k 0).val < i.1.val + 1 := a0
    have : j.1.val ≤ (k 0).val ∧ (k 0).val < j.1.val + 1 := b0
    omega
  have e2 : i.2 = j.2 := by
    apply Fin.ext
    have : i.2.val ≤ (k 1).val ∧ (k 1).val < i.2.val + 1 := a1
    have : j.2.val ≤ (k 1).val ∧ (k 1).val < j.2.val + 1 := b1
    omega
  exact Prod.ext e1 e2
theorem cR_cover : Finset.univ.biUnion (fun i : Fin 2 × Fin 8 => (cR i.1 i.2).set) = Finset.univ := by
  ext k
  simp only [Finset.mem_biUnion, Finset.mem_univ, true_and, iff_true]
  refine ⟨(⟨(k 0).val, (k 0).isLt⟩, ⟨(k 1).val, (k 1).isLt⟩), Rect.mem_set_unit.mpr fun a => ?_⟩
  have h := (k a).isLt
  fin_cases a
  · exact ⟨le_rfl, Nat.lt_succ_self _⟩
  · exact ⟨le_rfl, Nat.lt_succ_self _⟩
  · exact ⟨Nat.zero_le _, by simpa using h⟩
  · exact ⟨Nat.zero_le _, by simpa using h⟩

theorem k_off (n : ℕ) : ∀ a : Fin 3, a ≠ 0 → (![n, 0, 0] : Fin 3 → ℕ) a = 0 := fun a h => by fin_cases a; exacts [absurd rfl h, rfl, rfl]

theorem vR_disjoint (i j : Fin 2) (h : i ≠ j) : Disjoint (vR i).set (vR j).set :=
  Idealize.ShloMosaic.Ring.lead_disjoint (s := S2x1024x1024) 0 1 (fun i : Fin 2 => ![i.val, 0, 0]) S1x1024x1024.size vR_inb (fun i => (Nat.one_mul _).symm) rfl i j h
theorem vR_cover : Finset.univ.biUnion (fun i : Fin 2 => (vR i).set) = Finset.univ :=
  Idealize.ShloMosaic.Ring.lead_cover (s := S2x1024x1024) 0 1 (fun i : Fin 2 => ![i.val, 0, 0]) S1x1024x1024.size vR_inb (fun i => (Nat.one_mul _).symm) (fun i a h => k_off _ a h) rfl (by decide) rfl
theorem gR_disjoint (i j : Fin 3) (h : i ≠ j) : Disjoint (gR i).set (gR j).set :=
  Idealize.ShloMosaic.Ring.lead_disjoint (s := S3x8x128) 0 1 (fun i : Fin 3 => ![i.val, 0, 0]) S1x8x128.size gR_inb (fun i => (Nat.one_mul _).symm) rfl i j h
theorem gR_cover : Finset.univ.biUnion (fun i : Fin 3 => (gR i).set) = Finset.univ :=
  Idealize.ShloMosaic.Ring.lead_cover (s := S3x8x128) 0 1 (fun i : Fin 3 => ![i.val, 0, 0]) S1x8x128.size gR_inb (fun i => (Nat.one_mul _).symm) (fun i a h => k_off _ a h) rfl (by decide) rfl
theorem kR_disjoint (i j : Fin 5) (h : i ≠ j) : Disjoint (kR i).set (kR j).set :=
  Idealize.ShloMosaic.Ring.lead_disjoint (s := S5x8x128) 0 1 (fun i : Fin 5 => ![i.val, 0, 0]) S1x8x128.size kR_inb (fun i => (Nat.one_mul _).symm) rfl i j h
theorem kR_cover : Finset.univ.biUnion (fun i : Fin 5 => (kR i).set) = Finset.univ :=
  Idealize.ShloMosaic.Ring.lead_cover (s := S5x8x128) 0 1 (fun i : Fin 5 => ![i.val, 0, 0]) S1x8x128.size kR_inb (fun i => (Nat.one_mul _).symm) (fun i a h => k_off _ a h) rfl (by decide) rfl

/-! ## The credits' source in two shares -/

omit [FloatOps F] in
theorem kPts_split (c : Dev nD) : (kAny (F := F) c 0 : sProp 𝕄) ⊢ iprop(kPts c 0 ∗ kPts c 1) := by
  unfold kAny pieceAny kPts
  iintro ⟨%f, H⟩
  have hs : (kT 0).view.set = (kM.access (kR 0)).set := View.set_reshape _ _
  have e : (((kM.access (kR 0)).loc (c : Thread nD τ) ↦[(kM.access (kR 0)).set]{fullShare} f) : sProp 𝕄)
      ⊣⊢ iprop(((kT 0).view.loc (c : Thread nD τ) ↦[(kT 0).view.set]{lr 0} f) ∗ ((kT 0).view.loc (c : Thread nD τ) ↦[(kT 0).view.set]{lr 1} f)) := by
    rw [hs]
    exact pointsTo_share (PosShare.mem_left_op_right fullShare)
  icases e.1 $$ H with ⟨H0, H1⟩
  isplitl [H0]
  · iexists f; iexact H0
  · iexists f; iexact H1
omit [FloatOps F] in
theorem kPts_join (c : Dev nD) : iprop(kPts c 0 ∗ kPts c 1) ⊢ (kAny (F := F) c 0 : sProp 𝕄) := by
  unfold kAny pieceAny kPts
  iintro ⟨⟨%f, H0⟩, ⟨%g, H1⟩⟩
  have hs : (kT 0).view.set = (kM.access (kR 0)).set := View.set_reshape _ _
  have e : (((kM.access (kR 0)).loc (c : Thread nD τ) ↦[(kM.access (kR 0)).set]{fullShare} f) : sProp 𝕄)
      ⊣⊢ iprop(((kT 0).view.loc (c : Thread nD τ) ↦[(kT 0).view.set]{lr 0} f) ∗ ((kT 0).view.loc (c : Thread nD τ) ↦[(kT 0).view.set]{lr 1} f)) := by
    rw [hs]
    exact pointsTo_share (PosShare.mem_left_op_right fullShare)
  icombine H0 H1 gives %hag
  have hg : (((kT 0).view.loc (c : Thread nD τ) ↦[(kT 0).view.set]{lr 1} g) : sProp 𝕄) = ((kT 0).view.loc (c : Thread nD τ) ↦[(kT 0).view.set]{lr 1} f) :=
    pointsTo_congr fun i hi => ((hag i (Finset.mem_inter.mpr ⟨hi, hi⟩)).1).symm
  iexists f
  iapply e.2
  isplitl [H0]; · iexact H0
  iapply (Entails.of_eq hg); iexact H1

/-! ## The buffers of the first call, from the whole and back -/

/-- The scratch buffers by slot. -/
def slots (c : Dev nD) : sProp 𝕄 :=
  iprop((bigSep Finset.univ (fun t : Fin 8 => slotAny c 0 t) ∗ bigSep Finset.univ (fun t : Fin 8 => slotAny c 1 t))
    ∗ (pieceAny vM (vR 0) c ∗ pieceAny vM (vR 1) c) ∗ pieceAny aM aR c ∗ (gAny c 0 ∗ gAny c 1 ∗ gAny c 2)
    ∗ (kPts c 0 ∗ kPts c 1 ∗ kAny c 1 ∗ kAny c 2 ∗ kAny c 3 ∗ kAny c 4) ∗ pieceAny mM mR c)

omit [FloatOps F] in
theorem bigSep_5 {Φ : Fin 5 → sProp 𝕄} : bigSep Finset.univ Φ = iprop(Φ 0 ∗ Φ 1 ∗ Φ 2 ∗ Φ 3 ∗ Φ 4) :=
  bigSep_univ_eq_bigSepL [(0 : Fin 5), 1, 2, 3, 4] (by decide) (by decide) Φ
omit [FloatOps F] in
theorem bigSep_3 {Φ : Fin 3 → sProp 𝕄} : bigSep Finset.univ Φ = iprop(Φ 0 ∗ Φ 1 ∗ Φ 2) :=
  bigSep_univ_eq_bigSepL [(0 : Fin 3), 1, 2] (by decide) (by decide) Φ

omit [FloatOps F] in
theorem aAny_owns (c : Dev nD) : (pieceAny aM aR c : sProp 𝕄) ⊣⊢ wholeAny (F := F) c cc0_scratch2 := by
  have h := pieceAny_owns (F := F) aM off2_zero inb_S8x128_S8x128_0_0 c
  constructor
  · refine h.1.trans ?_
    iintro ⟨%v, H⟩
    iexists v; rw [← owns_whole]; iexact H
  · refine .trans ?_ h.2
    iintro ⟨%v, H⟩
    iexists v; rw [owns_whole]; iexact H
omit [FloatOps F] in
theorem mAny_owns (c : Dev nD) : (pieceAny mM mR c : sProp 𝕄) ⊣⊢ wholeAny (F := F) c cc0_scratch12 := by
  have h := pieceAny_owns (F := F) mM off1_zero inb_S1_S1_0 c
  constructor
  · refine h.1.trans ?_
    iintro ⟨%v, H⟩
    iexists v; rw [← owns_whole]; iexact H
  · refine .trans ?_ h.2
    iintro ⟨%v, H⟩
    iexists v; rw [owns_whole]; iexact H

omit [FloatOps F] in
theorem c_pairs (c : Dev nD) : bigSep Finset.univ (fun i : Fin 2 × Fin 8 => pieceAny (F := F) cM (cR i.1 i.2) c)
    = iprop(bigSep Finset.univ (fun t : Fin 8 => slotAny c 0 t) ∗ bigSep Finset.univ (fun t : Fin 8 => slotAny c 1 t)) := by
  rw [bigSep_univ_prod, BI.bigSep_fin_two]; rfl

theorem slots_split (c : Dev nD) : iprop(wholeAny c cc0_scratch0 ∗ wholeAny c cc0_scratch1 ∗ wholeAny c cc0_scratch2 ∗ wholeAny c cc0_scratch3 ∗ wholeAny c cc0_scratch4 ∗ wholeAny c cc0_scratch12)
    ⊢ (slots (F := F) c : sProp 𝕄) := by
  have hc := (whole_split (F := F) c cc0_scratch0 (fun i : Fin 2 × Fin 8 => cR i.1 i.2) cR_disjoint cR_cover).trans (Entails.of_eq (c_pairs c))
  have hv := (whole_split (F := F) c cc0_scratch1 vR vR_disjoint vR_cover).trans (Entails.of_eq (BI.bigSep_fin_two _))
  have hg := (whole_split (F := F) c cc0_scratch3 gR gR_disjoint gR_cover).trans (Entails.of_eq bigSep_3)
  have hk := (whole_split (F := F) c cc0_scratch4 kR kR_disjoint kR_cover).trans (Entails.of_eq bigSep_5)
  unfold slots
  iintro ⟨H0, H1, H2, H3, H4, H5⟩
  isplitl [H0]; · iapply hc; iexact H0
  isplitl [H1]; · iapply hv; iexact H1
  isplitl [H2]; · iapply (aAny_owns c).2; iexact H2
  isplitl [H3]; · iapply hg; iexact H3
  isplitr [H5]
  · icases hk $$ H4 with ⟨K0, K1, K2, K3, K4⟩
    icases (kPts_split c) $$ K0 with ⟨P0, P1⟩
    isplitl [P0]; · iexact P0
    isplitl [P1]; · iexact P1
    isplitl [K1]; · iexact K1
    isplitl [K2]; · iexact K2
    isplitl [K3]; · iexact K3
    iexact K4
  iapply (mAny_owns c).2; iexact H5

theorem slots_join [∀ e, Nonempty (Elt F e)] (c : Dev nD) : (slots (F := F) c : sProp 𝕄)
    ⊢ iprop(wholeAny c cc0_scratch0 ∗ wholeAny c cc0_scratch1 ∗ wholeAny c cc0_scratch2 ∗ wholeAny c cc0_scratch3 ∗ wholeAny c cc0_scratch4 ∗ wholeAny c cc0_scratch12) := by
  have hc := (Entails.of_eq (c_pairs c).symm).trans (whole_join (F := F) c cc0_scratch0 (fun i : Fin 2 × Fin 8 => cR i.1 i.2) cR_disjoint cR_cover)
  have hv := (Entails.of_eq (BI.bigSep_fin_two _).symm).trans (whole_join (F := F) c cc0_scratch1 vR vR_disjoint vR_cover)
  have hg := (Entails.of_eq bigSep_3.symm).trans (whole_join (F := F) c cc0_scratch3 gR gR_disjoint gR_cover)
  have hk := (Entails.of_eq bigSep_5.symm).trans (whole_join (F := F) c cc0_scratch4 kR kR_disjoint kR_cover)
  unfold slots
  iintro ⟨H0, H1, H2, H3, ⟨P0, P1, K1, K2, K3, K4⟩, H5⟩
  isplitl [H0]; · iapply hc; iexact H0
  isplitl [H1]; · iapply hv; iexact H1
  isplitl [H2]; · iapply (aAny_owns c).1; iexact H2
  isplitl [H3]; · iapply hg; iexact H3
  isplitr [H5]
  · iapply hk
    isplitl [P0 P1]
    · iapply (kPts_join c); isplitl [P0] <;> iassumption
    isplitl [K1]; · iexact K1
    isplitl [K2]; · iexact K2
    isplitl [K3]; · iexact K3
    iexact K4
  iapply (mAny_owns c).1; iexact H5

/-- The maximum's block, from its three shares. -/
theorem a_join (c : Dev nD) : iprop(aPts X wv c 0 ∗ aPts X wv c 1 ∗ aPts X wv c 2) ⊢ pieceAny aM aR c := by
  have h := (owns_thirds c cc0_scratch2 (av X wv c)).2
  have h2 : (owns (c : Thread nD τ) aM fullShare (av X wv c) : sProp 𝕄) ⊢ pieceAny aM aR c := by
    refine .trans ?_ (pieceAny_owns (F := F) aM off2_zero inb_S8x128_S8x128_0_0 c).2
    iintro H; iexists _; iexact H
  exact .trans (show _ ⊢ _ from by unfold aPts; exact .rfl) (h.trans h2)

end Cert.KernelIdeal.Ring

end
-- ==== Proof.KernelIdeal.Open.lean ====
/-
  Before the first point and after the last: a device's cells are opened, what the launch dealt it makes the state the
  first point starts from; and the state the last point leaves closes the cells again.
-/
module

public import proofs.«01_k».proof.Proof.KernelIdeal.Body
public import proofs.«01_k».proof.Proof.KernelIdeal.Split

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (X : Dev nD → (main_v1 : Ref sig .tc).ty.Contents (Elt F)) (wv : Dev nD → Fin 8 → Vec F S1024x1024 .bf16)
variable (N : Names)

/-! ## The scoped cells -/

/-- The semaphores of the first call's own. -/
def own0 (k : Fin 10) : SemLoc sig := osem k.castSucc

omit [FloatOps F] in
theorem bigSep_10 {Φ : Fin 10 → sProp 𝕄} : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ
omit [FloatOps F] in
theorem bigSep_2 {Φ : Fin 2 → sProp 𝕄} : bigSep Finset.univ Φ = iprop(Φ 0 ∗ Φ 1) :=
  bigSep_univ_eq_bigSepL [(0 : Fin 2), 1] (by decide) (by decide) Φ

/-- Those cells opened. -/
def opened (c : Dev nD) : sProp 𝕄 :=
  bigSep Finset.univ fun k : Fin 10 => iprop(atPos ER (cell c k.castSucc) 0 ∅ 0 ∗ reached ER (cell c k.castSucc) 0)

theorem open_one (c : Dev nD) (k : Fin 10) : iprop(recs X wv N ∗ (openTok ER (cell c k.castSucc) ∗ semVal ((c : Thread nD τ), own0 k) 0))
    ⊢ (|={Set.univ}=> iprop(atPos ER (cell c k.castSucc) 0 ∅ 0 ∗ reached ER (cell c k.castSucc) 0) : sProp 𝕄) := by
  iintro ⟨HR, Ho, Hv⟩
  ihave HC := (recs_cell X wv N c k.castSucc) $$ HR
  ihave H := (Rounds.cell_open ER (Rd X wv) (g := cell c k.castSucc) (Set.mem_univ (N.K c k.castSucc))) $$ [HC Ho Hv]
  · isplitl [HC]; · iexact HC
    isplitl [Ho]; · iexact Ho
    iexact Hv
  iexact H

theorem open_all (c : Dev nD) :
    iprop(recs X wv N ∗ bigSep Finset.univ (fun k : Fin 10 => (openTok ER (cell c k.castSucc) : sProp 𝕄)) ∗ Pipeline.ownSems0 own0 c)
    ⊢ (|={Set.univ}=> opened c : sProp 𝕄) := by
  unfold Pipeline.ownSems0 opened
  rw [← bigSep_sep']
  refine (bigSep_with_persistent (R := recs X wv N) fun k _ => ?_).trans (BI.bigSep_fupd _ _)
  exact open_one X wv N c k

/-- The rounds a device's own cells end in. -/
def lastR (k : Fin 11) : ℕ := nr (kdN k)

theorem close_one (c : Dev nD) (k : Fin 11) : iprop(recs X wv N ∗ atPos ER (cell c k) (lastR k) ∅ 0)
    ⊢ (|={Set.univ}=> semVal (cell c k) 0 : sProp 𝕄) := by
  iintro ⟨HR, Hat⟩
  ihave HC := (recs_cell X wv N c k) $$ HR
  ihave H := (Rounds.cell_close ER (Rd X wv) (g := cell c k) (Set.mem_univ (N.K c k)) (fun h => h) (duties_none X wv c k)) $$ [HC Hat]
  · isplitl [HC]; · iexact HC
    iexact Hat
  iexact H

theorem close_all (c : Dev nD) : iprop(recs X wv N ∗ bigSep Finset.univ (fun k : Fin 10 => (atPos ER (cell c k.castSucc) (lastR k.castSucc) ∅ 0 : sProp 𝕄)))
    ⊢ (|={Set.univ}=> Pipeline.ownSems0 own0 c : sProp 𝕄) := by
  unfold Pipeline.ownSems0
  refine (bigSep_with_persistent (R := recs X wv N) fun k _ => ?_).trans (BI.bigSep_fupd _ _)
  exact close_one X wv N c k.castSucc

/-! ## After the last point -/

/-- The first call is over on device `c`: its cells at zero, its buffers whole, nothing owed. -/
def Closed (c : Dev nD) : sProp 𝕄 :=
  iprop(semVal (cell c 10) 0 ∗ Pipeline.ownSems0 own0 c ∗ slots c ∗ xF X c)

theorem closing (c : Dev nD) : iprop(recs X wv N ∗ Done X wv c ∗ atPos ER (cell c 10) 1 ∅ 0)
    ⊢ (|={Set.univ}=> (owesL c 33 ∗ Closed X c) : sProp 𝕄) := by
  unfold Done Closed slots
  iintro ⟨#HR, ⟨HO, ⟨H0, H1, ⟨H2, H3, H4⟩, H5, H6, H7, H8, H9⟩, HC, HV, HA, HG, HK, HM, HX⟩, Hb⟩
  imod (close_one X wv N c 10) $$ [Hb] with Hb
  · isplitr; · iexact HR
    iexact Hb
  imod (close_all X wv N c) $$ [H0 H1 H2 H3 H4 H5 H6 H7 H8 H9] with Hs
  · isplitr; · iexact HR
    iapply (Entails.of_eq (bigSep_10 (Φ := fun k : Fin 10 => (atPos ER (cell c k.castSucc) (lastR k.castSucc) ∅ 0 : sProp 𝕄))).symm)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  imodintro
  isplitl [HO]; · iexact HO
  isplitl [Hb]; · iexact Hb
  isplitl [Hs]; · iexact Hs
  isplitr [HX]; rotate_left; · iexact HX
  isplitl [HC]; · iexact HC
  isplitl [HV]; · iexact HV
  isplitl [HA]; · iapply (a_join X wv c); iexact HA
  isplitl [HG]; · iexact HG
  isplitl [HK]; · iexact HK
  iexact HM

/-! ## Before the first point -/

/-- The tokens device `c` pays or marks with. -/
def Toks (c : Dev nD) : sProp 𝕄 :=
  iprop((dutyTok ER (cell (side c 0) 10) 0 (0 : D) ∗ dutyTok ER (cell (side c 1) 10) 0 (1 : D))
    ∗ bigSep (tl 2) (stok c) ∗ bigSep (fe 0) (fun p => dutyTok ER (cell c 0) p.1.val (⟨p.2.val, by omega⟩ : D))
    ∗ ((dutyTok ER (cell c 7) 0 (0 : D) ∗ dutyTok ER (cell c 7) 0 (1 : D)) ∗ (dutyTok ER (cell c 7) 1 (0 : D) ∗ dutyTok ER (cell c 7) 1 (1 : D)))
    ∗ ((mark c 0 2 ∗ mark c 0 3) ∗ (mark c 1 2 ∗ mark c 1 3)) ∗ (mark (side c 0) 0 0 ∗ mark (side c 1) 1 0)
    ∗ bigSep Finset.univ (fun o : Fin 3 => iprop(dutyTok ER (cell c 5) 0 (⟨o.val, by omega⟩ : D) ∗ dutyTok ER (cell (gtow c o) 6) 0 (⟨o.val, by omega⟩ : D))))
/-- The credits device `c` waits with. -/
def Creds (c : Dev nD) : sProp 𝕄 :=
  iprop(cred (tallyAt (cell c 10) 0 2) ∗ bigSep Finset.univ (fun st : Fin 3 => cred (tallyAt (cell c (rrI st)) 0 (8 * Nt)))
    ∗ bigSep Finset.univ (fun d : Fin 2 => iprop(cred (tallyAt (cell c (crI d)) 0 Nk) ∗ cred (tallyAt (cell c (crI d)) 1 Nk)))
    ∗ cred (tallyAt (cell c 6) 0 (3 * Ng)))
/-- What the launch leaves device `c` of the barrier's cells. -/
def Bars (c : Dev nD) : sProp 𝕄 :=
  iprop(atPos ER (cell c 10) 0 ∅ 0 ∗ reached ER (cell (side c 0) 10) 0 ∗ reached ER (cell (side c 1) 10) 0)

omit [FloatOps F] in
theorem slots_halves (c : Dev nD) (b : Fin 2) : bigSep Finset.univ (fun t : Fin 8 => slotAny (F := F) c b t) ⊢ iprop(slotsAny c b 0 ∗ slotsAny c b 1) := by
  unfold slotsAny
  rw [show (Finset.univ : Finset (Fin 8)) = cols 0 ∪ cols 1 from by decide, BI.bigSep_union (by decide)]; exact .rfl

omit [FloatOps F] in
theorem RR_zero (c : Dev nD) (st : Fin 3) : iprop(atPos ER (cell c (rrI st)) 0 ∅ 0 ∗ cred (tallyAt (cell c (rrI st)) 0 (8 * Nt))) ⊢ (RR c st 0 : sProp 𝕄) := by
  unfold RR; rw [if_neg (Nat.not_lt_zero _)]

theorem CrW_zero (c : Dev nD) (d : Fin 2) : iprop(atPos ER (cell c (crI d)) 0 ∅ 0
    ∗ (cred (tallyAt (cell c (crI d)) 0 Nk) ∗ cred (tallyAt (cell c (crI d)) 1 Nk)) ∗ (mark c d 2 ∗ mark c d 3)) ⊢ CrW X wv c d 0 := by
  show _ ⊢ iprop(WS0 X wv c (crI d) 0 0 ∗ cred (tallyAt (cell c (crI d)) 0 Nk) ∗ cred (tallyAt (cell c (crI d)) 1 Nk) ∗ mark c d 2 ∗ mark c d 3)
  iintro ⟨H, ⟨H1, H2⟩, H3, H4⟩
  isplitl [H]; · iapply (WS0_start X wv c (crI d) 0); iexact H
  isplitl [H1]; · iexact H1
  isplitl [H2]; · iexact H2
  isplitl [H3] <;> iassumption

omit [FloatOps F] in
/-- What a device hands over by the barrier, from its own buffers and its opened cells. -/
theorem barPay0 (c : Dev nD) : iprop(slotsAny (F := F) c 0 0 ∗ kAny c 2 ∗ kAny c 4 ∗ gAny c 0 ∗ gAny c 1
      ∗ (reached ER (cell c 2) 0 ∗ reached ER (cell c 3) 0 ∗ reached ER (cell c 4) 0) ∗ reached ER (cell c 9) 0 ∗ reached ER (cell c 6) 0)
    ⊢ barPay (side c 0) 0 := by
  show _ ⊢ barPay (prv c) 0
  unfold barPay
  simp only [nxt_prv]
  exact .rfl
omit [FloatOps F] in
theorem barPay1 (c : Dev nD) : iprop(slotsAny (F := F) c 0 1 ∗ kAny c 1 ∗ kAny c 3 ∗ gAny c 2
      ∗ (reached ER (cell c 2) 0 ∗ reached ER (cell c 3) 0 ∗ reached ER (cell c 4) 0) ∗ reached ER (cell c 8) 0 ∗ reached ER (cell c 6) 0)
    ⊢ barPay (side c 1) 1 := by
  show _ ⊢ barPay (nxt c) 1
  unfold barPay
  simp only [prv_nxt]
  exact .rfl

theorem opening (c : Dev nD) : iprop(owesL c 0 ∗ opened c ∗ Bars c ∗ Toks c ∗ Creds c ∗ slots c ∗ xF X c) ⊢ Init X wv c := by
  unfold opened Bars Toks Creds slots Init Own BarS AM RRs xB xK
  rw [bigSep_10, bigSep_3 (Φ := fun st : Fin 3 => cred (tallyAt (cell c (rrI st)) 0 (8 * Nt))), bigSep_2]
  iintro ⟨HO, ⟨⟨A0, R0⟩, ⟨A1, R1⟩, ⟨A2, #R2⟩, ⟨A3, #R3⟩, ⟨A4, #R4⟩, ⟨A5, R5⟩, ⟨A6, #R6⟩, ⟨A7, R7⟩, ⟨A8, #R8⟩, A9, #R9⟩,
    ⟨AB, Rb0, Rb1⟩, ⟨⟨Tb0, Tb1⟩, Ts, Tx, ⟨Tc0, Tc1⟩, ⟨M0, M1⟩, Ms, Ta⟩, ⟨Cb, ⟨Cr0, Cr1, Cr2⟩, ⟨Cc0, Cc1⟩, Ca⟩,
    ⟨⟨S0, S1⟩, ⟨V0, V1⟩, HA, ⟨G0, G1, G2⟩, ⟨K0, K0', K1, K2, K3, K4⟩, HM⟩, HX⟩
  icases (slots_halves c 0) $$ S0 with ⟨SL, SR⟩
  isplitl [HO]; · iexact HO
  isplitl [Tb0 Tb1 SL SR K1 K2 K3 K4 G0 G1 G2 Rb0 Rb1]
  · isplitl [Tb0 SL K2 K4 G0 G1 Rb0]
    · isplitl [Tb0]; · iexact Tb0
      isplitr [Rb0]; rotate_left; · iexact Rb0
      iapply (barPay0 c)
      isplitl [SL]; · iexact SL
      isplitl [K2]; · iexact K2
      isplitl [K4]; · iexact K4
      isplitl [G0]; · iexact G0
      isplitl [G1]; · iexact G1
      isplitr
      · isplitr; · iexact R2
        isplitr; · iexact R3
        iexact R4
      isplitr; · iexact R9
      iexact R6
    · isplitl [Tb1]; · iexact Tb1
      isplitr [Rb1]; rotate_left; · iexact Rb1
      iapply (barPay1 c)
      isplitl [SR]; · iexact SR
      isplitl [K1]; · iexact K1
      isplitl [K3]; · iexact K3
      isplitl [G2]; · iexact G2
      isplitr
      · isplitr; · iexact R2
        isplitr; · iexact R3
        iexact R4
      isplitr; · iexact R8
      iexact R6
  isplitl [AB Cb]
  · isplitl [AB] <;> iassumption
  isplitl [HM]; · iexact HM
  isplitl [A1 R1]
  · isplitl [A1]; · iexact A1
    iexact R1
  isplitl [Ts]; · iexact Ts
  isplitl [A8 A9 Cc0 Cc1 M0 M1]
  · isplitl [A8 Cc0 M0]
    · iapply (CrW_zero X wv c 0)
      isplitl [A8]; · iexact A8
      isplitl [Cc0] <;> iassumption
    · iapply (CrW_zero X wv c 1)
      isplitl [A9]; · iexact A9
      isplitl [Cc1] <;> iassumption
  isplitl [S1]; · iexact S1
  isplitl [K0 K0' A7 R7 Tc0 Tc1 Ms]
  · isplitl [K0]; · iexact K0
    isplitl [K0']; · iexact K0'
    isplitl [A7]; · iexact A7
    isplitl [R7]; · iexact R7
    isplitl [Tc0]; · iexact Tc0
    isplitl [Ms] <;> iassumption
  isplitl [HA A5 R5 A6 Ca Ta]
  · isplitl [HA]; · iexact HA
    isplitl [A5]; · iexact A5
    isplitl [R5]; · iexact R5
    isplitl [A6]; · iexact A6
    isplitl [Ca] <;> iassumption
  isplitl [A2 A3 A4 Cr0 Cr1 Cr2]
  · isplitl [A2 Cr0]
    · iapply (RR_zero c 0); isplitl [A2]; · iexact A2
      iexact Cr0
    isplitl [A3 Cr1]
    · iapply (RR_zero c 1); isplitl [A3]; · iexact A3
      iexact Cr1
    · iapply (RR_zero c 2); isplitl [A4]; · iexact A4
      iexact Cr2
  isplitl [A0 R0 Tx HX]
  · isplitl [A0]; · iexact A0
    isplitl [R0]; · iexact R0
    isplitl [Tx] <;> iassumption
  isplitl [V0] <;> iassumption

end Cert.KernelIdeal.Ring

end
-- ==== Proof.KernelIdeal.Deal.lean ====
/-
  The launch deals: every transfer's and every marker's token to the device that pays with it, and every device the
  credits its waits are met with.
-/
module

public import proofs.«01_k».proof.Proof.KernelIdeal.Open
public import Idealize.ShloMosaic.Lib.Pipeline.Launch

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

omit [FloatOps F] in
theorem sep_two (Φ : Fin 2 → sProp 𝕄) : bigSep Finset.univ Φ = iprop(Φ 0 ∗ Φ 1) := BI.bigSep_fin_two Φ
omit [FloatOps F] in
theorem sep_three (Φ : Fin 3 → sProp 𝕄) : bigSep Finset.univ Φ = iprop(Φ 0 ∗ Φ 1 ∗ Φ 2) := by
  rw [show (Finset.univ : Finset (Fin 3)) = {0, 1, 2} from by decide, BI.bigSep_insert (by decide), BI.bigSep_insert (by decide), BI.bigSep_singleton]
  rfl
omit [FloatOps F] in
theorem sep_eleven (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [show (Finset.univ : Finset (Fin 11)) = {0, 1, 2, 3, 4, 5, 6, 7, 8, 9, 10} from by decide]
  rw [BI.bigSep_insert (by decide), BI.bigSep_insert (by decide), BI.bigSep_insert (by decide), BI.bigSep_insert (by decide), BI.bigSep_insert (by decide),
    BI.bigSep_insert (by decide), BI.bigSep_insert (by decide), BI.bigSep_insert (by decide), BI.bigSep_insert (by decide), BI.bigSep_insert (by decide), BI.bigSep_singleton]
  rfl
omit [FloatOps F] in
theorem sep_pairs (Φ : Fin 2 × Fin 2 → sProp 𝕄) : bigSep Finset.univ Φ = iprop((Φ (0, 0) ∗ Φ (0, 1)) ∗ (Φ (1, 0) ∗ Φ (1, 1))) := by
  rw [BI.bigSep_univ_prod, sep_two, sep_two, sep_two]

/-! ## Tokens -/

/-- The tokens one device pays with, the ones its credit invariants start from last. -/
abbrev TIx : Type := Fin 2 ⊕ (Fin 3 × Fin 8) ⊕ (Fin 3 × Fin 8) ⊕ (Fin 4 × Fin 2) ⊕ (Fin 2 × Fin 2) ⊕ (Fin 2 × Fin 2) ⊕ Fin 2 ⊕ Fin 3 ⊕ Fin 3
  ⊕ (Fin 2 × Fin 2) ⊕ Fin 2

/-- The cell, round and duty of a token of device `c`. -/
def code (c : Dev nD) : TIx → (Dev nD × Fin 11) × ℕ × D
  | .inl d => ((side c d, 10), 0, ⟨d.val, by omega⟩)
  | .inr (.inl p) => ((c, 1), p.1.val, p.2)
  | .inr (.inr (.inl p)) => ((tow c p.2, rrI p.1), 0, p.2)
  | .inr (.inr (.inr (.inl p))) => ((c, 0), p.1.val, ⟨p.2.val, by omega⟩)
  | .inr (.inr (.inr (.inr (.inl p)))) => ((c, 7), p.1.val, ⟨p.2.val, by omega⟩)
  | .inr (.inr (.inr (.inr (.inr (.inl p))))) => ((c, 10), 1, ⟨4 * p.1.val + (2 + p.2.val), by omega⟩)
  | .inr (.inr (.inr (.inr (.inr (.inr (.inl d)))))) => ((side c d, 10), 1, ⟨4 * d.val + 0, by omega⟩)
  | .inr (.inr (.inr (.inr (.inr (.inr (.inr (.inl o))))))) => ((c, 5), 0, ⟨o.val, by omega⟩)
  | .inr (.inr (.inr (.inr (.inr (.inr (.inr (.inr (.inl o)))))))) => ((gtow c o, 6), 0, ⟨o.val, by omega⟩)
  | .inr (.inr (.inr (.inr (.inr (.inr (.inr (.inr (.inr (.inl p))))))))) => ((c, crI p.1), 0, ⟨p.2.val, by omega⟩)
  | .inr (.inr (.inr (.inr (.inr (.inr (.inr (.inr (.inr (.inr d))))))))) => ((c, 10), 1, ⟨4 * d.val + 1, by omega⟩)
/-- The same as a number. -/
def num (p : Dev nD × TIx) : ℕ := (((code p.1 p.2).1.1.val * 11 + (code p.1 p.2).1.2.val) * 8 + (code p.1 p.2).2.1) * 8 + (code p.1 p.2).2.2.val
theorem num_card : (Finset.univ.image num).card = (Finset.univ : Finset (Dev nD × TIx)).card := by decide +kernel
theorem num_injective : Function.Injective num := fun a b h =>
  Finset.card_image_iff.mp num_card (Finset.mem_coe.mpr (Finset.mem_univ a)) (Finset.mem_coe.mpr (Finset.mem_univ b)) h

theorem cell_injective {c c' : Dev nD} {k k' : Fin 11} (h : cell c k = cell c' k') : c = c' ∧ k = k' :=
  ⟨congrArg (fun g : GSem nD τ sig => g.1.1) h, osem_injective (congrArg Prod.snd h)⟩

def tokAt (p : Dev nD × TIx) : GSem nD τ sig × ℕ × D := (cell (code p.1 p.2).1.1 (code p.1 p.2).1.2, (code p.1 p.2).2.1, (code p.1 p.2).2.2)
theorem tokAt_injective : Function.Injective tokAt := fun a b h => num_injective (by
  have h1 := cell_injective (congrArg Prod.fst h)
  have h2 : (code a.1 a.2).2.1 = (code b.1 b.2).2.1 := congrArg (fun x => x.2.1) h
  have h3 : (code a.1 a.2).2.2 = (code b.1 b.2).2.2 := congrArg (fun x => x.2.2) h
  unfold num; rw [h1.1, h1.2, h2, h3])
/-- Every token the launch makes. -/
def allToks : Finset (GSem nD τ sig × ℕ × D) := Finset.univ.map ⟨tokAt, tokAt_injective⟩

omit [FloatOps F] in
/-- One device's tokens, kind by kind. -/
theorem toks_of (c : Dev nD) : bigSep Finset.univ (fun x : TIx => (dutyTok ER (tokAt (c, x)).1 (tokAt (c, x)).2.1 (tokAt (c, x)).2.2 : sProp 𝕄))
    = iprop(bigSep Finset.univ (fun d : Fin 2 => dutyTok ER (cell (side c d) 10) 0 (⟨d.val, by omega⟩ : D))
      ∗ bigSep Finset.univ (fun p : Fin 3 × Fin 8 => dutyTok ER (cell c 1) p.1.val p.2)
      ∗ bigSep Finset.univ (fun p : Fin 3 × Fin 8 => dutyTok ER (cell (tow c p.2) (rrI p.1)) 0 p.2)
      ∗ bigSep Finset.univ (fun p : Fin 4 × Fin 2 => dutyTok ER (cell c 0) p.1.val (⟨p.2.val, by omega⟩ : D))
      ∗ bigSep Finset.univ (fun p : Fin 2 × Fin 2 => dutyTok ER (cell c 7) p.1.val (⟨p.2.val, by omega⟩ : D))
      ∗ bigSep Finset.univ (fun p : Fin 2 × Fin 2 => dutyTok ER (cell c 10) 1 (⟨4 * p.1.val + (2 + p.2.val), by omega⟩ : D))
      ∗ bigSep Finset.univ (fun d : Fin 2 => mark (side c d) d 0)
      ∗ bigSep Finset.univ (fun o : Fin 3 => dutyTok ER (cell c 5) 0 (⟨o.val, by omega⟩ : D))
      ∗ bigSep Finset.univ (fun o : Fin 3 => dutyTok ER (cell (gtow c o) 6) 0 (⟨o.val, by omega⟩ : D))
      ∗ bigSep Finset.univ (fun p : Fin 2 × Fin 2 => ctok c p.1 p.2)
      ∗ bigSep Finset.univ (fun d : Fin 2 => mark c d 1)) := by
  rw [BI.bigSep_univ_sum, BI.bigSep_univ_sum, BI.bigSep_univ_sum, BI.bigSep_univ_sum, BI.bigSep_univ_sum, BI.bigSep_univ_sum,
    BI.bigSep_univ_sum, BI.bigSep_univ_sum, BI.bigSep_univ_sum, BI.bigSep_univ_sum]
  rfl

omit [FloatOps F] in
/-- They are the tokens it pays with and the start of its credit invariants. -/
theorem toks_dealt (c : Dev nD) : bigSep Finset.univ (fun x : TIx => (dutyTok ER (tokAt (c, x)).1 (tokAt (c, x)).2.1 (tokAt (c, x)).2.2 : sProp 𝕄))
    ⊢ iprop(Toks c ∗ bigSep Finset.univ (fun d : Fin 2 => J (F := F) c d)) := by
  rw [toks_of]
  unfold Toks
  rw [show tl 2 = Finset.univ from by decide, show fe 0 = Finset.univ from by decide]
  unfold stok
  rw [bigSep_sep', bigSep_sep', sep_two (fun d : Fin 2 => dutyTok ER (cell (side c d) 10) 0 (⟨d.val, by omega⟩ : D)), sep_pairs, sep_pairs, sep_pairs,
    sep_two (fun d : Fin 2 => mark (side c d) d 0), sep_two (fun d : Fin 2 => mark c d 1), sep_two (fun d : Fin 2 => J (F := F) c d)]
  iintro ⟨⟨H1, H2⟩, Hs, Hr, Hx, H7, H10, ⟨Hm, Hm'⟩, H5, H6, ⟨⟨Hc, Hc'⟩, ⟨Hd, Hd'⟩⟩, ⟨Hj, Hj'⟩⟩
  isplitr [Hc Hc' Hd Hd' Hj Hj']
  · isplitl [H1 H2]
    · isplitl [H1]; · iexact H1
      iexact H2
    isplitl [Hs Hr]
    · isplitl [Hs]; · iexact Hs
      iexact Hr
    isplitl [Hx]; · iexact Hx
    isplitl [H7]; · iexact H7
    isplitl [H10]; · iexact H10
    isplitl [Hm Hm']
    · isplitl [Hm]; · iexact Hm
      iexact Hm'
    isplitl [H5]; · iexact H5
    iexact H6
  · isplitl [Hc Hc' Hj]
    · unfold J; ileft
      isplitl [Hc]; · iexact Hc
      isplitl [Hc']; · iexact Hc'
      iexact Hj
    · unfold J; ileft
      isplitl [Hd]; · iexact Hd
      isplitl [Hd']; · iexact Hd'
      iexact Hj'

/-! ## Credits -/

/-- The device and the number of the cell a due is paid to, and the device that pays it to a given one. -/
def dst (c : Dev nD) : Due → Dev nD | .bar d => side c d | .tile _ t => tow c t | .cr _ d => side c d | .amax o => gtow c o
def kk : Due → Fin 11 | .bar _ => 10 | .tile st _ => rrI st | .cr _ d => crI d | .amax _ => 6
def src (w : Dev nD) : Due → Dev nD | .bar d => sdr w d | .tile _ t => frm w t | .cr _ d => sdr w d | .amax o => gfrm w o
theorem dcell_eq (c : Dev nD) (y : Due) : dcell c y = cell (dst c y) (kk y) := by cases y <;> rfl
theorem side_iff (c w : Dev nD) (d : Fin 2) : side c d = w ↔ c = sdr w d := by revert c w d; decide
theorem tow_iff (c w : Dev nD) (t : Fin 8) : tow c t = w ↔ c = frm w t := by revert c w t; decide
theorem gtow_iff (c w : Dev nD) (o : Fin 3) : gtow c o = w ↔ c = gfrm w o := by revert c w o; decide
theorem dst_iff (c w : Dev nD) (y : Due) : dst c y = w ↔ c = src w y := by
  cases y
  · exact side_iff _ _ _
  · exact tow_iff _ _ _
  · exact side_iff _ _ _
  · exact gtow_iff _ _ _

/-- What a device owes at launch. -/
abbrev O₀ (c : Dev nD) : CellTallies nD τ sig Ix := owing c (left 0)
theorem left_zero : left 0 = allDues := Finset.filter_true_of_mem fun _ _ => Nat.zero_le _

theorem tally_sum (g : GSem nD τ sig) (S : Finset Due) (i : Due → Ix) (a : Due → ℕ) :
    tallyOn g (∑ y ∈ S, Finsupp.single (i y) (a y)) = ∑ y ∈ S, tallyAt g (i y) (a y) := by
  induction S using Finset.induction_on with
  | empty => rw [Finset.sum_empty, Finset.sum_empty, tallyOn_zero]
  | insert y S hy ih => rw [Finset.sum_insert hy, Finset.sum_insert hy, tallyOn_add, ih]; rfl

/-- The launch credit of a cell: what is paid to it. -/
theorem launch_cell (w : Dev nD) (k : Fin 11) :
    tallyOn (cell w k) (launchCredit (Pipeline.owing O₀) 0 (cell w k)) = ∑ y ∈ allDues.filter (kk · = k), tallyAt (cell w k) (dix y) (damt y) := by
  rw [← tally_sum]
  refine congrArg _ (Finsupp.ext fun i => ?_)
  rw [Pipeline.launchCredit_owing]
  simp only [O₀, owing, left_zero, Finset.sum_apply, Finsupp.finset_sum_apply, tallyAt_apply]
  rw [Finset.sum_comm, Finset.sum_filter]
  refine Finset.sum_congr rfl fun y _ => ?_
  by_cases hk : kk y = k
  · subst hk
    rw [if_pos rfl, Finset.sum_eq_single (src w y), Finsupp.single_apply]
    · have e : cell w (kk y) = dcell (src w y) y := by rw [dcell_eq, (dst_iff _ w y).mpr rfl]
      by_cases h : dix y = i
      · rw [if_pos ⟨e, h.symm⟩, if_pos h]
      · rw [if_neg (fun h' => h h'.2.symm), if_neg h]
    · intro d _ hd
      rw [if_neg (fun h' => hd ((dst_iff _ w y).mp (cell_injective (h'.1.trans (dcell_eq d y))).1.symm))]
    · intro h; exact absurd (Finset.mem_univ _) h
  · rw [if_neg hk]
    refine Finset.sum_eq_zero fun d _ => if_neg fun h' => hk (cell_injective (h'.1.trans (dcell_eq d y))).2.symm

theorem tallyAt_sum (g : GSem nD τ sig) (i : Ix) (S : Finset Due) (a : Due → ℕ) : ∑ y ∈ S, tallyAt g i (a y) = tallyAt g i (∑ y ∈ S, a y) := by
  induction S using Finset.induction_on with
  | empty => rw [Finset.sum_empty, Finset.sum_empty, tallyAt_zero]
  | insert y S hy ih => rw [Finset.sum_insert hy, Finset.sum_insert hy, ih, tallyAt_add]

theorem launch_bar (w : Dev nD) : tallyOn (cell w 10) (launchCredit (Pipeline.owing O₀) 0 (cell w 10)) = tallyAt (cell w 10) 0 2 := by
  rw [launch_cell, show allDues.filter (kk · = 10) = {Due.bar 0, Due.bar 1} from by decide, Finset.sum_pair (by decide)]
  exact tallyAt_add (cell w 10) (0 : Ix) 1 1
theorem launch_rr (w : Dev nD) (st : Fin 3) :
    tallyOn (cell w (rrI st)) (launchCredit (Pipeline.owing O₀) 0 (cell w (rrI st))) = tallyAt (cell w (rrI st)) 0 (8 * Nt) := by
  rw [launch_cell, show allDues.filter (kk · = rrI st) = Finset.univ.image (Due.tile st) from by revert st; decide,
    Finset.sum_image (fun a _ b _ h => by cases h; rfl)]
  show ∑ _t : Fin 8, tallyAt (cell w (rrI st)) (0 : Ix) Nt = _
  generalize Nt = n
  rw [Fin.sum_univ_eight, tallyAt_add, tallyAt_add, tallyAt_add, tallyAt_add, tallyAt_add, tallyAt_add, tallyAt_add]
  congr 1; omega
theorem launch_cr (w : Dev nD) (d : Fin 2) : tallyOn (cell w (crI d)) (launchCredit (Pipeline.owing O₀) 0 (cell w (crI d)))
    = tallyAt (cell w (crI d)) 0 Nk + tallyAt (cell w (crI d)) 1 Nk := by
  rw [launch_cell, show allDues.filter (kk · = crI d) = {Due.cr 0 d, Due.cr 1 d} from by revert d; decide, Finset.sum_pair (by revert d; decide)]; rfl
theorem launch_ar (w : Dev nD) : tallyOn (cell w 6) (launchCredit (Pipeline.owing O₀) 0 (cell w 6)) = tallyAt (cell w 6) 0 (3 * Ng) := by
  rw [launch_cell, show allDues.filter (kk · = 6) = Finset.univ.image Due.amax from by decide, Finset.sum_image (fun a _ b _ h => by cases h; rfl)]
  show ∑ _t : Fin 3, tallyAt (cell w 6) (0 : Ix) Ng = _
  generalize Ng = n
  rw [Fin.sum_univ_three, tallyAt_add, tallyAt_add]
  congr 1; omega

omit [FloatOps F] in
/-- The launch's credits of a device are those its waits are met with. -/
theorem creds_dealt (c : Dev nD) : (Pipeline.launchCred O₀ c : sProp 𝕄) ⊢ Creds c := by
  unfold Creds
  have e : (Pipeline.launchCred O₀ c : sProp 𝕄) ⊢ bigSep Finset.univ (fun k : Fin 11 => cred (tallyOn (cell c k) (launchCredit (Pipeline.owing O₀) 0 (cell c k)))) := by
    unfold Pipeline.launchCred
    refine (BI.bigSep_subset (Finset.subset_univ (Finset.univ.map ⟨osem, osem_injective⟩))).trans ?_
    rw [BI.bigSep_map]; exact BI.Entails.refl _
  refine e.trans ?_
  rw [sep_eleven]
  rw [launch_bar, launch_ar, show (2 : Fin 11) = rrI 0 from rfl, show (3 : Fin 11) = rrI 1 from rfl, show (4 : Fin 11) = rrI 2 from rfl,
    show (8 : Fin 11) = crI 0 from rfl, show (9 : Fin 11) = crI 1 from rfl, launch_rr, launch_rr, launch_rr, launch_cr, launch_cr]
  rw [sep_three, sep_two]
  iintro ⟨-, -, H2, H3, H4, -, H6, -, H8, H9, H10⟩
  isplitl [H10]; · iexact H10
  isplitl [H2 H3 H4]
  · isplitl [H2]; · iexact H2
    isplitl [H3]; · iexact H3
    iexact H4
  isplitl [H8 H9]
  · isplitl [H8]
    · iapply (cred_add _ _).1; iexact H8
    iapply (cred_add _ _).1; iexact H9
  iexact H6

end Cert.KernelIdeal.Ring

end
-- ==== Proof.KernelIdeal.Data.lean ====
/-
  The first call's data for the pipeline: what its windows hold, what the device holds before each point, what it still
  owes; and the obligation that the kernel body keeps them at every point.
-/
module

public import proofs.«01_k».proof.Proof.KernelIdeal.Open
public import proofs.«01_k».proof.Proof.Gen.KernelIdeal.Points
public import proofs.«01_k».proof.Proof.Gen.KernelIdeal.Regions
public import Idealize.ShloMosaic.Lib.Pipeline.DatRel

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat)

/-- The contents of every buffer of every device. -/
abbrev Vals (F : FTy → Type) := (c : Dev nD) → (b : Ref sig .tc) → Buf (Elt F) ((c : Thread nD τ).loc b)

variable (V : Vals F)

/-- The first call's row of `x`, and the column blocks of `w` its window 0 reads. -/
abbrev Xv : Dev nD → (main_v1 : Ref sig .tc).ty.Contents (Elt F) := fun c => V c main_v1
def pt (t : Fin 8) : Fin cfg0.N := ⟨t.val, by have := N_0; show t.val < grid0.N; omega⟩
def Wv (c : Dev nD) (t : Fin 8) : Vec F S1024x1024 .bf16 := ((cfg0.win 0).blk (pt t)).view.read (Elt F) (V c main_v2)

/-! ## The points -/

theorem pt_coords : ∀ n : Fin cfg0.N, (grid0.coords n 0).val = n.val / 8 ∧ (grid0.coords n 1).val = n.val % 8 := by decide +kernel
theorem pt_lt (n : Fin cfg0.N) : n.val < 32 := lt_of_lt_of_eq n.isLt N_0
/-- The step and the column of a point. -/
def stepOf (n : Fin cfg0.N) : Fin 4 := grid0.coords n 0
def colOf (n : Fin cfg0.N) : Fin 8 := grid0.coords n 1
theorem stepOf_val (n : Fin cfg0.N) : (stepOf n).val = n.val / 8 := (pt_coords n).1
theorem colOf_val (n : Fin cfg0.N) : (colOf n).val = n.val % 8 := (pt_coords n).2

/-! ## What a device holds before a point -/

/-- The place of a point in the order of what a device owes. -/
def pl (n : ℕ) : ℕ :=
  if n = 0 then 0 else if n ≤ 24 then 2 + 10 * ((n - 1) / 8) + ((n - 1) % 8 + 1) else if n < 32 then 30 else 33

variable (X : Dev nD → (main_v1 : Ref sig .tc).ty.Contents (Elt F)) (wv : Dev nD → Fin 8 → Vec F S1024x1024 .bf16) (N : Names)

def Bk (c : Dev nD) (n : ℕ) : sProp 𝕄 := if n = 0 then iprop(emp) else atPos ER (cell c 10) 1 ∅ 0
def St (c : Dev nD) (n : ℕ) : sProp 𝕄 :=
  if n = 0 then iprop(owesL c 0 -∗ Init X wv c)
  else if n < 32 then iprop((owesL c (pl n) -∗ Mid X wv c (Fin.ofNat 4 ((n - 1) / 8)) ((n - 1) % 8 + 1)) ∗ atPos ER (cell c 10) 1 ∅ 0)
  else Closed X c
def Phi (c : Dev nD) (n : ℕ) : sProp 𝕄 := iprop(∃ N, recs X wv N ∗ St X wv c n)

theorem Mid_owes (c : Dev nD) (s : Fin 4) (k : ℕ) :
    Mid X wv c s k ⊢ iprop(owesL c (if s.val < 3 then 2 + 10 * s.val + k else 30) ∗ (owesL c (if s.val < 3 then 2 + 10 * s.val + k else 30) -∗ Mid X wv c s k)) := by
  unfold Mid
  by_cases h : s.val < 3
  · rw [dif_pos h, if_pos h]
    unfold MidL OT
    iintro ⟨⟨HO, HT⟩, HR⟩
    isplitl [HO]; · iexact HO
    iintro HO
    isplitl [HO HT]
    · isplitl [HO]; · iexact HO
      iexact HT
    iexact HR
  · rw [dif_neg h, if_neg h]
    unfold MidR OT
    iintro ⟨⟨HO, HT⟩, HR⟩
    isplitl [HO]; · iexact HO
    iintro HO
    isplitl [HO HT]
    · isplitl [HO]; · iexact HO
      iexact HT
    iexact HR

theorem pl_mid (s : Fin 4) (t : Fin 8) (h : ¬(s.val = 3 ∧ t.val = 7)) :
    pl (8 * s.val + t.val + 1) = if s.val < 3 then 2 + 10 * s.val + (t.val + 1) else 30 := by
  revert s t; decide

theorem St_pre (c : Dev nD) (s : Fin 4) (t : Fin 8) {n : ℕ} (hn : n = 8 * s.val + t.val) :
    iprop(St X wv c n ∗ owesL c (pl n)) ⊢ iprop(BefP X wv c s t ∗ Bk c n) := by
  unfold St BefP Bk
  by_cases h0 : n = 0
  · have hs : s.val = 0 ∧ t.val = 0 := by omega
    subst h0
    rw [if_pos rfl, if_pos hs, if_pos rfl]
    iintro ⟨H, HO⟩
    isplitl; · iapply H; iexact HO
    iempintro
  · rw [if_neg h0, if_pos (by omega), if_neg (by omega), if_neg h0]
    by_cases ht : t.val = 0
    · rw [if_pos ht, show Fin.ofNat 4 ((n - 1) / 8) = (⟨s.val - 1, by omega⟩ : Fin 4) from Fin.ext (by simp only [Fin.ofNat]; omega),
        show (n - 1) % 8 + 1 = 8 from by omega]
      iintro ⟨⟨H, Hb⟩, HO⟩
      isplitl [H HO]; · iapply H; iexact HO
      iexact Hb
    · rw [if_neg ht, show Fin.ofNat 4 ((n - 1) / 8) = s from Fin.ext (by simp only [Fin.ofNat]; omega),
        show (n - 1) % 8 + 1 = t.val from by omega]
      iintro ⟨⟨H, Hb⟩, HO⟩
      isplitl [H HO]; · iapply H; iexact HO
      iexact Hb

omit [FloatOps F] in
theorem Bz_Bk (c : Dev nD) (s : Fin 4) (t : Fin 8) {n : ℕ} (hn : n = 8 * s.val + t.val) :
    iprop(Bz c s t ∗ Bk c n) ⊢ (atPos ER (cell c 10) 1 ∅ 0 : sProp 𝕄) := by
  unfold Bz Bk
  by_cases h0 : n = 0
  · rw [if_pos (by omega), if_pos h0]; iintro ⟨H, -⟩; iexact H
  · rw [if_neg (by omega), if_neg h0]; iintro ⟨-, H⟩; iexact H

theorem St_post (c : Dev nD) (s : Fin 4) (t : Fin 8) {n : ℕ} (hn : n = 8 * s.val + t.val) :
    iprop(recs X wv N ∗ AftP X wv c s t ∗ Bz c s t ∗ Bk c n) ⊢ (|={Set.univ}=> (St X wv c (n + 1) ∗ owesL c (pl (n + 1))) : sProp 𝕄) := by
  refine (sep_mono .rfl (sep_mono .rfl (Bz_Bk c s t hn))).trans ?_
  unfold AftP
  by_cases h : s.val = 3 ∧ t.val = 7
  · obtain rfl : n = 31 := by omega
    rw [if_pos h]
    refine (closing X wv N c).trans ?_
    show _ ⊢ iprop(|={Set.univ}=> (St X wv c 32 ∗ owesL c 33))
    unfold St
    rw [if_neg (by decide), if_neg (by decide)]
    iintro H; imod H with ⟨H1, H2⟩; imodintro
    isplitl [H2] <;> iassumption
  · have e : n + 1 = 8 * s.val + t.val + 1 := by omega
    rw [if_neg h, e, pl_mid s t h]
    unfold St
    rw [if_neg (by omega), if_pos (by omega), pl_mid s t h, show Fin.ofNat 4 ((8 * s.val + t.val + 1 - 1) / 8) = s from Fin.ext (by simp only [Fin.ofNat]; omega),
      show (8 * s.val + t.val + 1 - 1) % 8 + 1 = t.val + 1 from by omega]
    iintro ⟨-, HM, Hb⟩
    icases (Mid_owes X wv c s (t.val + 1)) $$ HM with ⟨HO, HM⟩
    imodintro
    isplitr [HO]; rotate_left; · iexact HO
    isplitl [HM] <;> iassumption

/-! ## The data -/

/-- The scoped buffers of the second call's windows, which the first call does not touch. -/
def rest5 (c : Dev nD) : sProp 𝕄 :=
  iprop(wholeAny c cc1_stg0_0 ∗ wholeAny c cc1_stg0_1 ∗ wholeAny c cc1_stg1_0 ∗ wholeAny c cc1_stg2_0 ∗ wholeAny c cc1_stg2_1)

def dat0 (c : Dev nD) : Dat τ (Elt F) Ix ℕ UU ℕ cfg0 c where
  A := fun | 0 => V c main_v2 | 1 => V c main_v3_0 | 2 => V c main_v3_1 | ⟨_ + 3, h⟩ => absurd h (Nat.not_lt.2 (Nat.le_add_left _ _))
  after := fun | 0 => fun t => Wv V c (colOf t) | 1 => fun t => yv (Xv V) (Wv V) c (colOf t) | 2 => fun _ => scl (Xv V) (Wv V) c
               | ⟨_ + 3, h⟩ => absurd h (Nat.not_lt.2 (Nat.le_add_left _ _))
  Φ n := iprop(Phi (Xv V) (Wv V) c n.val ∗ rest5 c)
  q _ := fullShare
  owed n := owing c (left (pl n.val))

/-- Windows 1 and 2 are known where it matters: `y` at the last step, the scale at the last point. -/
def fgt (w : Fin cfg0.W) : Bool := match w with | 0 => false | _ => true
def Rl (c : Dev nD) : (w : Fin cfg0.W) → Fin cfg0.N → ((cfg0.win w).block.Idx → Elt F (cfg0.win w).elt) → Prop :=
  fun | 0 => fun _ _ => True | 1 => fun t Z => (stepOf t).val = 3 → Z = yv (Xv V) (Wv V) c (colOf t)
      | 2 => fun t Z => t.val = 31 → Z = scl (Xv V) (Wv V) c
      | ⟨_ + 3, h⟩ => absurd h (Nat.not_lt.2 (Nat.le_add_left _ _))

theorem owesAt_intro0 (c : Dev nD) (n : Fin (cfg0.N + 1)) : (owesL c (pl n.val) : sProp 𝕄) ⊢ (dat0 V c).owesAt 0 n := by
  unfold owesL Dat.owesAt Pipeline.owesWithin Dat.bound
  iintro ⟨%W, HO⟩
  iexists W; isplitr
  · ipureintro; exact fun _ _ => Or.inl trivial
  iexact HO
theorem owesAt_elim0 (c : Dev nD) (n : Fin (cfg0.N + 1)) : ((dat0 V c).owesAt 0 n : sProp 𝕄) ⊢ owesL c (pl n.val) := by
  unfold owesL Dat.owesAt Pipeline.owesWithin
  iintro ⟨%W, -, HO⟩
  iexists W; iexact HO

/-- Window 0 holds its column block at every point. -/
theorem before0 (c : Dev nD) (t : Fin cfg0.N) (d) : (dat0 V c).before 0 t d = Wv V c (colOf t) := by
  rw [(dat0 V c).before_fetched 0 t (fetch0_0 t) d]
  have hi : ∀ t : Fin cfg0.N, (cfg0.win 0).index t = (cfg0.win 0).index (pt (colOf t)) := by decide +kernel
  refine ((dat0 V c).fetched_congr 0 (hi t) rfl d).trans ?_
  rfl

variable (c : Dev nD)

theorem stage_obl (n : Fin cfg0.N) {B : sProp 𝕄}
    (hB : iprop(Phi (Xv V) (Wv V) c (n.val + 1) ∗ owesL c (pl (n.val + 1)) ∗ owns (c : Thread nD τ) (st0_0 n) fullShare (Wv V c (colOf n))
        ∗ (∃ Z, ⌜(stepOf n).val = 3 → Z = yv (Xv V) (Wv V) c (colOf n)⌝ ∗ owns (c : Thread nD τ) (st0_1 n) fullShare Z)
        ∗ (∃ Z, ⌜n.val = 31 → Z = scl (Xv V) (Wv V) c⌝ ∗ owns (c : Thread nD τ) (st0_2 n) fullShare Z)) ⊢ B) :
    iprop(Phi (Xv V) (Wv V) c n.val ∗ owesL c (pl n.val) ∗ owns (c : Thread nD τ) (st0_0 n) fullShare (Wv V c (colOf n))
        ∗ (∃ Z, owns (c : Thread nD τ) (st0_1 n) fullShare Z) ∗ (∃ Z, owns (c : Thread nD τ) (st0_2 n) fullShare Z))
      ⊢ WP c (bodyAt0 n) fun _ => B := by
  have hn : n.val = 8 * (stepOf n).val + (colOf n).val := by rw [stepOf_val, colOf_val]; omega
  have h3 := piece_owns (F := F) (st0_0 n) off2_zero inb_S1024x1024_S1024x1024_0_0 c (Wv V c (colOf n))
  have h4 := pieceAny_owns (F := F) (st0_1 n) off2_zero inb_S1024x1024_S1024x1024_0_0 c
  have h5 := pieceAny_owns (F := F) (st0_2 n) off2_zero inb_S1x1_S1x1_0_0 c
  have pre : iprop(Phi (Xv V) (Wv V) c n.val ∗ owesL c (pl n.val) ∗ owns (c : Thread nD τ) (st0_0 n) fullShare (Wv V c (colOf n))
        ∗ (∃ Z, owns (c : Thread nD τ) (st0_1 n) fullShare Z) ∗ (∃ Z, owns (c : Thread nD τ) (st0_2 n) fullShare Z))
      ⊢ iprop(∃ N, ((recs (Xv V) (Wv V) N ∗ BefP (Xv V) (Wv V) c (stepOf n) (colOf n)) ∗ piece (st0_0 n) wR c (Wv V c (colOf n))
        ∗ pieceAny (st0_1 n) wR c ∗ pieceAny (st0_2 n) R5 c) ∗ Bk c n.val) := by
    unfold Phi
    iintro ⟨⟨%N, #HR, HS⟩, HO, H3, H4, H5⟩
    icases (St_pre (Xv V) (Wv V) c (stepOf n) (colOf n) hn) $$ [HS HO] with ⟨HB, Hk⟩
    · isplitl [HS] <;> iassumption
    iexists N
    isplitr [Hk]; rotate_left; · iexact Hk
    isplitl [HB]
    · isplitr; · iexact HR
      iexact HB
    isplitl [H3]; · iapply h3.2; iexact H3
    isplitl [H4]; · iapply h4.2; iexact H4
    iapply h5.2; iexact H5
  have post : ∀ N, iprop((recs (Xv V) (Wv V) N ∗ AftP (Xv V) (Wv V) c (stepOf n) (colOf n) ∗ piece (st0_0 n) wR c (Wv V c (colOf n))
      ∗ Yw (Xv V) (Wv V) (st0_1 n) c (stepOf n) (colOf n) ∗ Zw (Xv V) (Wv V) (st0_2 n) c (stepOf n) (colOf n) ∗ Bz c (stepOf n) (colOf n)) ∗ Bk c n.val)
      ⊢ iprop(|={Set.univ}=> B) := fun N => by
    have h4' := piece_owns (F := F) (st0_1 n) off2_zero inb_S1024x1024_S1024x1024_0_0 c (yv (Xv V) (Wv V) c (colOf n))
    have h5' := piece_owns (F := F) (st0_2 n) off2_zero inb_S1x1_S1x1_0_0 c (scl (Xv V) (Wv V) c)
    have eY : Yw (Xv V) (Wv V) (st0_1 n) c (stepOf n) (colOf n)
        ⊢ iprop(∃ Z, ⌜(stepOf n).val = 3 → Z = yv (Xv V) (Wv V) c (colOf n)⌝ ∗ owns (c : Thread nD τ) (st0_1 n) fullShare Z) := by
      unfold Yw
      by_cases h : (stepOf n).val = 3
      · rw [if_pos h]; iintro H; iexists _; isplitr
        · ipureintro; intro _; rfl
        · iapply h4'.1; iexact H
      · rw [if_neg h]; refine h4.1.trans ?_; iintro ⟨%Z, H⟩; iexists Z; isplitr
        · ipureintro; intro h'; exact absurd h' h
        · iexact H
    have eZ : Zw (Xv V) (Wv V) (st0_2 n) c (stepOf n) (colOf n)
        ⊢ iprop(∃ Z, ⌜n.val = 31 → Z = scl (Xv V) (Wv V) c⌝ ∗ owns (c : Thread nD τ) (st0_2 n) fullShare Z) := by
      unfold Zw
      by_cases h : (stepOf n).val = 3 ∧ (colOf n).val = 7
      · rw [if_pos h]; iintro H; iexists _; isplitr
        · ipureintro; intro _; rfl
        · iapply h5'.1; iexact H
      · rw [if_neg h]; refine h5.1.trans ?_; iintro ⟨%Z, H⟩; iexists Z; isplitr
        · ipureintro; intro h'; exact absurd (by omega) h
        · iexact H
    iintro ⟨⟨#HR, HA, H3, HY, HZ, Hz⟩, Hk⟩
    imod (St_post (Xv V) (Wv V) N c (stepOf n) (colOf n) hn) $$ [HA Hz Hk] with ⟨HS, HO⟩
    · isplitr; · iexact HR
      isplitl [HA]; · iexact HA
      isplitl [Hz] <;> iassumption
    imodintro
    iapply hB
    isplitl [HS]
    · unfold Phi; iexists N; isplitr; · iexact HR
      iexact HS
    isplitl [HO]; · iexact HO
    isplitl [H3]; · iapply h3.1; iexact H3
    isplitl [HY]; · iapply eY; iexact HY
    iapply eZ; iexact HZ
  refine pre.trans ?_
  iintro ⟨%N, H⟩
  iapply ((WP_frame (body_spec (Xv V) (Wv V) N c (grid0.coords n) (st0_0 n) (hstage0_0 ((cfg0.slots n 0).cast nbuf0_0)) (st0_1 n) (hstage0_1 ((cfg0.slots n 1).cast nbuf0_1))
    (st0_2 n) (hstage0_2 ((cfg0.slots n 2).cast nbuf0_2)))).trans
    ((wp_mono _ _ _ fun _ => post N).trans (wp_fupd _ _ _ _ _)))
  iexact H

/-- The body keeps the data at every point. -/
theorem obl0 : Pipeline.BodyObligationRel (dat0 V c) defs₀ 𝒱₀ 0 Set.univ fgt (Rl V c) := fun n => by
  rw [bigSep_W0, bigSep_W0]
  have h := WP_frame (R := rest5 c) (stage_obl V c n .rfl)
  refine BIBase.Entails.trans (show iprop((dat0 V c).Φ n.castSucc ∗ (dat0 V c).owesAt 0 n.castSucc
    ∗ (∃ d, owns (c : Thread nD τ) (st0_0 n) fullShare ((dat0 V c).before 0 n d))
    ∗ (∃ Z, ⌜((dat0 V c).toRRel fgt (Rl V c)).Finds 1 n Z⌝ ∗ owns (c : Thread nD τ) (st0_1 n) fullShare Z)
    ∗ (∃ Z, ⌜((dat0 V c).toRRel fgt (Rl V c)).Finds 2 n Z⌝ ∗ owns (c : Thread nD τ) (st0_2 n) fullShare Z)) ⊢ _ from ?_)
    (h.trans (wp_mono _ _ _ fun _ => (show _ ⊢ iprop((dat0 V c).Φ n.succ ∗ (dat0 V c).owesAt 0 n.succ
    ∗ owns (c : Thread nD τ) (st0_0 n) fullShare (Wv V c (colOf n))
    ∗ (∃ Z, ⌜(stepOf n).val = 3 → Z = yv (Xv V) (Wv V) c (colOf n)⌝ ∗ owns (c : Thread nD τ) (st0_1 n) fullShare Z)
    ∗ (∃ Z, ⌜n.val = 31 → Z = scl (Xv V) (Wv V) c⌝ ∗ owns (c : Thread nD τ) (st0_2 n) fullShare Z)) from ?_)))
  · iintro ⟨HP, HO, ⟨%d, H0⟩, ⟨%Z1, -, H1⟩, ⟨%Z2, -, H2⟩⟩
    icases (show (dat0 V c).Φ n.castSucc ⊢ iprop(Phi (Xv V) (Wv V) c n.val ∗ rest5 c) from .rfl) $$ HP with ⟨HP, H5⟩
    isplitr [H5]; rotate_left; · iexact H5
    isplitl [HP]; · iexact HP
    isplitl [HO]; · iapply (owesAt_elim0 V c n.castSucc); iexact HO
    isplitl [H0]; · iapply (Entails.of_eq (congrArg (owns (c : Thread nD τ) (st0_0 n) fullShare) (before0 V c n d))); iexact H0
    isplitl [H1]
    · iexists Z1; iexact H1
    · iexists Z2; iexact H2
  · iintro ⟨⟨HP, HO, HR⟩, H5⟩
    isplitl [HP H5]
    · iapply (show iprop(Phi (Xv V) (Wv V) c (n.val + 1) ∗ rest5 c) ⊢ (dat0 V c).Φ n.succ from .rfl)
      isplitl [HP] <;> iassumption
    isplitl [HO]; · iapply (owesAt_intro0 V c n.succ); iexact HO
    iexact HR

end Cert.KernelIdeal.Ring

end
-- ==== Proof.KernelIdeal.Epi.lean ====
/-
  The second call: at each point it rounds one block of `y` by the scale. Its data for the pipeline, and the obligation
  that its body keeps them.
-/
module

public import proofs.«01_k».proof.Proof.KernelIdeal.Data
public import Idealize.ShloMosaic.Lib.Pipeline.FrameBody

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat)

variable (V : Vals F) (c : Dev nD)

def Yb (t : Fin cfg1.N) : Vec F S1024x1024 .f32 := ((cfg1.win 0).blk t).view.read (Elt F) (V c main_v3_0)
def Sb (t : Fin cfg1.N) : Vec F S1x1 .f32 := ((cfg1.win 1).blk t).view.read (Elt F) (V c main_v3_1)

def dat1 : Dat τ (Elt F) Ix ℕ UU ℕ cfg1 c where
  A := fun | 0 => V c main_v3_0 | 1 => V c main_v3_1 | 2 => V c main_v4 | ⟨_ + 3, h⟩ => absurd h (Nat.not_lt.2 (Nat.le_add_left _ _))
  after := fun | 0 => Yb V c | 1 => Sb V c | 2 => fun t => k1_pay1 (Sb V c t) (Yb V c t)
               | ⟨_ + 3, h⟩ => absurd h (Nat.not_lt.2 (Nat.le_add_left _ _))
  Φ _ := Pipeline.scopedRest spec1 c
  q _ := fullShare
  owed _ := 0

theorem before1_0 (t : Fin cfg1.N) (d) : (dat1 V c).before 0 t d = Yb V c t :=
  (dat1 V c).before_in_eq_fetched 0 rfl (fun _ => rfl) (fun _ _ _ => rfl) (fun _ => rfl) t d
theorem before1_1 (t : Fin cfg1.N) (d) : (dat1 V c).before 1 t d = Sb V c t :=
  (dat1 V c).before_in_eq_fetched 1 rfl (fun _ => rfl) (fun _ _ _ => rfl) (fun _ => rfl) t d

theorem epi_spec (i : grid1.Coords) (m1 : Memref sig .tc .vmem S1024x1024 .f32) (h1 : m1.IsWhole) (m2 : Memref sig .tc .vmem S1x1 .f32) (h2 : m2.IsWhole)
    (m3 : Memref sig .tc .vmem S1024x1024 .f32) (h3 : m3.IsWhole) (y : Vec F S1024x1024 .f32) (s : Vec F S1x1 .f32) :
    iprop(piece m1 wR c y ∗ piece m2 R5 c s ∗ pieceAny m3 wR c)
      ⊢ WP c (cc1_epi_body i m1 h1 m2 h2 m3 h3) fun _ => iprop(piece m1 wR c y ∗ piece m2 R5 c s ∗ piece m3 wR c (k1_pay1 s y)) := by
  rw [cc1_epi_body_eq_skeleton]
  unfold cc1_epi_body_skel
  simp only [Prog.lift, Prog.bind_op, Prog.bind_ret]
  iintro ⟨H1, H2, H3⟩
  iapply (wp_load_piece (m := m2) (r := R5) c) $$ H2
  iintro H2
  iapply (wp_load_piece (m := m1) (r := wR) c) $$ H1
  iintro H1
  icases (any_piece (m := m3) (r := wR) c) $$ H3 with ⟨%w, H3⟩
  iapply (wp_load_piece (m := m3) (r := wR) c) $$ H3
  iintro H3
  ihave H3 := (piece_any m3 wR c w) $$ H3
  iapply (wp_store_piece (m := m3) (r := wR) c) $$ H3
  iintro H3
  iapply (WP_ret c)
  isplitl [H1]; · iexact H1
  isplitl [H2] <;> iassumption

theorem obl1 : Pipeline.BodyObligation (dat1 V c) (defs₀ (F := F)) 𝒱₀ 0 Set.univ := fun n => by
  rw [bigSep_W1, bigSep_W1]
  have h1 := piece_owns (F := F) (st1_0 n) off2_zero inb_S1024x1024_S1024x1024_0_0 c (Yb V c n)
  have h2 := piece_owns (F := F) (st1_1 n) off2_zero inb_S1x1_S1x1_0_0 c (Sb V c n)
  have h3 := pieceAny_owns (F := F) (st1_2 n) off2_zero inb_S1024x1024_S1024x1024_0_0 c
  have h3' := piece_owns (F := F) (st1_2 n) off2_zero inb_S1024x1024_S1024x1024_0_0 c (k1_pay1 (Sb V c n) (Yb V c n))
  have pre : iprop((dat1 V c).Φ n.castSucc ∗ (dat1 V c).owesAt 0 n.castSucc
      ∗ (∃ d, owns (c : Thread nD τ) (st1_0 n) fullShare ((dat1 V c).before 0 n d))
      ∗ (∃ d, owns (c : Thread nD τ) (st1_1 n) fullShare ((dat1 V c).before 1 n d))
      ∗ (∃ d, owns (c : Thread nD τ) (st1_2 n) fullShare ((dat1 V c).before 2 n d)))
      ⊢ iprop((piece (st1_0 n) wR c (Yb V c n) ∗ piece (st1_1 n) R5 c (Sb V c n) ∗ pieceAny (st1_2 n) wR c)
        ∗ ((dat1 V c).Φ n.succ ∗ (dat1 V c).owesAt 0 n.succ)) := by
    iintro ⟨HP, HO, ⟨%d, H0⟩, ⟨%d1, H1⟩, ⟨%d2, H2⟩⟩
    isplitr [HP HO]; rotate_left
    · isplitl [HP]; · iapply (show (dat1 V c).Φ n.castSucc ⊢ (dat1 V c).Φ n.succ from .rfl); iexact HP
      iapply (show (dat1 V c).owesAt 0 n.castSucc ⊢ (dat1 V c).owesAt 0 n.succ from .rfl); iexact HO
    isplitl [H0]
    · iapply h1.2; iapply (Entails.of_eq (congrArg (owns (c : Thread nD τ) (st1_0 n) fullShare) (before1_0 V c n d))); iexact H0
    isplitl [H1]
    · iapply h2.2; iapply (Entails.of_eq (congrArg (owns (c : Thread nD τ) (st1_1 n) fullShare) (before1_1 V c n d1))); iexact H1
    iapply h3.2; iexists _; iexact H2
  have post : iprop((piece (st1_0 n) wR c (Yb V c n) ∗ piece (st1_1 n) R5 c (Sb V c n) ∗ piece (st1_2 n) wR c (k1_pay1 (Sb V c n) (Yb V c n)))
        ∗ ((dat1 V c).Φ n.succ ∗ (dat1 V c).owesAt 0 n.succ))
      ⊢ iprop((dat1 V c).Φ n.succ ∗ (dat1 V c).owesAt 0 n.succ ∗ owns (c : Thread nD τ) (st1_0 n) fullShare ((dat1 V c).after 0 n)
        ∗ owns (c : Thread nD τ) (st1_1 n) fullShare ((dat1 V c).after 1 n) ∗ owns (c : Thread nD τ) (st1_2 n) fullShare ((dat1 V c).after 2 n)) := by
    iintro ⟨⟨H0, H1, H2⟩, HP, HO⟩
    isplitl [HP]; · iexact HP
    isplitl [HO]; · iexact HO
    isplitl [H0]; · iapply h1.1; iexact H0
    isplitl [H1]; · iapply h2.1; iexact H1
    iapply h3'.1; iexact H2
  exact BIBase.Entails.trans (show _ ⊢ _ from pre) ((WP_frame (epi_spec c (grid1.coords n) (st1_0 n) (hstage1_0 ((cfg1.slots n 0).cast nbuf1_0))
    (st1_1 n) (hstage1_1 ((cfg1.slots n 1).cast nbuf1_1)) (st1_2 n) (hstage1_2 ((cfg1.slots n 2).cast nbuf1_2)) (Yb V c n) (Sb V c n))).trans
    (wp_mono _ _ _ fun _ => post))

end Cert.KernelIdeal.Ring

end
-- ==== Proof.KernelIdeal.Exit.lean ====
/-
  What the first call's result arrays hold at its end: each block what its last write left.
-/
module

public import proofs.«01_k».proof.Proof.KernelIdeal.Epi
public import Idealize.ShloMosaic.Lib.Pipeline.ArrRel
public import Idealize.ShloMosaic.Lib.Pipeline.Value

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat RDat)

variable (V : Vals F) (c : Dev nD)

/-- Of two runs that leave the same from point `n₀` on, a block written from there on ends the same. -/
theorem last_wins {w : Fin cfg0.W} (d e : Dat τ (Elt F) Ix ℕ UU ℕ cfg0 c) (n₀ : ℕ)
    (h : ∀ t : Fin cfg0.N, n₀ ≤ t.val → (cfg0.win w).flush t = true → d.after w t = e.after w t) :
    ∀ (n : ℕ) (t : Fin cfg0.N), n₀ ≤ t.val → t.val < n → (cfg0.win w).flush t = true →
      ∀ i ∈ ((cfg0.win w).blk t).view.set, d.arrAt w n i = e.arrAt w n i
  | 0, _, _, ht, _, _, _ => absurd ht (Nat.not_lt_zero _)
  | n + 1, t, h0, ht, hf, i, hi => by
    rw [d.arrAt_succ_apply, e.arrAt_succ_apply]
    by_cases hn : n < cfg0.N
    swap
    · rw [dif_neg hn, dif_neg hn]
      exact last_wins d e n₀ h n t h0 (by have := t.isLt; omega) hf i hi
    rw [dif_pos hn, dif_pos hn]
    have ih : t.val ≠ n → d.arrAt w n i = e.arrAt w n i := fun hne => last_wins d e n₀ h n t h0 (by omega) hf i hi
    by_cases hfn : (cfg0.win w).flush ⟨n, hn⟩ = true
    · rw [if_pos hfn, if_pos hfn]
      have hfl : d.flushed w ⟨n, hn⟩ = e.flushed w ⟨n, hn⟩ := congrArg ((cfg0.win w).cut (cfg0.grid.coords ⟨n, hn⟩)) (h ⟨n, hn⟩ (by show n₀ ≤ n; omega) hfn)
      by_cases hin : i ∈ ((cfg0.win w).blk ⟨n, hn⟩).view.set
      · obtain ⟨y, rfl⟩ := View.exists_emb_of_mem_set _ hin
        rw [hfl, View.write_emb_of_mem _ _ (Finset.mem_univ y), View.write_emb_of_mem _ _ (Finset.mem_univ y)]
      · rw [View.write_of_not_mem _ _ _ (by rw [View.setOn_univ]; exact hin), View.write_of_not_mem _ _ _ (by rw [View.setOn_univ]; exact hin)]
        exact ih fun e => hin (by subst e; exact hi)
    · rw [if_neg hfn, if_neg hfn]
      exact ih fun e => hfn (by subst e; exact hf)

/-- The last step writes every block of `y`. -/
theorem last_cover : ∀ t : Fin cfg0.N, ∃ t' : Fin cfg0.N, 24 ≤ t'.val ∧ (cfg0.win 1).flush t' = true
    ∧ ∀ a, (cfg0.win 1).index t' a = (cfg0.win 1).index t a ∧ (cfg0.win 1).xsize (grid0.coords t') a = (cfg0.win 1).xsize (grid0.coords t) a := by
  decide +kernel
theorem covers1 : (cfg0.win 1).Covers := by decide +kernel
theorem whole2 : (cfg0.win 2).WholeAt ⟨31, lt_of_lt_of_eq (by decide) N_0.symm⟩ := by decide +kernel

variable [∀ e, Nonempty (Elt F e)]

theorem arr_y {G} (h : ((dat0 V c).toRRel fgt (Rl V c)).ArrAt 1 cfg0.N G) : G = (dat0 V c).arrAt 1 cfg0.N := by
  obtain ⟨Z, hZ, hA⟩ := h.exists_exact
  rw [hA (Function.update (dat0 V c).after 1 Z) fun u _ _ => by rw [Function.update_self]]
  funext i
  obtain ⟨t, hf, hi⟩ := covers1.cover _ (arr_whole0 1) i
  obtain ⟨t', h24, hf', hix⟩ := last_cover t
  have hi' : i ∈ ((cfg0.win 1).blk t').view.set := by
    obtain ⟨j, rfl⟩ := View.exists_emb_of_mem_set _ (show i ∈ (cfg0.win 1).arr.view.set from (arr_whole0 1).set_eq_univ ▸ Finset.mem_univ i)
    rw [(cfg0.win 1).emb_mem_blk_iff t' j]
    have := ((cfg0.win 1).emb_mem_blk_iff t j).mp hi
    intro a
    have e1 := (hix a).1; have e2 := (hix a).2
    have h' := this a
    exact e1 ▸ e2 ▸ h'
  refine last_wins c _ _ 24 (fun u hu hfu => ?_) cfg0.N t' h24 t'.isLt hf' i hi'
  show Function.update (dat0 V c).after 1 Z 1 u = _
  rw [Function.update_self]
  exact (dat0 V c).toRRel_leaves (w := 1) rfl (hZ u u.isLt hfu) (by rw [stepOf_val]; have := pt_lt u; omega)

theorem arr_s {G} (h : ((dat0 V c).toRRel fgt (Rl V c)).ArrAt 2 cfg0.N G) : G = (dat0 V c).arrAt 2 cfg0.N := by
  obtain ⟨Z, hZ, hj⟩ := h.emb_eq_of_wholeAt whole2
  have hZ' := (dat0 V c).toRRel_leaves (w := 2) rfl hZ rfl
  refine ((dat0 V c).arrAt_eq_of_after_last 2 _ whole2 G (fun j => ?_) (arr_whole0 2)).symm
  rw [hj, hZ']
  rfl

end Cert.KernelIdeal.Ring

end
-- ==== Proof.KernelIdeal.Regs.lean ====
/-
  The two kernel calls as regions of the program: what each is entered with and what it leaves.
-/
module

public import proofs.«01_k».proof.Proof.KernelIdeal.Exit
public import Idealize.ShloMosaic.Lib.Pipeline.RegionArrays

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline (Dat RDat)

variable (W : Dev nD → Valuation τ sig (Elt F)) (c : Dev nD)

/-- The contents as the first call finds them, and what the calls make of them. -/
abbrev Va : Vals F := fun c b => W c (Proc.devRef .tc b)
def Wb (c : Dev nD) : Valuation τ sig (Elt F) :=
  Function.update (Function.update (W c) (Proc.devRef .tc main_v3_0) ((dat0 (Va W) c).arrAt 1 cfg0.N)) (Proc.devRef .tc main_v3_1) ((dat0 (Va W) c).arrAt 2 cfg0.N)
def Wc (c : Dev nD) : Valuation τ sig (Elt F) := Function.update (W c) (Proc.devRef .tc main_v4) ((dat1 (Va W) c).arrAt 2 cfg1.N)

theorem Wb_of (r : Ref sig .tc) (h0 : r ≠ main_v3_0) (h1 : r ≠ main_v3_1) : Wb W c (Proc.devRef .tc r) = W c (Proc.devRef .tc r) := by
  unfold Wb
  rw [Function.update_of_ne (StableHlo.devRef_ne_of_ne h1), Function.update_of_ne (StableHlo.devRef_ne_of_ne h0)]
theorem Wc_of (r : Ref sig .tc) (h : r ≠ main_v4) : Wc W c (Proc.devRef .tc r) = W c (Proc.devRef .tc r) := by
  unfold Wc
  rw [Function.update_of_ne (StableHlo.devRef_ne_of_ne h)]
theorem Wb_0 : Wb W c (Proc.devRef .tc main_v3_0) = (dat0 (Va W) c).arrAt 1 cfg0.N := by
  unfold Wb
  rw [Function.update_of_ne (StableHlo.devRef_ne_of_ne (by decide)), Function.update_self]
theorem Wb_1 : Wb W c (Proc.devRef .tc main_v3_1) = (dat0 (Va W) c).arrAt 2 cfg0.N := by
  unfold Wb
  rw [Function.update_self]
theorem Wc_4 : Wc W c (Proc.devRef .tc main_v4) = (dat1 (Va W) c).arrAt 2 cfg1.N := by
  unfold Wc
  rw [Function.update_self]

/-- A buffer of the core, whole at its contents under `W`. -/
abbrev at_ (W : Dev nD → Valuation τ sig (Elt F)) (c : Dev nD) (b : Ref sig .tc) : sProp 𝕄 :=
  ((c : Thread nD τ).loc b) ↦{fullShare} W c (Proc.devRef .tc b)

theorem held0 : (StableHlo.held (c : Thread nD τ) (Pipeline.ucRefs τ sig) (W c) : sProp 𝕄)
    = iprop((at_ W c main_v2 ∗ at_ W c main_v3_0 ∗ at_ W c main_v3_1) ∗ at_ W c main_arg0 ∗ at_ W c main_arg1 ∗ at_ W c main_v1 ∗ at_ W c main_v4) := by
  rw [← Pipeline.unscopedBufs_held, Pipeline.unscopedBufs_split (fun p => cfgs p) 0 winFacts0.arr_unscoped winFacts0.arr_inj c, bigSep_W0]
  exact congrArg (fun P => iprop(_ ∗ P)) (unscopedRest0_eq c _)
theorem held1 : (StableHlo.held (c : Thread nD τ) (Pipeline.ucRefs τ sig) (W c) : sProp 𝕄)
    = iprop((at_ W c main_v3_0 ∗ at_ W c main_v3_1 ∗ at_ W c main_v4) ∗ at_ W c main_arg0 ∗ at_ W c main_arg1 ∗ at_ W c main_v1 ∗ at_ W c main_v2) := by
  rw [← Pipeline.unscopedBufs_held, Pipeline.unscopedBufs_split (fun p => cfgs p) 1 winFacts1.arr_unscoped winFacts1.arr_inj c, bigSep_W1]
  exact congrArg (fun P => iprop(_ ∗ P)) (unscopedRest1_eq c _)

/-- The two calls' data, one family. -/
def rdats (W W' : Dev nD → Valuation τ sig (Elt F)) : (p : Fin 2) → (c : Dev nD) → RDat τ (Elt F) Ix ℕ UU ℕ (Pipeline.pin (pcfgs (F := F)) adm p) c
  | 0 => fun c => (dat0 (Va W) c).toRRel fgt (Rl (Va W) c)
  | 1 => fun c => (dat1 (Va W') c).toR

theorem arrs0 (W' : Dev nD → Valuation τ sig (Elt F)) : ((rdats W W' 0 c).arrays (rdats W W' 0 c).A : sProp 𝕄)
    = iprop(at_ W c main_v2 ∗ at_ W c main_v3_0 ∗ at_ W c main_v3_1) := by
  show (((dat0 (Va W) c).toRRel fgt (Rl (Va W) c)).arrays _ : sProp 𝕄) = _
  unfold RDat.arrays
  rw [bigSep_W0]
  rw [(arr_whole0 0).set_eq_univ, (arr_whole0 1).set_eq_univ, (arr_whole0 2).set_eq_univ]
  rfl
theorem arrs1 (W' : Dev nD → Valuation τ sig (Elt F)) : ((rdats W W' 1 c).arrays (rdats W W' 1 c).A : sProp 𝕄)
    = iprop(at_ W' c main_v3_0 ∗ at_ W' c main_v3_1 ∗ at_ W' c main_v4) := by
  show (((dat1 (Va W') c).toR).arrays _ : sProp 𝕄) = _
  unfold RDat.arrays
  rw [bigSep_W1]
  rw [(arr_whole1 0).set_eq_univ, (arr_whole1 1).set_eq_univ, (arr_whole1 2).set_eq_univ]
  rfl

theorem arrsN0 [∀ e, Nonempty (Elt F e)] (W' : Dev nD → Valuation τ sig (Elt F)) : ((rdats W W' 0 c).arraysAt cfg0.N : sProp 𝕄)
    ⊢ iprop(at_ (Wb W) c main_v2 ∗ at_ (Wb W) c main_v3_0 ∗ at_ (Wb W) c main_v3_1) := by
  show (((dat0 (Va W) c).toRRel fgt (Rl (Va W) c)).arraysAt cfg0.N : sProp 𝕄) ⊢ _
  unfold RDat.arraysAt at_
  rw [bigSep_W0, Wb_0, Wb_1, Wb_of W c main_v2 (by decide) (by decide)]
  rw [(arr_whole0 0).set_eq_univ, (arr_whole0 1).set_eq_univ, (arr_whole0 2).set_eq_univ, RDat.ArrAt_in _ 0 rfl]
  iintro ⟨⟨%F0, %h0, H0⟩, ⟨%F1, %h1, H1⟩, ⟨%F2, %h2, H2⟩⟩
  obtain rfl := h0
  obtain rfl := arr_y (Va W) c h1
  obtain rfl := arr_s (Va W) c h2
  isplitl [H0]; · iexact H0
  isplitl [H1]; · iexact H1
  iexact H2
theorem arrsN1 [∀ e, Nonempty (Elt F e)] (W' : Dev nD → Valuation τ sig (Elt F)) : ((rdats W W' 1 c).arraysAt cfg1.N : sProp 𝕄)
    ⊢ iprop(at_ (Wc W') c main_v3_0 ∗ at_ (Wc W') c main_v3_1 ∗ at_ (Wc W') c main_v4) := by
  show ((dat1 (Va W') c).toR.arraysAt cfg1.N : sProp 𝕄) ⊢ _
  rw [(dat1 (Va W') c).toR_arraysAt_eq]
  unfold Dat.arrays at_
  rw [bigSep_W1, Wc_4, Wc_of W' c main_v3_0 (by decide), Wc_of W' c main_v3_1 (by decide)]
  rw [(arr_whole1 0).set_eq_univ, (arr_whole1 1).set_eq_univ, (arr_whole1 2).set_eq_univ]
  beta_reduce
  rw [(dat1 (Va W') c).arrAt_in 0 rfl, (dat1 (Va W') c).arrAt_in 1 rfl]
  exact .rfl

/-- What the launch gives each device for the first call. -/
def Begin (X : Dev nD → (main_v1 : Ref sig .tc).ty.Contents (Elt F)) (wv : Dev nD → Fin 8 → Vec F S1024x1024 .bf16) (c : Dev nD) : sProp 𝕄 :=
  iprop(∃ N, recs X wv N ∗ bigSep Finset.univ (fun k : Fin 10 => openTok ER (cell c k.castSucc)) ∗ Bars c ∗ Toks c ∗ Creds c)
def Begun (X : Dev nD → (main_v1 : Ref sig .tc).ty.Contents (Elt F)) (wv : Dev nD → Fin 8 → Vec F S1024x1024 .bf16) (c : Dev nD) : sProp 𝕄 :=
  iprop(∃ N, recs X wv N ∗ opened c ∗ Bars c ∗ Toks c ∗ Creds c)

theorem stage_low0 : ∀ (w : Fin cfg0.W) (s : Fin (cfg0.win w).nbuf), kd (.dma ((cfg0.win w).sem s)) = .other := by decide
theorem stage_low1 : ∀ (w : Fin cfg1.W) (s : Fin (cfg1.win w).nbuf), kd (.dma ((cfg1.win w).sem s)) = .other := by decide
theorem dlv_pos : ∀ y : Due, 0 < dlv y
  | .bar _ => Nat.one_pos | .tile 0 _ => Nat.succ_pos _ | .tile 1 _ => Nat.succ_pos _ | .tile 2 _ => Nat.succ_pos _ | .cr 0 _ => Nat.succ_pos _ | .cr 1 _ => Nat.succ_pos _ | .amax _ => Nat.succ_pos _

theorem xF_at : (xF (Xv (Va W)) c : sProp 𝕄) = at_ W c main_v1 := by
  unfold xF
  rw [show xM.view.set = Finset.univ from (Memref.isWhole_whole main_v1).set_eq_univ]

theorem begin_in : iprop(Begun (Xv (Va W)) (Wv (Va W)) c ∗ xF (Xv (Va W)) c ∗ Pipeline.scopedRest spec0 c) ⊢ ((dat0 (Va W) c).Φ 0 : sProp 𝕄) := by
  show _ ⊢ iprop(Phi (Xv (Va W)) (Wv (Va W)) c 0 ∗ rest5 c)
  rw [scopedRest0_eq]
  unfold Begun Phi St rest5
  rw [if_pos rfl]
  iintro ⟨⟨%N, HR, HO, HB, HT, HC⟩, HX, S0, S1, S2, S3, S4, G0, G1, G2, G3, G4, S12⟩
  isplitr [G0 G1 G2 G3 G4]
  · iexists N
    isplitl [HR]; · iexact HR
    iintro Ho
    iapply (opening (Xv (Va W)) (Wv (Va W)) c)
    isplitl [Ho]; · iexact Ho
    isplitl [HO]; · iexact HO
    isplitl [HB]; · iexact HB
    isplitl [HT]; · iexact HT
    isplitl [HC]; · iexact HC
    isplitr [HX]; rotate_left; · iexact HX
    iapply (slots_split c)
    isplitl [S0]; · iexact S0
    isplitl [S1]; · iexact S1
    isplitl [S2]; · iexact S2
    isplitl [S3]; · iexact S3
    isplitl [S4]; · iexact S4
    iexact S12
  isplitl [G0]; · iexact G0
  isplitl [G1]; · iexact G1
  isplitl [G2]; · iexact G2
  isplitl [G3]; · iexact G3
  iexact G4

theorem end_out [∀ e, Nonempty (Elt F e)] : ((dat0 (Va W) c).Φ (Fin.last cfg0.N) : sProp 𝕄)
    ⊢ iprop((semVal (cell c 10) 0 ∗ xF (Xv (Va W)) c) ∗ Pipeline.ownSems0 own0 c ∗ Pipeline.scopedRest spec0 c) := by
  refine (show _ ⊢ iprop(Phi (Xv (Va W)) (Wv (Va W)) c 32 ∗ rest5 c) from Entails.of_eq (congrArg (fun n => iprop(Phi (Xv (Va W)) (Wv (Va W)) c n ∗ rest5 c)) (show cfg0.N = 32 from N_0))).trans ?_
  rw [scopedRest0_eq]
  unfold Phi St rest5
  rw [if_neg (by decide), if_neg (by decide)]
  unfold Closed
  iintro ⟨⟨%N, -, Hb, Hs, HS, HX⟩, G0, G1, G2, G3, G4⟩
  icases (slots_join c) $$ HS with ⟨S0, S1, S2, S3, S4, S12⟩
  isplitl [Hb HX]
  · isplitl [Hb] <;> iassumption
  isplitl [Hs]; · iexact Hs
  isplitl [S0]; · iexact S0
  isplitl [S1]; · iexact S1
  isplitl [S2]; · iexact S2
  isplitl [S3]; · iexact S3
  isplitl [S4]; · iexact S4
  isplitl [G0]; · iexact G0
  isplitl [G1]; · iexact G1
  isplitl [G2]; · iexact G2
  isplitl [G3]; · iexact G3
  isplitl [G4]; · iexact G4
  iexact S12

theorem own_facts : Pipeline.OwnSemFacts spec0 own0 := by decide

theorem owes_end : ((dat0 (Va W) c).owesAt 0 (Fin.last cfg0.N) : sProp 𝕄) ⊢ owesL c 33 := by
  have e : ∀ n, n = 32 → (owesL c (pl n) : sProp 𝕄) ⊢ owesL c 33 := fun n h => by
    subst h
    exact .rfl
  exact (owesAt_elim0 (Va W) c (Fin.last cfg0.N)).trans (e _ N_0)
theorem owes_same (W' : Dev nD → Valuation τ sig (Elt F)) :
    ((rdats W W' 0 c).owesAt 0 (Fin.last (Pipeline.pin (pcfgs (F := F)) adm 0).N) : sProp 𝕄) = (dat0 (Va W) c).owesAt 0 (Fin.last cfg0.N) := rfl

theorem at_b (r : Ref sig .tc) (h0 : r ≠ main_v3_0) (h1 : r ≠ main_v3_1) : (at_ W c r : sProp 𝕄) ⊢ at_ (Wb W) c r := by
  unfold at_
  rw [Wb_of W c r h0 h1]
theorem at_c (r : Ref sig .tc) (h : r ≠ main_v4) : (at_ W c r : sProp 𝕄) ⊢ at_ (Wc W) c r := by
  unfold at_
  rw [Wc_of W c r h]

theorem entry0 (W' : Dev nD → Valuation τ sig (Elt F)) :
    iprop((StableHlo.held (c : Thread nD τ) (Pipeline.ucRefs τ sig) (W c) ∗ owesL c 0 ∗ Begin (Xv (Va W)) (Wv (Va W)) c) ∗ Pipeline.ownSems0 own0 c ∗ levAts L lv)
      ⊢ (|={Set.univ}=> ((rdats W W' 0 c).arrays (rdats W W' 0 c).A ∗ emp ∗ (dat0 (Va W) c).owesAt 0 0
          ∗ (Begun (Xv (Va W)) (Wv (Va W)) c ∗ xF (Xv (Va W)) c) ∗ at_ W c main_arg0 ∗ at_ W c main_arg1 ∗ at_ W c main_v4) : sProp 𝕄) := by
  rw [arrs0, held0]
  unfold Begin Begun
  iintro ⟨⟨⟨HA, H0, H1, HX, H4⟩, HO, ⟨%N, #HR, Hop, HT⟩⟩, Hos, -⟩
  imod (open_all (Xv (Va W)) (Wv (Va W)) N c) $$ [Hop Hos] with Hop
  · isplitr; · iexact HR
    isplitl [Hop] <;> iassumption
  imodintro
  isplitl [HA]; · iexact HA
  isplitr; · iempintro
  isplitl [HO]; · iapply (owesAt_intro0 (Va W) c 0); iexact HO
  isplitr [H0 H1 H4]
  · isplitr [HX]
    · iexists N
      isplitr; · iexact HR
      isplitl [Hop]; · iexact Hop
      iexact HT
    · iapply (Entails.of_eq (xF_at W c).symm); iexact HX
  isplitl [H0]; · iexact H0
  isplitl [H1] <;> iassumption

theorem exit0 [∀ e, Nonempty (Elt F e)] (W' : Dev nD → Valuation τ sig (Elt F)) :
    iprop((rdats W W' 0 c).arraysAt (Pipeline.pin (pcfgs (F := F)) adm 0).N ∗ (rdats W W' 0 c).owesAt 0 (Fin.last (Pipeline.pin (pcfgs (F := F)) adm 0).N) ∗ (semVal (cell c 10) 0 ∗ xF (Xv (Va W)) c)
        ∗ at_ W c main_arg0 ∗ at_ W c main_arg1 ∗ at_ W c main_v4)
      ⊢ (|={Set.univ}=> (StableHlo.held (c : Thread nD τ) (Pipeline.ucRefs τ sig) (Wb W c) ∗ owesL c 33 ∗ semVal (cell c 10) 0) : sProp 𝕄) := by
  rw [held0 (Wb W) c, xF_at, owes_same]
  iintro ⟨HA, HO, ⟨Hb, HX⟩, H0, H1, H4⟩
  imodintro
  isplitr [HO Hb]
  · isplitl [HA]; · iapply (arrsN0 W c W'); iexact HA
    isplitl [H0]; · iapply (at_b W c main_arg0 (by decide) (by decide)); iexact H0
    isplitl [H1]; · iapply (at_b W c main_arg1 (by decide) (by decide)); iexact H1
    isplitl [HX]; · iapply (at_b W c main_v1 (by decide) (by decide)); iexact HX
    iapply (at_b W c main_v4 (by decide) (by decide)); iexact H4
  isplitr [Hb]; rotate_left; · iexact Hb
  iapply (owes_end W c); iexact HO

theorem entry1 (W' : Dev nD → Valuation τ sig (Elt F)) :
    iprop((StableHlo.held (c : Thread nD τ) (Pipeline.ucRefs τ sig) (W' c) ∗ owesL c 33 ∗ semVal (cell c 10) 0) ∗ emp ∗ levAts L lv)
      ⊢ (|={Set.univ}=> ((rdats W W' 1 c).arrays (rdats W W' 1 c).A ∗ emp ∗ (dat1 (Va W') c).owesAt 0 0
          ∗ emp ∗ (at_ W' c main_arg0 ∗ at_ W' c main_arg1 ∗ at_ W' c main_v1 ∗ at_ W' c main_v2) ∗ semVal (cell c 10) 0) : sProp 𝕄) := by
  rw [arrs1, held1]
  unfold owesL Dat.owesAt Pipeline.owesWithin
  rw [left_end le_rfl, owing_empty]
  iintro ⟨⟨⟨HA, HR⟩, ⟨%Wd, HO⟩, Hb⟩, -, -⟩
  imodintro
  isplitl [HA]; · iexact HA
  isplitr; · iempintro
  isplitl [HO]
  · iexists Wd; isplitr; · ipureintro; exact fun _ _ => Or.inl trivial
    iapply (show (owes (c : Thread nD τ) 0 Wd : sProp 𝕄) ⊢ owes (c : Thread nD τ) ((dat1 (Va W') c).owed 0) Wd from .rfl)
    iexact HO
  isplitr; · iempintro
  isplitl [HR] <;> iassumption

theorem exit1 [∀ e, Nonempty (Elt F e)] (W' : Dev nD → Valuation τ sig (Elt F)) :
    iprop((rdats W W' 1 c).arraysAt (Pipeline.pin (pcfgs (F := F)) adm 1).N ∗ (rdats W W' 1 c).owesAt 0 (Fin.last (Pipeline.pin (pcfgs (F := F)) adm 1).N) ∗ emp
        ∗ (at_ W' c main_arg0 ∗ at_ W' c main_arg1 ∗ at_ W' c main_v1 ∗ at_ W' c main_v2) ∗ semVal (cell c 10) 0)
      ⊢ (|={Set.univ}=> ((StableHlo.held (c : Thread nD τ) (Pipeline.ucRefs τ sig) (Wc W' c) ∗ semVal (cell c 10) 0) ∗ owesL c 33) : sProp 𝕄) := by
  rw [held1 (Wc W') c, show ((rdats W W' 1 c).owesAt 0 (Fin.last (Pipeline.pin (pcfgs (F := F)) adm 1).N) : sProp 𝕄) = (dat1 (Va W') c).owesAt 0 (Fin.last cfg1.N) from rfl]
  unfold owesL Dat.owesAt Pipeline.owesWithin
  rw [left_end le_rfl, owing_empty]
  iintro ⟨HA, ⟨%Wd, -, HO⟩, -, ⟨H0, H1, HX, H2⟩, Hb⟩
  imodintro
  isplitr [HO]
  · isplitr [Hb]; rotate_left; · iexact Hb
    isplitl [HA]; · iapply (arrsN1 W c W'); iexact HA
    isplitl [H0]; · iapply (at_c W' c main_arg0 (by decide)); iexact H0
    isplitl [H1]; · iapply (at_c W' c main_arg1 (by decide)); iexact H1
    isplitl [HX]; · iapply (at_c W' c main_v1 (by decide)); iexact HX
    iapply (at_c W' c main_v2 (by decide)); iexact H2
  iexists Wd
  iapply (show (owes (c : Thread nD τ) ((dat1 (Va W') c).owed (Fin.last cfg1.N)) Wd : sProp 𝕄) ⊢ owes (c : Thread nD τ) 0 Wd from .rfl)
  iexact HO

set_option backward.isDefEq.respectTransparency.types false in
/-- The first call. -/
def reg0 [∀ e, Nonempty (Elt F e)] (W' : Dev nD → Valuation τ sig (Elt F)) : RDat.RegionSeg (pcfgs (F := F)) adm (rdats W W') 0 defs₀ 𝒱₀ L lv 0 where
  win := winFacts0.to₀
  block_pos := block_pos0
  stage_whole := stage_whole0
  K := Fin 10
  osem := own0
  ho := own_facts
  hbody c := (obl0 (Va W) c).toRRel
  hwaits c := RDat.cellsWaits_intro (Pipeline.pin (pcfgs (F := F)) adm) (rdats W W') 0 0 c fun w s t =>
    mayWait c _ 0 _ fun y _ => by
      rw [show kd (.dma (((Pipeline.pin (pcfgs (F := F)) adm 0).win w).sem s)) = .other from stage_low0 w s]; exact dlv_pos y
  pre c := iprop(StableHlo.held (c : Thread nD τ) (Pipeline.ucRefs τ sig) (W c) ∗ owesL c 0 ∗ Begin (Xv (Va W)) (Wv (Va W)) c)
  post c := iprop(StableHlo.held (c : Thread nD τ) (Pipeline.ucRefs τ sig) (Wb W c) ∗ owesL c 33 ∗ semVal (cell c 10) 0)
  X c := iprop(Begun (Xv (Va W)) (Wv (Va W)) c ∗ xF (Xv (Va W)) c)
  Y c := iprop(semVal (cell c 10) 0 ∗ xF (Xv (Va W)) c)
  Z c := iprop(at_ W c main_arg0 ∗ at_ W c main_arg1 ∗ at_ W c main_v4)
  hentry c := by rw [Pipeline.prefHeld_of_none _ rfl]; exact entry0 W c W'
  hin c := by
    rw [Pipeline.prefHeld_of_none _ rfl]
    refine BIBase.Entails.trans ?_ (begin_in W c)
    iintro ⟨⟨HB, HX⟩, -, HS⟩
    isplitl [HB]; · iexact HB
    isplitl [HX] <;> iassumption
  hout c := end_out W c
  hexit c := exit0 W c W'

set_option backward.isDefEq.respectTransparency.types false in
/-- The second call. -/
def reg1 [∀ e, Nonempty (Elt F e)] (W' : Dev nD → Valuation τ sig (Elt F)) : RDat.RegionSeg (pcfgs (F := F)) adm (rdats W W') 0 defs₀ 𝒱₀ L lv 1 where
  win := winFacts1.to₀
  block_pos := block_pos1
  stage_whole := stage_whole1
  K := PEmpty
  osem := fun k => k.elim
  ho := .none _
  hbody c := (obl1 (Va W') c).toR
  hwaits c := (show (levAts L lv : sProp 𝕄) ⊢ BI.emp from by iintro -; iempintro).trans (RDat.cellsWaits_of_owed_zero (Pipeline.pin (pcfgs (F := F)) adm) (rdats W W') 0 1 c fun _ => rfl)
  pre c := iprop(StableHlo.held (c : Thread nD τ) (Pipeline.ucRefs τ sig) (W' c) ∗ owesL c 33 ∗ semVal (cell c 10) 0)
  post c := iprop((StableHlo.held (c : Thread nD τ) (Pipeline.ucRefs τ sig) (Wc W' c) ∗ semVal (cell c 10) 0) ∗ owesL c 33)
  X c := iprop(emp)
  Y c := iprop(emp)
  Z c := iprop((at_ W' c main_arg0 ∗ at_ W' c main_arg1 ∗ at_ W' c main_v1 ∗ at_ W' c main_v2) ∗ semVal (cell c 10) 0)
  hentry c := by rw [Pipeline.prefHeld_of_none _ rfl, Pipeline.ownSems0_none]; exact entry1 W c W'
  hin c := by
    rw [Pipeline.prefHeld_of_none _ rfl]
    refine (show _ ⊢ Pipeline.scopedRest spec1 c from ?_)
    iintro ⟨-, -, HS⟩
    iexact HS
  hout c := by
    rw [Pipeline.ownSems0_none]
    refine (show Pipeline.scopedRest spec1 c ⊢ iprop(emp ∗ emp ∗ Pipeline.scopedRest spec1 c) from ?_)
    iintro HS
    isplitr; · iempintro
    isplitr; · iempintro
    iexact HS
  hexit c := exit1 W c W'

end Cert.KernelIdeal.Ring

end
-- ==== Proof.KernelIdeal.Run.lean ====
/-
  The run: the launch's state makes what each device starts from, the program is its host part and its two calls, and
  what the memory holds at the end.
-/
module

public import proofs.«01_k».proof.Proof.KernelIdeal.Deal
public import proofs.«01_k».proof.Proof.KernelIdeal.Regs
public import Idealize.ShloMosaic.Lib.Pipeline.Regions
public import proofs.«01_k».proof.Proof.Gen.KernelIdeal.Regions

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.Pipeline

variable (m : (ℓ : Loc nD τ sig) → Buf (Elt F) ℓ) (g : Dev nD → PrngReg)

/-! ## The launch -/

omit [FloatOps F] in
theorem apart {Φ Ψ : Dev nD → sProp 𝕄} : bigSep Finset.univ (fun c => iprop(Φ c ∗ Ψ c)) ⊢ iprop(bigSep Finset.univ Φ ∗ bigSep Finset.univ Ψ) :=
  Entails.of_eq (by rw [bigSep_sep'])
omit [FloatOps F] in
theorem pair {Φ Ψ : Dev nD → sProp 𝕄} : iprop(bigSep Finset.univ Φ ∗ bigSep Finset.univ Ψ) ⊢ bigSep Finset.univ (fun c => iprop(Φ c ∗ Ψ c)) :=
  Entails.of_eq (by rw [bigSep_sep'])

def barEmb : Dev nD ↪ GSem nD τ sig := ⟨fun c => cell c 10, fun _ _ h => (cell_injective h).1⟩
def ownEmb : Dev nD × Fin 10 ↪ GSem nD τ sig := ⟨fun p => cell p.1 p.2.castSucc, fun _ _ h =>
  Prod.ext (cell_injective h).1 (Fin.castSucc_injective _ (cell_injective h).2)⟩
/-- The barrier's cells are live from the launch, the calls' own cells are opened when the first call begins. -/
abbrev barCells : Finset (GSem nD τ sig) := Finset.univ.map barEmb
abbrev ownCells : Finset (GSem nD τ sig) := Finset.univ.map ownEmb
theorem disjoint_cells : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact (Fin.castSucc_lt_last p.2).ne (cell_injective h).2
theorem cell_mem (c : Dev nD) (k : Fin 11) : cell c k ∈ (barCells ∪ ownCells : Finset (GSem nD τ sig)) := by
  by_cases h : k = 10
  · subst h; exact Finset.mem_union_left _ (Finset.mem_map_of_mem barEmb (Finset.mem_univ c))
  · refine Finset.mem_union_right _ (Finset.mem_map.mpr ⟨(c, ⟨k.val, by omega⟩), Finset.mem_univ _, rfl⟩)

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells ownCells allToks)
/-- The calls' own part of it, all on device 0. -/
def G (c : Dev nD) : sProp 𝕄 := if c = 0 then BI.own (ER (launchOf barCells ownCells allToks)) else iprop(emp)
omit [FloatOps F] in
theorem G_all : bigSep Finset.univ (G (F := F)) = BI.own (ER (launchOf barCells ownCells allToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

omit [FloatOps F] in
theorem unscoped_sems (c : Dev nD) : (unscopedSems0 c : sProp 𝕄) = semVal (cell c 10) 0 := by
  unfold unscopedSems0
  rw [show (Finset.univ.filter fun sm : SemLoc sig => ¬ sm.isScoped .tc) = {SemLoc.reg barS} from by decide, BI.bigSep_singleton]

variable (X : Dev nD → (main_v1 : Ref sig .tc).ty.Contents (Elt F)) (wv : Dev nD → Fin 8 → Vec F S1024x1024 .bf16)

/-- What every device may consult: the invariants, and round 0 of every barrier cell. -/
def book (N : Names) : sProp 𝕄 := iprop(recs X wv N ∗ bigSep Finset.univ fun c : Dev nD => reached ER (cell c 10) 0)
instance book_persistent (N : Names) : BI.Persistent (book X wv N) := by unfold book; infer_instance

omit [FloatOps F] in
theorem reached_bar (c : Dev nD) : (bigSep Finset.univ fun c : Dev nD => (reached ER (cell c 10) 0 : sProp 𝕄)) ⊢ reached ER (cell c 10) 0 :=
  BI.bigSep_elim (Finset.mem_univ c)

/-- What a device holds of its own. -/
def hold (c : Dev nD) : sProp 𝕄 :=
  iprop(owes (c : Thread nD τ) (O₀ c) ∅ ∗ (bigSep Finset.univ (fun k : Fin 10 => openTok ER (cell c k.castSucc))
    ∗ (atPos ER (cell c 10) 0 ∅ 0 ∗ (Toks c ∗ Creds c))))

theorem begin_of (N : Names) (c : Dev nD) : iprop(book X wv N ∗ hold c) ⊢ iprop(owesL c 0 ∗ Begin X wv c) := by
  unfold book hold Begin Bars owesL
  iintro ⟨⟨#HR, #Hb⟩, HO, Hop, Hat, HT, HC⟩
  isplitl [HO]
  · iexists ∅; iexact HO
  iexists N
  isplitr; · iexact HR
  isplitl [Hop]; · iexact Hop
  isplitl [Hat]
  · isplitl [Hat]; · iexact Hat
    isplitr; · iapply (reached_bar (F := F) (side c 0)); iexact Hb
    iapply (reached_bar (F := F) (side c 1)); iexact Hb
  isplitl [HT]; · iexact HT
  iexact HC

omit [FloatOps F] in
theorem toks_all : bigSep allToks (fun x => (dutyTok ER x.1 x.2.1 x.2.2 : sProp 𝕄))
    ⊢ iprop(bigSep Finset.univ (fun c : Dev nD => Toks c) ∗ bigSep Finset.univ (fun p : Dev nD × Fin 2 => J (F := F) p.1 p.2)) := by
  unfold allToks
  rw [BI.bigSep_map, BI.bigSep_univ_prod, BI.bigSep_univ_prod (fun p : Dev nD × Fin 2 => J (F := F) p.1 p.2), ← bigSep_sep']
  exact BI.bigSep_mono fun c _ => toks_dealt c

/-- The launch's ghost state, the barriers' counters and what each device is dealt make what the program starts from. -/
theorem start_all :
    iprop((bigSep Finset.univ fun c : Dev nD => iprop(unscopedSems0 c ∗ owes (c : Thread nD τ) (O₀ c) ∅ ∗ Pipeline.launchCred O₀ c ∗ prngReg c (g c) ∗ G c)) ∗ levAts L lv)
      ⊢ (|={Set.univ}=> bigSep Finset.univ fun c : Dev nD => iprop(owesL c 0 ∗ Begin X wv c) : sProp 𝕄) := by
  have hcore (c : Dev nD) : iprop(unscopedSems0 c ∗ owes (c : Thread nD τ) (O₀ c) ∅ ∗ Pipeline.launchCred O₀ c ∗ prngReg c (g c) ∗ G c)
      ⊢ (iprop((semVal (cell c 10) 0 ∗ G c) ∗ (owes (c : Thread nD τ) (O₀ c) ∅ ∗ Creds c)) : sProp 𝕄) := by
    rw [unscoped_sems]
    iintro ⟨Hs, HO, Hc, -, HG⟩
    isplitl [Hs HG]
    · isplitl [Hs] <;> iassumption
    isplitl [HO]; · iexact HO
    iapply (creds_dealt c); iexact Hc
  have hv : bigSep Finset.univ (fun c : Dev nD => (semVal (cell c 10) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c 10) 0 ∅ 0 : sProp 𝕄)) :=
    Entails.of_eq (BI.bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (cell c 10) 0 : sProp 𝕄)) :=
    Entails.of_eq (BI.bigSep_map (s := Finset.univ) barEmb (Φ := fun g : GSem nD τ sig => (reached ER g 0 : sProp 𝕄)))
  have hopen : bigSep ownCells (fun g => (openTok ER g : sProp 𝕄))
      ⊢ bigSep Finset.univ (fun c : Dev nD => bigSep Finset.univ (fun k : Fin 10 => (openTok ER (cell c k.castSucc) : sProp 𝕄))) :=
    Entails.of_eq (by rw [BI.bigSep_map, BI.bigSep_univ_prod]; rfl)
  have hcells (κ : GSem nD τ sig → ℕ) : bigSep (barCells ∪ ownCells) (fun g => (cellInv ER (Rd X wv) (κ g) g : sProp 𝕄))
      ⊢ bigSep Finset.univ (fun p : Dev nD × Fin 11 => cellInv ER (Rd X wv) (κ (cell p.1 p.2)) (cell p.1 p.2)) := by
    refine (BI.bigSep_subset (t := Finset.univ.map (⟨fun p : Dev nD × Fin 11 => cell p.1 p.2, fun _ _ h =>
      Prod.ext (cell_injective h).1 (cell_injective h).2⟩ : Dev nD × Fin 11 ↪ GSem nD τ sig)) (fun g hg => ?_)).trans ?_
    · obtain ⟨p, -, rfl⟩ := Finset.mem_map.mp hg; exact cell_mem p.1 p.2
    rw [BI.bigSep_map]; exact BI.Entails.refl _
  iintro ⟨H, #Hlev⟩
  ihave H' := (show (bigSep Finset.univ fun c : Dev nD => iprop(unscopedSems0 c ∗ owes (c : Thread nD τ) (O₀ c) ∅ ∗ Pipeline.launchCred O₀ c ∗ prngReg c (g c) ∗ G c))
      ⊢ (bigSep Finset.univ fun c : Dev nD => iprop((semVal (cell c 10) 0 ∗ G c) ∗ (owes (c : Thread nD τ) (O₀ c) ∅ ∗ Creds c)) : sProp 𝕄)
      from BI.bigSep_mono fun c _ => hcore c) $$ H
  ihave H2 := apart $$ H'; icases H2 with ⟨H3, H4⟩
  ihave H5 := apart $$ H3; icases H5 with ⟨Hv, HG⟩
  ihave H6 := apart $$ H4; icases H6 with ⟨HO, HC⟩
  ihave Hu := (Entails.of_eq (G_all (F := F))) $$ HG
  imod (Rounds.fund_launch ER (Rd X wv) disjoint_cells (fun g _ h => h) allToks) $$ [Hv Hu] with ⟨%κ, -, #Hinv, #Hr, Hat, Hopen, Htok⟩
  · isplitl [Hv]
    · iapply hv $$ Hv
    · iexact Hu
  ihave Ht := (toks_all (F := F)) $$ Htok
  icases Ht with ⟨HT, HJ⟩
  imod (inv_alloc_family (Finset.univ : Finset (Dev nD × Fin 2)) (fun p => J (F := F) p.1 p.2) ((barCells ∪ ownCells).image κ)) $$ HJ with ⟨%ι, %hι, #HJ⟩
  imodintro
  iapply (bigSep_with_persistent (R := book X wv ⟨fun c k => κ (cell c k), fun c d => ι (c, d), fun w d h =>
    hι.2 (w, d) (Finset.mem_univ _) (Finset.mem_image.mpr ⟨_, cell_mem w (crI d), h⟩)⟩) (Φ := hold) fun c _ => begin_of X wv _ c)
  isplitr
  · unfold book recs
    isplitr
    · isplitr; · iapply (hcells κ); iexact Hinv
      isplitr; · iexact HJ
      iexact Hlev
    iapply hre; iexact Hr
  unfold hold
  iapply pair; isplitl [HO]; · iexact HO
  iapply pair; isplitl [Hopen]; · iapply hopen $$ Hopen
  iapply pair; isplitl [Hat]; · iapply hat $$ Hat
  iapply pair; isplitl [HT]; · iexact HT
  iexact HC

/-! ## The program -/

/-- The state the first call begins at. -/
abbrev Vs (c : Dev nD) : Valuation τ sig (Elt F) := V1 m c
/-- What the segments hold beside the buffers before the first call. -/
def ride (c : Dev nD) : sProp 𝕄 := iprop(owesL c 0 ∗ Begin (Xv (Va (Vs m))) (Wv (Va (Vs m))) c)

/-- The program on a device: its host operations, the first call, the second. -/
def segs [∀ e, Nonempty (Elt F e)] (c : Dev nD) : List (RDat.Seg (pcfgs (F := F)) adm (rdats (Vs m) (Wb (Vs m))) 0 defs₀ 𝒱₀ L lv) :=
  [.host (seg0 m 𝒱₀ L lv fun _ => ride m), .region (reg0 (Vs m) (Wb (Vs m))), .region (reg1 (Vs m) (Wb (Vs m)))]

theorem unscoped_eq : ∀ sm : SemLoc sig, sm.isScoped .tc = false → sm = .reg barS := by decide
theorem L_of_ne (g : GSem nD τ sig) (h : g.1.2 ≠ .tc) : L g = ∅ := if_neg h

set_option backward.isDefEq.respectTransparency.types false in
/-- From any memory with zero counters every weakly fair execution ends, and at its end every buffer that outlives the
    calls holds what `Wc` says and every counter is zero. -/
theorem run_main [∀ e, Nonempty (Elt F e)] : θ_run defs (onTc (τ := τ) (main (F := F))) ⟨m, fun _ => 0, g⟩
    (fun r => (∀ c : Dev nD, ∀ b ∈ Pipeline.ucRefs τ sig, r.2.mem (c, b) = Wc (Wb (Vs m)) c b) ∧ r.2.sem = fun _ => 0) :=
  RDat.θ_run_regions_kit_dev_sems (pcfgs (F := F)) adm (rdats (Vs m) (Wb (Vs m))) 0 cellOf_inj EP defs₀ 𝒱₀ L lv m g main (segs m)
    (fun c Q => by
      rewrite [main_chain c, RDat.Seg.run_eq_chain,
        show (segs m c).map RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, RDat.Seg.pipes_host, RDat.Seg.pipes_region, RDat.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      iapply (Entails.of_eq (G_all (F := F)).symm); iexact HX)
    (T₀ := fun c => iprop(StableHlo.held (c : Thread nD τ) (Pipeline.ucRefs τ sig) (V0 m c) ∗ ride m c))
    (Tₙ := fun c => iprop(StableHlo.held (c : Thread nD τ) (Pipeline.ucRefs τ sig) (Wc (Wb (Vs m)) c) ∗ semVal (cell c 10) 0))
    (hch := fun c => ⟨.rfl, .rfl, .rfl, by
      show iprop((StableHlo.held (c : Thread nD τ) (Pipeline.ucRefs τ sig) (Wc (Wb (Vs m)) c) ∗ semVal (cell c 10) 0) ∗ owesL c 33)
        ⊢ iprop((StableHlo.held (c : Thread nD τ) (Pipeline.ucRefs τ sig) (Wc (Wb (Vs m)) c) ∗ semVal (cell c 10) 0)
          ∗ ∃ W, owes (c : Thread nD τ) (0 : CellTallies nD τ sig Ix) W)
      unfold owesL; rw [left_end le_rfl, owing_empty]⟩)
    (hinit := by
      have hsplit : (bigSep Finset.univ fun c : Dev nD => iprop(unscopedBufs c (fun b => m ((c.tc : Thread nD τ).loc b)) ∗ unscopedSems0 c
            ∗ owes (c.tc : Thread nD τ) (O₀ c) ∅ ∗ Pipeline.launchCred O₀ c ∗ prngReg c (g c) ∗ G c))
          ⊢ (iprop((bigSep Finset.univ fun c : Dev nD => StableHlo.held (c : Thread nD τ) (Pipeline.ucRefs τ sig) (V0 m c))
              ∗ bigSep Finset.univ fun c : Dev nD => iprop(unscopedSems0 c ∗ owes (c : Thread nD τ) (O₀ c) ∅ ∗ Pipeline.launchCred O₀ c ∗ prngReg c (g c) ∗ G c))
              : sProp 𝕄) := by
        rw [← bigSep_sep']
        exact BI.bigSep_mono fun c _ => by rw [← Pipeline.unscopedBufs_held (Ix := Ix) (Name := ℕ) (U := UU) (Lvl := ℕ) c (V0 m c)]; exact BI.Entails.refl _
      iintro ⟨H, Hla⟩
      ihave H' := hsplit $$ H
      icases H' with ⟨Hh, Hr⟩
      imod (start_all g (Xv (Va (Vs m))) (Wv (Va (Vs m)))) $$ [Hr Hla] with HE
      · isplitl [Hr]; · iexact Hr
        iexact Hla
      imodintro
      iapply pair
      isplitl [Hh]; · iexact Hh
      iexact HE)
    (QY := fun c s => (∀ b ∈ Pipeline.ucRefs τ sig, s.mem (c, b) = Wc (Wb (Vs m)) c b) ∧ s.sem (cell c 10) = 0)
    (hfin := fun c s' => by
      unfold StableHlo.held
      iintro ⟨⟨Hh, Hb0⟩, HSI⟩
      icombine HSI Hb0 gives %hb
      ihave Hr := (pointsTo_read_all (Pipeline.ucRefs τ sig) (fun b => ((c : Thread nD τ).1, b)) (Wc (Wb (Vs m)) c) s') $$ [Hh HSI]
      · isplitl [Hh] <;> iassumption
      icases Hr with ⟨%h, HSI⟩
      imodintro
      isplitr
      · ipureintro; exact ⟨h, by simpa using hb⟩
      iexact HSI)
    (hQ := fun s h hs => ⟨fun c => (h c).1,
      sem_eq_zero hs fun c sm hsm => by
        obtain rfl := unscoped_eq sm hsm
        exact (h c).2⟩)

end Cert.KernelIdeal.Ring

end
-- ==== Proof.KernelIdeal.Frame.lean ====
/-
  The frame of the idealized program: it ends, its arguments are as they were, every counter is zero.
-/
module

public import proofs.«01_k».proof.Proof.KernelIdeal.Run

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

variable (m : (ℓ : Loc nD τ sig) → Buf (Elt F) ℓ) (g : Dev nD → PrngReg)

theorem mem_uc (r : Ref sig .tc) (h : ¬ (Proc.devRef .tc r : DevRef τ sig).isScoped) : (Proc.devRef .tc r : DevRef τ sig) ∈ Pipeline.ucRefs τ sig :=
  Finset.mem_filter.mpr ⟨StableHlo.devRef_mem_tcRefs r, h⟩

/-- An argument is nobody's to write. -/
theorem end_arg (c : Dev nD) (r : Ref sig .tc) (h4 : r ≠ main_v4) (h0 : r ≠ main_v3_0) (h1 : r ≠ main_v3_1) (hh : r ∉ hostOps0_W) :
    Wc (Wb (V1 m)) c (Proc.devRef .tc r) = m ((c : Thread nD τ).loc r) := by
  rw [Wc_of _ _ r h4, Wb_of _ _ r h0 h1]
  exact V1_of m c r hh

theorem frame [∀ e, Nonempty (Elt F e)] : θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c =>
    ⟨(h.1 c _ (mem_uc main_arg0 (by decide))).trans (end_arg m c main_arg0 (by decide) (by decide) (by decide) (by decide)),
     (h.1 c _ (mem_uc main_arg1 (by decide))).trans (end_arg m c main_arg1 (by decide) (by decide) (by decide) (by decide))⟩, h.2⟩) (run_main m g)

end Cert.KernelIdeal.Ring

end
-- ==== Proof.Same.lean ====
/-
  The program as printed and its idealization are one text: with no operation rewritten, they are equal at every float
  instance, so what is proved of the one holds of the other.
-/
module

public import proofs.«01_k».proof.Defs
public import proofs.«01_k».proof.Proof.Gen.Kernel
public import proofs.«01_k».proof.Proof.Gen.KernelIdeal
public import proofs.«01_k».proof.Proof.KernelIdeal.Frame

@[expose] public section

noncomputable section

namespace Cert.Same

open Idealize.ShloMosaic Idealize.SL.Sem

variable {F : FTy → Type} [FloatOps F]

theorem sig_eq : Cert.Kernel.sig = Cert.KernelIdeal.sig := rfl
theorem main_eq : Cert.Kernel.main (F := F) = Cert.KernelIdeal.main (F := F) := rfl
theorem pcfgs_eq : (Cert.Kernel.pcfgs (F := F)) = Cert.KernelIdeal.pcfgs := by
  funext p
  match p with
  | 0 => rfl
  | 1 => rfl
theorem body1_eq : @Cert.Kernel.cc1_epi_body F _ _ = @Cert.KernelIdeal.cc1_epi_body F _ _ := rfl
theorem body0_eq : @Cert.Kernel.cc0_body F _ _ = @Cert.KernelIdeal.cc0_body F _ _ := rfl

theorem defs₀_eq : Cert.Kernel.defs₀ (F := F) = Cert.KernelIdeal.defs₀ := by
  unfold Cert.Kernel.defs₀ Cert.KernelIdeal.defs₀
  refine congrArg _ (funext fun l => funext fun ts => ?_)
  match l, ts with
  | 0, (t, s) => rfl
  | 1, (t, s) => rfl
theorem defs_eq : Cert.Kernel.defs (F := F) = Cert.KernelIdeal.defs := by
  show Pipeline.defs Cert.Kernel.pcfgs Cert.Kernel.defs₀ = Pipeline.defs Cert.KernelIdeal.pcfgs Cert.KernelIdeal.defs₀
  rw [defs₀_eq]; rfl

/-- The run of one text is the run of the other. -/
theorem run_eq (defs' : Defs Cert.KernelIdeal.nD Cert.KernelIdeal.τ Cert.KernelIdeal.sig (Elt F)
      (Pipeline.Sig Cert.KernelIdeal.Λ₀ (Fin 2) fun p => (Cert.KernelIdeal.pcfgs (F := F) p).Adm))
    (h : defs' = Cert.KernelIdeal.defs) (m : (ℓ : Loc Cert.KernelIdeal.nD Cert.KernelIdeal.τ Cert.KernelIdeal.sig) → Buf (Elt F) ℓ)
    (g : Dev Cert.KernelIdeal.nD → PrngReg) (Q : _ → Prop) (H : θ_run (Cert.KernelIdeal.defs (F := F)) (onTc (τ := Cert.KernelIdeal.τ) (Cert.KernelIdeal.main (F := F))) ⟨m, fun _ => 0, g⟩ Q) :
    θ_run defs' (onTc (τ := Cert.KernelIdeal.τ) (Cert.KernelIdeal.main (F := F))) ⟨m, fun _ => 0, g⟩ Q := by
  rw [h]; exact H

theorem kernel_frame : Cert.quiescent_Kernel := fun m g _ =>
  run_eq (F := Bits) Cert.Kernel.defs defs_eq m g _ (Cert.KernelIdeal.Ring.frame (F := Bits) m g)

end Cert.Same

end
-- ==== Proof.KernelIdeal.Tile.lean ====
/-
  The values the ring leaves in a tile of `y`, when floats are extended reals and operations exact: a tile
  of device `c` is the sum over the four devices of their block products, so the entries of the whole product.
-/
module

public import proofs.«01_k».proof.Proof.KernelIdeal.Sched
public import Idealize.ShloMosaic.Lib.MatmulPlain
public import Idealize.ShloMosaic.Lib.Pipeline.Value
public import Idealize.ShloMosaic.Lib.Pipeline.ValueKit.Geometry
public import Idealize.ShloMosaic.Lib.ValueIdx

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.ValueIdx
open scoped BigOperators

/-- A staged block, cast to a matrix, is the block. -/
theorem pay5_unsq (h : Fin 2) (z : Vec Ideal S1024x1024 .bf16) :
    k0_pay5 (F := Ideal) (unsq (vR h) squeezes_S1x1024x1024_S1024x1024 z) = z :=
  funext fun j => congrArg z (Equiv.symm_apply_apply _ j)

/-- One block product. -/
theorem pay6_apply (a : FVec Ideal S1024x1024 .bf16) (b : Vec Ideal S1024x1024 .bf16) (r l : Fin 1024) :
    k0_pay6 a b (ix2 r l) = ∑ k : Fin 1024, (a (ix2 r k) : EReal) * b (ix2 k l) := by
  unfold k0_pay6
  rw [shapeCast_self]
  show FloatOps.matmul (DotDims.plain 1024 1024 1024) none a b (constant (F := Ideal) S1024x1024 .f32 0x00000000#32) (ix2 r l) = _
  rw [Ideal.matmul_plain_apply]
  show Ideal.ofBits .f32 0x00000000#32 + _ = _
  rw [Ideal.ofBits_zero_f32, zero_add]

variable (X : Dev nD → (main_v1 : Ref sig .tc).ty.Contents (Elt Ideal)) (wv : Dev nD → Fin 8 → Vec Ideal S1024x1024 .bf16)

/-- A finished tile: four block products, one per device along the way. -/
theorem yv_sum (c : Dev nD) (t : Fin 8) (j : S1024x1024.Idx) :
    yv X wv c t j = (k0_pay6 (xs X c 3 t) (wv c t) j : EReal) + (k0_pay6 (xs X (frm c t) 2 t) (wv (frm c t) t) j
      + (k0_pay6 (xs X (frm (frm c t) t) 1 t) (wv (frm (frm c t) t) t) j
        + k0_pay6 (xs X (frm (frm (frm c t) t) t) 0 t) (wv (frm (frm (frm c t) t) t) t) j)) := by
  unfold yv acc2 acc1 acc0 k0_pay10 k0_pay9 k0_pay8 k0_pay7
  simp only [shapeCast_shapeCast]
  rfl

/-- Row `r` of the left operand. -/
theorem xs_apply (c : Dev nD) (s : Fin 4) (t : Fin 8) (r k : Fin 1024) (i : Fin 4096) (hi : i.val = 1024 * xrow c s (half t) + r.val) :
    xs X c s t (ix2 r k) = X c (ix2 i k) := by
  unfold xs xv
  rw [pay5_unsq]
  show X c ((xR c s (half t)).emb (ix2 r k)) = _
  refine congrArg (X c) (funext fun a => Fin.ext ?_)
  rw [ValueKit.rect_emb_unit_val]
  match a with
  | ⟨0, _⟩ => exact hi.symm
  | ⟨1, _⟩ => exact Nat.zero_add _

/-- Position `k` of block `c`, for four blocks of 1024 and eight blocks of 1024. -/
def at4 (c : Fin 4) (k : Fin 1024) : Fin 4096 := ⟨1024 * c.val + k.val, by omega⟩
def at8 (t : Fin 8) (k : Fin 1024) : Fin 8192 := ⟨1024 * t.val + k.val, by omega⟩

theorem at4_split (i : Fin 4096) : ∃ c k, i = at4 c k :=
  ⟨⟨i.val / 1024, by omega⟩, ⟨i.val % 1024, by omega⟩, Fin.ext (by unfold at4; show i.val = 1024 * (i.val / 1024) + i.val % 1024; omega)⟩
theorem at8_split (i : Fin 8192) : ∃ c k, i = at8 c k :=
  ⟨⟨i.val / 1024, by omega⟩, ⟨i.val % 1024, by omega⟩, Fin.ext (by unfold at8; show i.val = 1024 * (i.val / 1024) + i.val % 1024; omega)⟩

/-- The rows met on the way are the block row of the device the tile ends on. -/
theorem rows_met : ∀ (c : Fin 4) (t : Fin 8), xrow c 3 (half t) = c.val ∧ xrow (frm c t) 2 (half t) = c.val
    ∧ xrow (frm (frm c t) t) 1 (half t) = c.val ∧ xrow (frm (frm (frm c t) t) t) 0 (half t) = c.val := by decide

/-- The devices met on the way are all four. -/
theorem devs_met (p : Fin 4 → EReal) (c : Dev nD) (t : Fin 8) :
    p c + (p (frm c t) + (p (frm (frm c t) t) + p (frm (frm (frm c t) t) t))) = ∑ d : Fin 4, p d := by
  have hR : ∀ c : Fin 4, p c + (p (prv c) + (p (prv (prv c)) + p (prv (prv (prv c))))) = ∑ d : Fin 4, p d := by
    intro c; rw [Fin.sum_univ_four]
    match c with
    | 0 => show p 0 + (p 3 + (p 2 + p 1)) = _; ac_rfl
    | 1 => show p 1 + (p 0 + (p 3 + p 2)) = _; ac_rfl
    | 2 => show p 2 + (p 1 + (p 0 + p 3)) = _; ac_rfl
    | 3 => show p 3 + (p 2 + (p 1 + p 0)) = _; ac_rfl
  have hL : ∀ c : Fin 4, p c + (p (nxt c) + (p (nxt (nxt c)) + p (nxt (nxt (nxt c))))) = ∑ d : Fin 4, p d := by
    intro c; rw [Fin.sum_univ_four]
    match c with
    | 0 => show p 0 + (p 1 + (p 2 + p 3)) = _; ac_rfl
    | 1 => show p 1 + (p 2 + (p 3 + p 0)) = _; ac_rfl
    | 2 => show p 2 + (p 3 + (p 0 + p 1)) = _; ac_rfl
    | 3 => show p 3 + (p 0 + (p 1 + p 2)) = _; ac_rfl
  by_cases h : t.val < 4
  · have e : ∀ d, frm d t = prv d := fun d => if_pos h
    rw [e, e, e]; exact hR c
  · have e : ∀ d, frm d t = nxt d := fun d => if_neg h
    rw [e, e, e]; exact hL c

/-- The whole contraction is the sum of the four devices' parts. -/
theorem sum_blocks (f : Fin 4096 → EReal) : ∑ k : Fin 4096, f k = ∑ c : Fin 4, ∑ k : Fin 1024, f (at4 c k) := by
  rw [← Fintype.sum_prod_type']
  refine (Fintype.sum_equiv (finProdFinEquiv (m := 4) (n := 1024)) _ _ fun p => ?_).symm
  refine congrArg f (Fin.ext ?_)
  show 1024 * p.1.val + p.2.val = p.2.val + 1024 * p.1.val
  omega

variable (A : (⟨2, ![4096, 4096]⟩ : Shape).Idx → EReal) (B : (⟨2, ![4096, 8192]⟩ : Shape).Idx → EReal)

/-- The entry of the whole product. -/
def prod (i : (⟨2, ![4096, 8192]⟩ : Shape).Idx) : EReal := ∑ k : Fin 4096, A (ix2 (i 0 : Fin 4096) k) * B (ix2 k (i 1 : Fin 8192))

/-- What device `c` holds of the operands: a block of columns of the left one, a block of rows of the right one. -/
structure Holds : Prop where
  left : ∀ (c : Dev nD) (i : Fin 4096) (k : Fin 1024), X c (ix2 i k) = A (ix2 i (at4 c k))
  right : ∀ (c : Dev nD) (t : Fin 8) (k l : Fin 1024), wv c t (ix2 k l) = B (ix2 (at4 c k) (at8 t l))

variable {X wv A B} (H : Holds X wv A B)
include H

theorem part_apply (d : Dev nD) (s : Fin 4) (c : Dev nD) (t : Fin 8) (h : xrow d s (half t) = c.val) (r l : Fin 1024) :
    k0_pay6 (xs X d s t) (wv d t) (ix2 r l) = ∑ k : Fin 1024, A (ix2 (at4 c r) (at4 d k)) * B (ix2 (at4 d k) (at8 t l)) := by
  rw [pay6_apply]
  refine Finset.sum_congr rfl fun k _ => ?_
  rw [xs_apply X d s t r k (at4 c r) (by rw [h]; rfl), H.left, H.right]

/-- A finished tile holds the whole product's entries. -/
theorem yv_apply (c : Dev nD) (t : Fin 8) (r l : Fin 1024) : yv X wv c t (ix2 r l) = prod A B (ix2 (at4 c r) (at8 t l)) := by
  obtain ⟨h3, h2, h1, h0⟩ := rows_met c t
  rw [yv_sum, part_apply H _ _ c t h3, part_apply H _ _ c t h2, part_apply H _ _ c t h1, part_apply H _ _ c t h0,
    devs_met (fun d => ∑ k : Fin 1024, A (ix2 (at4 c r) (at4 d k)) * B (ix2 (at4 d k) (at8 t l)))]
  exact (sum_blocks fun k => A (ix2 (at4 c r) k) * B (ix2 k (at8 t l))).symm

end Cert.KernelIdeal.Ring

end
-- ==== Proof.KernelIdeal.Amax.lean ====
/-
  The scale, when floats are extended reals: the devices' running maxima, taken together, are the maximum of
  the absolute values of the whole product. Both are described by which numbers bound them from above.
-/
module

public import proofs.«01_k».proof.Proof.KernelIdeal.Tile

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.ValueIdx
open scoped BigOperators

theorem ofBits_bot : Ideal.ofBits .f32 0xFF800000#32 = ⊥ := by simp [Ideal.ofBits, Ideal.ieee]

/-- The maximum of a matrix, taken as the kernel takes it, is bounded by what bounds every entry. -/
theorem max_le_iff' {a b : ℕ} (v : (⟨2, ![a, b]⟩ : Shape).Idx → EReal) (x : EReal)
    (h : (⟨2, ![a, b]⟩ : Shape).ShapeCasts ⟨3, ![1, a, b]⟩) (hr : (⟨3, ![1, a, b]⟩ : Shape).Reduces [1, 2] S1)
    (hφ : FKind.Formats .f32) (hacc : (0xFF800000#32 : BitVec 32) = FKind.maximumf.neutral .f32 hφ) :
    (extractAt ![0, 0, 0] (shapeCast S1x1x1 (multiReduction (F := Ideal) (φ := .f32) .maximumf [1, 2] S1
      (shapeCast ⟨3, ![1, a, b]⟩ v h) 0xFF800000#32 hr hφ hacc) shapeCasts_S1_S1x1x1) inpos_S1x1x1_p0_0_0 : EReal) ≤ x
      ↔ ∀ j, v j ≤ x := by
  have hsub : ∀ i j : S1.Idx, i = j := fun i j => funext fun a => Fin.ext (by
    have h1 := (i a).isLt; have h2 := (j a).isLt
    have : S1.size a = 1 := by match a with | ⟨0, _⟩ => rfl
    omega)
  show multiReduction (F := Ideal) (φ := .f32) .maximumf [1, 2] S1
      (shapeCast ⟨3, ![1, a, b]⟩ v h) 0xFF800000#32 hr hφ hacc _ ≤ x ↔ _
  rw [multiReduction_maximumf_eq_fold, Finset.filter_true_of_mem fun i _ => hsub _ _]
  show Finset.fold max (Ideal.ofBits .f32 0xFF800000#32) _ _ ≤ x ↔ _
  rw [Finset.fold_max_le, ofBits_bot]
  constructor
  · intro hx j
    have := hx.2 ((Shape.reshapeEquiv h).symm j) (Finset.mem_univ _)
    exact le_of_eq_of_le (congrArg v (Equiv.apply_symm_apply _ j).symm) this
  · exact fun hx => ⟨bot_le, fun i _ => hx _⟩

/-- The absolute value of an extended real. -/
def mag (y : EReal) : EReal := max y (-y)
theorem mag_nonneg (y : EReal) : 0 ≤ mag y := by
  rcases le_total 0 y with h | h
  · exact le_max_of_le_left h
  · exact le_max_of_le_right (EReal.neg_nonneg.mpr h)

/-- One more tile. -/
theorem pay11_le (a : FVec Ideal S1024x1024 .bf16) (b : Vec Ideal S1024x1024 .bf16) (p : Vec Ideal S1x1x1024x1024 .bf16) (v x : EReal) :
    (k0_pay11 (F := Ideal) a b p v : EReal) ≤ x ↔ v ≤ x ∧ ∀ j, mag (k0_pay10 a b p j) ≤ x := by
  unfold k0_pay11
  show max v _ ≤ x ↔ _
  rw [max_le_iff]
  exact and_congr_right fun _ => max_le_iff' (a := 1024) (b := 1024) (fun j => mag (k0_pay10 a b p j)) x _ _ _ _

variable (X : Dev nD → (main_v1 : Ref sig .tc).ty.Contents (Elt Ideal)) (wv : Dev nD → Fin 8 → Vec Ideal S1024x1024 .bf16)

/-- The running maximum after `n` tiles. -/
theorem amx_le (c : Dev nD) (x : EReal) : ∀ n ≤ 8, ((amx X wv c n : EReal) ≤ x ↔ 0 ≤ x ∧ ∀ t : Fin 8, t.val < n → ∀ j, mag (yv X wv c t j) ≤ x)
  | 0, _ => by
    show Ideal.ofBits .f32 0x00000000#32 ≤ x ↔ _
    rw [Ideal.ofBits_zero_f32]
    exact ⟨fun h => ⟨h, fun t ht => absurd ht (Nat.not_lt_zero _)⟩, fun h => h.1⟩
  | n + 1, hn => by
    have hv : (Fin.ofNat 8 n).val = n := Nat.mod_eq_of_lt (by omega)
    show (k0_pay11 _ _ _ (amx X wv c n) : EReal) ≤ x ↔ _
    rw [pay11_le, amx_le c x n (by omega)]
    constructor
    · rintro ⟨⟨h0, h⟩, h'⟩
      refine ⟨h0, fun t ht j => ?_⟩
      by_cases e : t.val = n
      · have : t = Fin.ofNat 8 n := Fin.ext (e.trans hv.symm)
        rw [this]; exact h' j
      · exact h t (by omega) j
    · rintro ⟨h0, h⟩
      exact ⟨⟨h0, fun t ht => h t (by omega)⟩, h (Fin.ofNat 8 n) (by omega)⟩

/-- A landed block, cast to a matrix, is the block. -/
theorem cast_gv (o : Fin 3) (z : Vec Ideal S8x128 .f32) :
    shapeCast S8x128 (unsq (F := Ideal) (gR o) squeezes_S1x8x128_S8x128 z) shapeCasts_S1x8x128_S8x128 = z :=
  funext fun j => congrArg z (Equiv.symm_apply_apply _ j)

/-- The maximum of a landed block, as the kernel takes it. -/
def blockMax (z : FVec Ideal S8x128 .f32) : EReal :=
  extractAt ![0, 0, 0] (shapeCast S1x1x1 (multiReduction (F := Ideal) (φ := .f32) .maximumf [1, 2] S1
    (shapeCast S1x8x128 z shapeCasts_S8x128_S1x8x128) 0xFF800000#32 reduces_S1x8x128_S1 (.inl rfl) rfl) shapeCasts_S1_S1x1x1) inpos_S1x1x1_p0_0_0

/-- Of a block that is one number everywhere it is that number. -/
theorem blockMax_le (v x : EReal) : blockMax (k0_pay2 (F := Ideal) v) ≤ x ↔ v ≤ x := by
  refine (max_le_iff' (a := 8) (b := 128) (k0_pay2 (F := Ideal) v) x _ _ _ _).trans ?_
  exact ⟨fun H => H (ix2 (0 : Fin 8) (0 : Fin 128)), fun H _ => H⟩

/-- The largest of a number and three blocks. -/
def top4 (v : EReal) (z0 z1 z2 : FVec Ideal S8x128 .f32) : EReal := max (max (max v (blockMax z0)) (blockMax z1)) (blockMax z2)

theorem top4_le (v v0 v1 v2 x : EReal) :
    top4 v (k0_pay2 (F := Ideal) v0) (k0_pay2 (F := Ideal) v1) (k0_pay2 (F := Ideal) v2) ≤ x ↔ v ≤ x ∧ v0 ≤ x ∧ v1 ≤ x ∧ v2 ≤ x := by
  unfold top4
  rw [max_le_iff, max_le_iff, max_le_iff, blockMax_le, blockMax_le, blockMax_le, and_assoc, and_assoc]

/-- The scale the kernel makes of them. -/
theorem scale_eq (v : EReal) (z0 z1 z2 : Vec Ideal S8x128 .f32) (j : S1x1.Idx) :
    k0_pay1 (F := Ideal) (k0_pay3 (F := Ideal) v (unsq (F := Ideal) (gR 0) squeezes_S1x8x128_S8x128 z0))
      (k0_pay4 (F := Ideal) (unsq (F := Ideal) (gR 1) squeezes_S1x8x128_S8x128 z1)) (unsq (F := Ideal) (gR 2) squeezes_S1x8x128_S8x128 z2) j
      = Ideal.div (top4 v z0 z1 z2) (Ideal.ofBits .f32 0x42FE0000#32) := by
  unfold k0_pay1 k0_pay3 k0_pay4
  rw [cast_gv, cast_gv, cast_gv]
  rfl

/-- The largest of the devices' maxima, as device `c` takes it. -/
def gmax (c : Dev nD) : EReal := top4 (amx X wv c 8) (av X wv (gfrm c 0)) (av X wv (gfrm c 1)) (av X wv (gfrm c 2))

theorem gmax_le (c : Dev nD) (x : EReal) : gmax X wv c ≤ x ↔ ∀ d : Dev nD, (amx X wv d 8 : EReal) ≤ x := by
  have hd : ∀ c d : Dev nD, d = c ∨ d = gfrm c 0 ∨ d = gfrm c 1 ∨ d = gfrm c 2 := by decide
  unfold gmax av
  generalize amx X wv = f
  refine (top4_le (f c 8) (f (gfrm c 0) 8) (f (gfrm c 1) 8) (f (gfrm c 2) 8) x).trans ?_
  constructor
  · rintro ⟨h0, h1, h2, h3⟩ d
    rcases hd c d with e | e | e | e <;> rw [e] <;> assumption
  · exact fun h => ⟨h _, h _, h _, h _⟩

/-- The scale is that over 127. -/
theorem scl_eq (c : Dev nD) (j : S1x1.Idx) : scl X wv c j = Ideal.div (gmax X wv c) (Ideal.ofBits .f32 0x42FE0000#32) := by
  unfold scl gv gmax
  generalize amx X wv c 8 = v
  generalize av X wv = z
  exact scale_eq v _ _ _ j

end Cert.KernelIdeal.Ring

end
-- ==== Proof.KernelIdeal.Ends.lean ====
/-
  The arrays at the end of the two calls, when floats are extended reals: `y` holds a block of rows of the whole
  product, the scale is its largest magnitude over 127, and the result is what the quantisation makes of the two.
-/
module

public import proofs.«01_k».proof.Proof.KernelIdeal.Amax
public import proofs.«01_k».proof.Proof.KernelIdeal.Regs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Ix (Elt F) ℕ UU ℕ

open Idealize.ShloMosaic.ValueIdx
open Idealize.ShloMosaic.Pipeline (Dat)

variable (V : Vals Ideal) (c : Dev nD)

theorem ix_w : ∀ t : Fin cfg0.N, win0_0.index t = ![0, t.val % 8] := (by decide +kernel : ∀ t : Fin grid0.N, _)
theorem ix_y : ∀ t : Fin cfg0.N, win0_1.index t = ![0, t.val % 8] := (by decide +kernel : ∀ t : Fin grid0.N, _)
theorem ix_yin : ∀ t : Fin cfg1.N, win1_0.index t = ![0, t.val] := (by decide +kernel : ∀ t : Fin grid1.N, _)
theorem ix_s : ∀ t : Fin cfg1.N, win1_1.index t = ![0, 0] := (by decide +kernel : ∀ t : Fin grid1.N, _)
theorem ix_out : ∀ t : Fin cfg1.N, win1_2.index t = ![0, t.val] := (by decide +kernel : ∀ t : Fin grid1.N, _)
theorem covers4 : (cfg1.win 2).Covers := by decide +kernel

/-- Column block `t` of the right operand. -/
theorem Wv_apply (t : Fin 8) (k l : Fin 1024) : Wv V c t (ix2 k l) = V c main_v2 (ix2 k (at8 t l)) := by
  unfold Wv
  refine congrArg (V c main_v2) ?_
  have e := ix_w (pt t)
  funext a; apply Fin.ext
  match a with
  | ⟨0, _⟩ => blk_simp [e]
  | ⟨1, _⟩ => blk_simp [e]; show t.val % 8 * 1024 + l.val = 1024 * t.val + l.val; omega

variable {A : (⟨2, ![4096, 4096]⟩ : Shape).Idx → EReal} {B : (⟨2, ![4096, 8192]⟩ : Shape).Idx → EReal}

/-- Device `c`'s block of rows of the whole product. -/
def rows (A : (⟨2, ![4096, 4096]⟩ : Shape).Idx → EReal) (B : (⟨2, ![4096, 8192]⟩ : Shape).Idx → EReal) (c : Dev nD) :
    S1024x8192.Idx → EReal := fun i => prod A B (ix2 (at4 c (i 0)) (i 1 : Fin 8192))

/-- Any entry of a finished tile. -/
theorem yv_at {X wv} (H : Holds X wv A B) (c : Dev nD) (t : Fin 8) (j : S1024x1024.Idx) :
    yv X wv c t j = prod A B (ix2 (at4 c (j 0)) (at8 t (j 1))) := by
  obtain ⟨r, l, rfl⟩ : ∃ r l : Fin 1024, j = ix2 r l := ⟨j 0, j 1, eq_ix2 j⟩
  exact yv_apply H c t r l

/-- `y` after the first call. -/
theorem y_end (H : Holds (Xv V) (Wv V) A B) : (dat0 V c).arrAt 1 cfg0.N = rows A B c := by
  refine (dat0 V c).arrAt_eq_of_covers 1 _ covers1 fun t _ y => ?_
  have e := ix_y t
  refine (yv_at H c (colOf t) y).trans ?_
  unfold rows
  have h0 : ((((cfg0.win 1).blk t).view.emb y 0 : Fin _) : ℕ) = (y 0).val := by blk_simp [e]
  have h1 : ((((cfg0.win 1).blk t).view.emb y 1 : Fin _) : ℕ) = t.val % 8 * 1024 + (y 1).val := by blk_simp [e]
  refine congrArg (prod A B) (funext fun a => Fin.ext ?_)
  match a with
  | ⟨0, _⟩ => exact (congrArg (1024 * c.val + ·) h0).symm
  | ⟨1, _⟩ =>
    refine Eq.trans ?_ h1.symm
    show 1024 * (colOf t).val + (y 1).val = _
    rw [colOf_val]; omega

/-- The scale after the first call. -/
theorem s_end : (dat0 V c).arrAt 2 cfg0.N = scl (Xv V) (Wv V) c := by
  refine (dat0 V c).arrAt_eq_of_after_last 2 _ whole2 _ (fun j => ?_) (arr_whole0 2)
  rfl

/-- One entry of the quantised result. -/
def quant (s y : EReal) : EReal :=
  min (Ideal.ofBits .f32 0x42FE0000#32) (max (Ideal.ofBits .f32 0xC2FE0000#32) (Ideal.liftRound Ideal.roundHalfEven (Ideal.div y s))) * s

theorem pay1_apply (s : Vec Ideal S1x1 .f32) (y : Vec Ideal S1024x1024 .f32) (g : EReal) (hs : ∀ i, s i = g) (j : S1024x1024.Idx) :
    k1_pay1 (F := Ideal) s y j = quant g (y j) := by
  have e : s = fun _ => g := funext hs
  unfold k1_pay1
  rw [shapeCast_self, shapeCast_self, e]
  rfl

variable (W : Dev nD → Valuation τ sig (Elt Ideal))

/-- The result after the second call. -/
theorem out_end (H : Holds (Xv (Va W)) (Wv (Va W)) A B) (s : EReal) (hs : ∀ j, scl (Xv (Va W)) (Wv (Va W)) c j = s) :
    Wc (Wb W) c (Proc.devRef .tc main_v4) = fun i : S1024x8192.Idx => quant s (rows A B c i) := by
  rw [Wc_4]
  refine (dat1 (Va (Wb W)) c).arrAt_eq_of_covers 2 _ covers4 fun t _ y => ?_
  have hy : Va (Wb W) c main_v3_0 = rows A B c := (Wb_0 W c).trans (y_end (Va W) c H)
  have hsc : Va (Wb W) c main_v3_1 = scl (Xv (Va W)) (Wv (Va W)) c := (Wb_1 W c).trans (s_end (Va W) c)
  refine (pay1_apply (Sb (Va (Wb W)) c t) (Yb (Va (Wb W)) c t) s (fun i => ?_) y).trans ?_
  · unfold Sb; rw [hsc]; exact hs (((cfg1.win 1).blk t).view.emb i)
  · unfold Yb; rw [hy]
    refine congrArg (fun i => quant s (rows A B c i)) (funext fun a => Fin.ext ?_)
    have e := ix_yin t
    have e' := ix_out t
    match a with
    | ⟨0, _⟩ => blk_simp [e, e']
    | ⟨1, _⟩ => blk_simp [e, e']

end Cert.KernelIdeal.Ring

end
-- ==== Proof.RefEntries.lean ====
/-
  The reference's result, entry by entry, when floats are extended reals: the quantisation of the whole product's
  entry by the largest magnitude over 127.
-/
module

public import proofs.«01_k».proof.Proof.Gen.ReferenceIdeal.Run
public import proofs.«01_k».proof.Proof.KernelIdeal.Ends

@[expose] public section

noncomputable section

namespace Cert.ReferenceIdeal.Entries

open Cert.ReferenceIdeal Cert.ReferenceIdeal.Gen
open Idealize.ShloMosaic
open Idealize.ShloMosaic.ValueIdx
open Cert.KernelIdeal.Ring (prod quant mag mag_nonneg ofBits_bot)
open scoped BigOperators

variable (a : FVec Ideal S4096x4096 .f32) (b : FVec Ideal S4096x8192 .f32)

/-- The reference's result, as its run leaves it. -/
def out : FVec Ideal S4096x8192 .f32 :=
  mulf (minimumf (broadcastInDim S4096x8192 ![] bcast_S_S4096x8192 (id (constant S_ .f32 0x42FE0000#32))) (maximumf (broadcastInDim S4096x8192 ![] bcast_S_S4096x8192 (id (constant S_ .f32 0xC2FE0000#32))) (Host.roundeven (Host.divf (Host.dotGeneral dot_S4096x4096_S4096x8192_S4096x8192_1_0_0_1_n_n none a b) (broadcastInDim S4096x8192 ![] bcast_S_S4096x8192 (Host.divf (Host.reduce FloatOps.maximumf (Host.absf (Host.dotGeneral dot_S4096x4096_S4096x8192_S4096x8192_1_0_0_1_n_n none a b)) (constant S_ .f32 0xFF800000#32) reducesTo_S4096x8192_S_d0_1 h_S_) (constant S_ .f32 0x42FE0000#32))))))) (broadcastInDim S4096x8192 ![] bcast_S_S4096x8192 (Host.divf (Host.reduce FloatOps.maximumf (Host.absf (Host.dotGeneral dot_S4096x4096_S4096x8192_S4096x8192_1_0_0_1_n_n none a b)) (constant S_ .f32 0xFF800000#32) reducesTo_S4096x8192_S_d0_1 h_S_) (constant S_ .f32 0x42FE0000#32)))

/-- The largest magnitude of the product, as the reference takes it. -/
def amax : EReal :=
  (Host.reduce FloatOps.maximumf (Host.absf (Host.dotGeneral dot_S4096x4096_S4096x8192_S4096x8192_1_0_0_1_n_n none a b)) (constant (F := Ideal) S_ .f32 0xFF800000#32) reducesTo_S4096x8192_S_d0_1 h_S_ : FVec Ideal S_ .f32) ix0

theorem dot_apply (i : S4096x8192.Idx) :
    Host.dotGeneral dot_S4096x4096_S4096x8192_S4096x8192_1_0_0_1_n_n none a b i = prod a b i := by
  obtain ⟨r, l, rfl⟩ : ∃ (r : Fin 4096) (l : Fin 8192), i = ix2 r l := ⟨i 0, i 1, eq_ix2 i⟩
  show FloatOps.matmul (DotDims.plain 4096 4096 8192) none a b (fun _ => (0 : EReal)) (ix2 r l) = _
  rw [Ideal.matmul_plain_apply, zero_add]
  rfl

/-- What bounds it. -/
theorem amax_le (x : EReal) : amax a b ≤ x ↔ ∀ i : S4096x8192.Idx, mag (prod a b i) ≤ x := by
  unfold amax
  rw [Host.reduce_eq_fold, Finset.filter_true_of_mem fun i _ => funext fun a => a.elim0]
  show Finset.fold max (Ideal.ofBits .f32 0xFF800000#32) _ _ ≤ x ↔ _
  rw [Finset.fold_max_le, ofBits_bot]
  have e : ∀ i : S4096x8192.Idx, Host.absf (Host.dotGeneral dot_S4096x4096_S4096x8192_S4096x8192_1_0_0_1_n_n none a b) i = mag (prod a b i) :=
    fun i => congrArg mag (dot_apply a b i)
  exact ⟨fun h i => le_of_eq_of_le (e i).symm (h.2 i (Finset.mem_univ _)), fun h => ⟨bot_le, fun i _ => le_of_eq_of_le (e i) (h i)⟩⟩

/-- An entry of the result, over any product and any largest magnitude. -/
theorem entry (d : FVec Ideal S4096x8192 .f32) (s : FVec Ideal S_ .f32) (i : S4096x8192.Idx) :
    (mulf (minimumf (broadcastInDim S4096x8192 ![] bcast_S_S4096x8192 (id (constant S_ .f32 0x42FE0000#32))) (maximumf (broadcastInDim S4096x8192 ![] bcast_S_S4096x8192 (id (constant S_ .f32 0xC2FE0000#32))) (Host.roundeven (Host.divf d (broadcastInDim S4096x8192 ![] bcast_S_S4096x8192 (Host.divf s (constant S_ .f32 0x42FE0000#32))))))) (broadcastInDim S4096x8192 ![] bcast_S_S4096x8192 (Host.divf s (constant S_ .f32 0x42FE0000#32))) : FVec Ideal S4096x8192 .f32) i
      = quant (Ideal.div (s ix0) (Ideal.ofBits .f32 0x42FE0000#32)) (d i) := by
  have e : s = fun _ => s ix0 := funext fun j => congrArg s (eq_ix0 j)
  rw [e]
  rfl

theorem out_apply (i : S4096x8192.Idx) : out a b i = quant (Ideal.div (amax a b) (Ideal.ofBits .f32 0x42FE0000#32)) (prod a b i) := by
  unfold out
  rw [entry, dot_apply]
  rfl

end Cert.ReferenceIdeal.Entries

end
-- ==== Proof.Agree.lean ====
/-
  The value claim: when floats are extended reals every device ends with its block of rows of the reference's result.
-/
module

public import proofs.«01_k».proof.Defs
public import proofs.«01_k».proof.Proof.RefEntries
public import proofs.«01_k».proof.Proof.KernelIdeal.Frame

@[expose] public section

noncomputable section

namespace Cert.Agree

open Cert.KernelIdeal Cert.KernelIdeal.Gen Cert.KernelIdeal.Ring
open Idealize.ShloMosaic Idealize.ShloMosaic.TcCoe
open Idealize.ShloMosaic.ValueIdx
open Idealize.SL.Sem

/-- The devices' largest maximum is the reference's. -/
theorem gmax_eq {X wv A B} (H : Holds X wv A B) (c : Dev nD) : gmax X wv c = Cert.ReferenceIdeal.Entries.amax A B := by
  refine eq_of_forall_ge_iff fun x => ?_
  rw [gmax_le, Cert.ReferenceIdeal.Entries.amax_le]
  constructor
  · intro h i
    obtain ⟨d, r, hr⟩ := at4_split (i 0)
    obtain ⟨t, l, hl⟩ := at8_split (i 1)
    have e : i = ix2 (at4 d r) (at8 t l) := (eq_ix2 i).trans (congrArg₂ ix2 hr hl)
    have := ((amx_le X wv d x 8 le_rfl).mp (h d)).2 t t.isLt (ix2 r l)
    rw [yv_apply H] at this
    rw [e]; exact this
  · intro h d
    refine (amx_le X wv d x 8 le_rfl).mpr ⟨(mag_nonneg _).trans (h (ix2 (0 : Fin 4096) (0 : Fin 8192))), fun t _ j => ?_⟩
    rw [yv_at H]
    exact h _

variable (m : (ℓ : Loc nD τ sig) → Buf (Elt Ideal) ℓ) (g : Dev nD → PrngReg)
  (A : (⟨2, ![4096, 4096]⟩ : Shape).Idx → EReal) (B : (⟨2, ![4096, 8192]⟩ : Shape).Idx → EReal)

/-- The operands as the first call finds them: the arguments, their format changed. -/
theorem x_start (c : Dev nD) (i : S4096x1024.Idx) :
    (Va (V1 m) c main_v1 : S4096x1024.Idx → EReal) i = (m ((c : Thread nD τ).loc main_arg0) : S4096x1024.Idx → EReal) i := by
  have e : V1 m c (Proc.devRef .tc main_v1) = (truncf .bf16 (m ((c : Thread nD τ).loc main_arg0)) bitsLt_bf16_f32 : FVec Ideal S4096x1024 .bf16) := by
    simp only [V1, hostOps0]; after_results
  exact congrFun e i
theorem w_start (c : Dev nD) (i : S1024x8192.Idx) :
    (Va (V1 m) c main_v2 : S1024x8192.Idx → EReal) i = (m ((c : Thread nD τ).loc main_arg1) : S1024x8192.Idx → EReal) i := by
  have e : V1 m c (Proc.devRef .tc main_v2) = (truncf .bf16 (m ((c : Thread nD τ).loc main_arg1)) bitsLt_bf16_f32 : FVec Ideal S1024x8192 .bf16) := by
    simp only [V1, hostOps0]; after_results
  exact congrFun e i

variable (h : ∀ c : Dev nD,
  m ((c.tc : Thread nD τ).loc main_arg0) = Layout.block ⟨2, ![4096, 1024]⟩ ⟨2, ![4096, 4096]⟩ 1 4 c A
  ∧ m ((c.tc : Thread nD τ).loc main_arg1) = Layout.block ⟨2, ![1024, 8192]⟩ ⟨2, ![4096, 8192]⟩ 0 4 c B)
include h

/-- The devices hold their blocks of the operands. -/
theorem holds : Holds (Xv (Va (V1 m))) (Wv (Va (V1 m))) A B where
  left c i k := by
    refine (x_start m c (ix2 i k)).trans ((congrFun (h c).1 (ix2 i k)).trans (congrArg A (funext fun a => Fin.ext ?_)))
    match a with
    | ⟨0, _⟩ => rfl
    | ⟨1, _⟩ => show c.val * 1024 + k.val = 1024 * c.val + k.val; omega
  right c t k l := by
    rw [Wv_apply]
    refine (w_start m c (ix2 k (at8 t l))).trans ((congrFun (h c).2 (ix2 k (at8 t l))).trans (congrArg B (funext fun a => Fin.ext ?_)))
    match a with
    | ⟨0, _⟩ => show c.val * 1024 + k.val = 1024 * c.val + k.val; omega
    | ⟨1, _⟩ => rfl

/-- What device `c` ends with. -/
theorem result (c : Dev nD) : Wc (Wb (V1 m)) c (Proc.devRef .tc main_v4)
    = Layout.block ⟨2, ![1024, 8192]⟩ ⟨2, ![4096, 8192]⟩ 0 4 c (Cert.ReferenceIdeal.Entries.out A B) := by
  have H := holds m A B h
  refine (out_end c (V1 m) H _ (scl_eq _ _ c)).trans (funext fun i => ?_)
  rw [gmax_eq H]
  rw [Layout.block_apply, Cert.ReferenceIdeal.Entries.out_apply]
  have e : (ix2 (at4 c (i 0)) (i 1 : Fin 8192) : (⟨2, ![4096, 8192]⟩ : Shape).Idx)
      = (show Layout.Tiles ⟨2, ![1024, 8192]⟩ ⟨2, ![4096, 8192]⟩ 0 4 by decide).idx c i := funext fun a => Fin.ext (by
    match a with
    | ⟨0, _⟩ => show 1024 * c.val + (i 0).val = c.val * 1024 + (i 0).val; omega
    | ⟨1, _⟩ => rfl)
  show quant _ (prod A B (ix2 (at4 c (i 0)) (i 1 : Fin 8192))) = _
  rw [e]

omit h in
theorem algebraic : Cert.algebraic_KernelIdeal_ReferenceIdeal := fun m g m' g' _ h =>
  ⟨_, (θ_run _ _ _).mono (fun r hr c =>
      ⟨(hr.1 c _ (mem_uc main_v4 (by decide))).trans (result m _ _ h c),
       (hr.1 c _ (mem_uc main_arg0 (by decide))).trans (end_arg m c main_arg0 (by decide) (by decide) (by decide) (by decide)),
       (hr.1 c _ (mem_uc main_arg1 (by decide))).trans (end_arg m c main_arg1 (by decide) (by decide) (by decide) (by decide))⟩) (run_main m g),
    (θ_run _ _ _).mono (fun r hr => hr 0) (Cert.ReferenceIdeal.Value.run m' g')⟩

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelIdeal.Frame
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem Cert.Kernel

theorem reference_frame : Cert.quiescent_ReferenceIdeal := fun m g _ =>
  (θ_run _ _ _).mono (fun r h => ⟨fun c => ⟨(h c).2.1, (h c).2.2⟩, sem_eq_zero_of_no_sems (by decide) r.2⟩) (Cert.ReferenceIdeal.Value.run m g)

theorem claim : Cert.Claim := ⟨Cert.Kernel.Gen.facts, Cert.KernelIdeal.Gen.facts, Cert.ReferenceIdeal.Gen.facts,
  Cert.Same.kernel_frame, fun m g _ => Cert.KernelIdeal.Ring.frame m g, reference_frame, trivial, Cert.Agree.algebraic⟩

end Cert.Proof

end
